-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "sm_log2e" .f32 0x3E38AA3B#32 (((1 / 8) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19_0) = v0 c
          ∧ r.2.mem ((c.tc : Thread Cert.ReferenceIdeal.nD Cert.ReferenceIdeal.τ).loc Cert.ReferenceIdeal.main_v19_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x45x64 : Shape := ⟨4, ![2, 1024, 45, 64]⟩
abbrev S2x1024x45 : Shape := ⟨3, ![2, 1024, 45]⟩
abbrev S2x45x64 : Shape := ⟨3, ![2, 45, 64]⟩
abbrev S2x45x64x1024 : Shape := ⟨4, ![2, 45, 64, 1024]⟩
abbrev S45x2x1024 : Shape := ⟨3, ![45, 2, 1024]⟩
abbrev S45x2x64 : Shape := ⟨3, ![45, 2, 64]⟩
abbrev S2x2880x1024 : Shape := ⟨3, ![2, 2880, 1024]⟩
abbrev S2x1024 : Shape := ⟨2, ![2, 1024]⟩
abbrev S2x1x64x1024 : Shape := ⟨4, ![2, 1, 64, 1024]⟩
abbrev S1x2x1024 : Shape := ⟨3, ![1, 2, 1024]⟩
abbrev S1x2x64 : Shape := ⟨3, ![1, 2, 64]⟩
abbrev S2x64x1024 : Shape := ⟨3, ![2, 64, 1024]⟩
abbrev S16x1024x128 : Shape := ⟨3, ![16, 1024, 128]⟩
abbrev S1024x128 : Shape := ⟨2, ![1024, 128]⟩
abbrev S2x2x1024x128 : Shape := ⟨4, ![2, 2, 1024, 128]⟩
abbrev S2x1024x256 : Shape := ⟨3, ![2, 1024, 256]⟩
abbrev S256x256 : Shape := ⟨2, ![256, 256]⟩
abbrev S1x1x64x256 : Shape := ⟨4, ![1, 1, 64, 256]⟩
abbrev S64x256 : Shape := ⟨2, ![64, 256]⟩
abbrev S128x256 : Shape := ⟨2, ![128, 256]⟩
abbrev S256x128 : Shape := ⟨2, ![256, 128]⟩
abbrev S1x1x128 : Shape := ⟨3, ![1, 1, 128]⟩
abbrev S1x128 : Shape := ⟨2, ![1, 128]⟩
abbrev S64x128 : Shape := ⟨2, ![64, 128]⟩
abbrev S128x128 : Shape := ⟨2, ![128, 128]⟩
abbrev S1x1x64x128 : Shape := ⟨4, ![1, 1, 64, 128]⟩
abbrev S1x64x128 : Shape := ⟨3, ![1, 64, 128]⟩
abbrev S1x1x64x1024 : Shape := ⟨4, ![1, 1, 64, 1024]⟩
abbrev S64x1024 : Shape := ⟨2, ![64, 1024]⟩
abbrev S128x1024 : Shape := ⟨2, ![128, 1024]⟩
abbrev S1x1x64 : Shape := ⟨3, ![1, 1, 64]⟩
abbrev S1x64 : Shape := ⟨2, ![1, 64]⟩
abbrev S128x64 : Shape := ⟨2, ![128, 64]⟩
abbrev S8x128 : Shape := ⟨2, ![8, 128]⟩
abbrev S32x128 : Shape := ⟨2, ![32, 128]⟩
abbrev S1x32x128 : Shape := ⟨3, ![1, 32, 128]⟩
abbrev S1x2x1024x128 : Shape := ⟨4, ![1, 2, 1024, 128]⟩
abbrev S2x1024x128 : Shape := ⟨3, ![2, 1024, 128]⟩
abbrev S128 : Shape := ⟨1, ![128]⟩
abbrev S1x1024x256 : Shape := ⟨3, ![1, 1024, 256]⟩
abbrev S1024x256 : Shape := ⟨2, ![1024, 256]⟩
abbrev S128x384 : Shape := ⟨2, ![128, 384]⟩
abbrev S384x256 : Shape := ⟨2, ![384, 256]⟩
abbrev S128x512 : Shape := ⟨2, ![128, 512]⟩
abbrev S512x256 : Shape := ⟨2, ![512, 256]⟩
abbrev S128x640 : Shape := ⟨2, ![128, 640]⟩
abbrev S640x256 : Shape := ⟨2, ![640, 256]⟩
abbrev S128x768 : Shape := ⟨2, ![128, 768]⟩
abbrev S768x256 : Shape := ⟨2, ![768, 256]⟩
abbrev S128x896 : Shape := ⟨2, ![128, 896]⟩
abbrev S896x256 : Shape := ⟨2, ![896, 256]⟩

abbrev nBuf : Space → Nat
  | .hbm => 14
  | .vmem => 22
  | .smem => 0
  | _ => 0

abbrev bufTy : (tb : Table) → Fin (tcTables nBuf tb) → BufTy
  | .hbm, ⟨0, _⟩ => ⟨S2x1024x45x64, .fp8e4m3⟩
  | .hbm, ⟨1, _⟩ => ⟨S2x1024x45, .f32⟩
  | .hbm, ⟨2, _⟩ => ⟨S2x1024x45x64, .fp8e4m3⟩
  | .hbm, ⟨3, _⟩ => ⟨S2x1024x45, .f32⟩
  | .hbm, ⟨4, _⟩ => ⟨S2x1024x45x64, .fp8e4m3⟩
  | .hbm, ⟨5, _⟩ => ⟨S2x45x64, .f32⟩
  | .hbm, ⟨6, _⟩ => ⟨S2x45x64x1024, .fp8e4m3⟩
  | .hbm, ⟨7, _⟩ => ⟨S2x45x64x1024, .fp8e4m3⟩
  | .hbm, ⟨8, _⟩ => ⟨S2x45x64x1024, .fp8e4m3⟩
  | .hbm, ⟨9, _⟩ => ⟨S45x2x1024, .f32⟩
  | .hbm, ⟨10, _⟩ => ⟨S45x2x1024, .f32⟩
  | .hbm, ⟨11, _⟩ => ⟨S45x2x64, .f32⟩
  | .hbm, ⟨12, _⟩ => ⟨S2x2880x1024, .bf16⟩
  | .hbm, ⟨13, _⟩ => ⟨S2x1024, .f32⟩
  | .local _ .vmem, ⟨0, _⟩ => ⟨S2x1x64x1024, .fp8e4m3⟩
  | .local _ .vmem, ⟨1, _⟩ => ⟨S2x1x64x1024, .fp8e4m3⟩
  | .local _ .vmem, ⟨2, _⟩ => ⟨S2x1x64x1024, .fp8e4m3⟩
  | .local _ .vmem, ⟨3, _⟩ => ⟨S2x1x64x1024, .fp8e4m3⟩
  | .local _ .vmem, ⟨4, _⟩ => ⟨S2x1x64x1024, .fp8e4m3⟩
  | .local _ .vmem, ⟨5, _⟩ => ⟨S2x1x64x1024, .fp8e4m3⟩
  | .local _ .vmem, ⟨6, _⟩ => ⟨S1x2x1024, .f32⟩
  | .local _ .vmem, ⟨7, _⟩ => ⟨S1x2x1024, .f32⟩
  | .local _ .vmem, ⟨8, _⟩ => ⟨S1x2x1024, .f32⟩
  | .local _ .vmem, ⟨9, _⟩ => ⟨S1x2x1024, .f32⟩
  | .local _ .vmem, ⟨10, _⟩ => ⟨S1x2x64, .f32⟩
  | .local _ .vmem, ⟨11, _⟩ => ⟨S1x2x64, .f32⟩
  | .local _ .vmem, ⟨12, _⟩ => ⟨S2x64x1024, .bf16⟩
  | .local _ .vmem, ⟨13, _⟩ => ⟨S2x64x1024, .bf16⟩
  | .local _ .vmem, ⟨14, _⟩ => ⟨S2x1024, .f32⟩
  | .local _ .vmem, ⟨15, _⟩ => ⟨S16x1024x128, .f32⟩
  | .local _ .vmem, ⟨16, _⟩ => ⟨S1024x128, .fp8e4m3⟩
  | .local _ .vmem, ⟨17, _⟩ => ⟨S1024x128, .f32⟩
  | .local _ .vmem, ⟨18, _⟩ => ⟨S1024x128, .f32⟩
  | .local _ .vmem, ⟨19, _⟩ => ⟨S2x2x1024x128, .f32⟩
  | .local _ .vmem, ⟨20, _⟩ => ⟨S2x1024x256, .fp8e4m3⟩
  | .local _ .vmem, ⟨21, _⟩ => ⟨S256x256, .fp8e4m3⟩
  | _, _ => ⟨S2x1024x45x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![45], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v151 : BitVec 32 := Scalar.extui v0
  let c0_i32_107 : BitVec 32 := 0#32
  let v152 : BitVec 1 := Scalar.cmpi .ne v151 c0_i32_107
  v152

def k0_off1 : Fin 2 → Nat :=
  let c0_i32_11293 : BitVec 32 := 0#32
  let c64_i32_11294 : BitVec 32 := 64#32
  let v16952 : BitVec 32 := Scalar.muli c0_i32_11293 c64_i32_11294
  let v16953 : Index := Scalar.indexCast v16952
  let c0_11295 : Index := 0#32
  ![v16953.toNat, 0]
def k0_off2 : Fin 3 → Nat :=
  let c0_11313 : Index := 0#32
  let c0_i32_11293 : BitVec 32 := 0#32
  let c64_i32_11294 : BitVec 32 := 64#32
  let v16952 : BitVec 32 := Scalar.muli c0_i32_11293 c64_i32_11294
  let v17002 : Index := Scalar.indexCast v16952
  let c0_11314 : Index := 0#32
  ![0, v17002.toNat, 0]
@[reducible] def k0_t1_loop : Scf.Loop 32 :=
  let c0_i32_11319 : BitVec 32 := 0#32
  let c2_i32_11320 : BitVec 32 := 2#32
  let v17017 : BitVec 32 := Scalar.addi c0_i32_11319 c2_i32_11320
  let c1_i32_11321 : BitVec 32 := 1#32
  ⟨c0_i32_11319, v17017, c1_i32_11321⟩
def k0_off3 (k0_t1 : Fin k0_t1_loop.trips) : Fin 2 → Nat :=
  let c0_i32_11319 : BitVec 32 := 0#32
  let c1_i32_11321 : BitVec 32 := 1#32
  let arg16 : BitVec 32 := Scf.iv c0_i32_11319 c1_i32_11321 k0_t1
  let c64_i32_11577 : BitVec 32 := 64#32
  let v17339 : BitVec 32 := Scalar.muli arg16 c64_i32_11577
  let v17340 : Index := Scalar.indexCast v17339
  let c0_11578 : Index := 0#32
  ![v17340.toNat, 0]
def k0_off4 (k0_t1 : Fin k0_t1_loop.trips) : Fin 3 → Nat :=
  let c1_11596 : Index := 1#32
  let c0_i32_11319 : BitVec 32 := 0#32
  let c1_i32_11321 : BitVec 32 := 1#32
  let arg16 : BitVec 32 := Scf.iv c0_i32_11319 c1_i32_11321 k0_t1
  let c64_i32_11577 : BitVec 32 := 64#32
  let v17339 : BitVec 32 := Scalar.muli arg16 c64_i32_11577
  let v17389 : Index := Scalar.indexCast v17339
  let c0_11597 : Index := 0#32
  ![1, v17389.toNat, 0]
@[reducible] def k0_t2_loop : Scf.Loop 32 :=
  let c0_i32_11345 : BitVec 32 := 0#32
  let c3_i32 : BitVec 32 := 3#32
  let v17052 : BitVec 32 := Scalar.addi c0_i32_11345 c3_i32
  let c1_i32_11346 : BitVec 32 := 1#32
  ⟨c0_i32_11345, v17052, c1_i32_11346⟩
def k0_off5 (k0_t2 : Fin k0_t2_loop.trips) : Fin 2 → Nat :=
  let c0_i32_11345 : BitVec 32 := 0#32
  let c1_i32_11346 : BitVec 32 := 1#32
  let arg16 : BitVec 32 := Scf.iv c0_i32_11345 c1_i32_11346 k0_t2
  let c64_i32_11577 : BitVec 32 := 64#32
  let v17339 : BitVec 32 := Scalar.muli arg16 c64_i32_11577
  let v17340 : Index := Scalar.indexCast v17339
  let c0_11578 : Index := 0#32
  ![v17340.toNat, 0]
def k0_off6 (k0_t2 : Fin k0_t2_loop.trips) : Fin 3 → Nat :=
  let c2_11596 : Index := 2#32
  let c0_i32_11345 : BitVec 32 := 0#32
  let c1_i32_11346 : BitVec 32 := 1#32
  let arg16 : BitVec 32 := Scf.iv c0_i32_11345 c1_i32_11346 k0_t2
  let c64_i32_11577 : BitVec 32 := 64#32
  let v17339 : BitVec 32 := Scalar.muli arg16 c64_i32_11577
  let v17389 : Index := Scalar.indexCast v17339
  let c0_11597 : Index := 0#32
  ![2, v17389.toNat, 0]
@[reducible] def k0_t3_loop : Scf.Loop 32 :=
  let c0_i32_11349 : BitVec 32 := 0#32
  let c4_i32_11350 : BitVec 32 := 4#32
  let v17056 : BitVec 32 := Scalar.addi c0_i32_11349 c4_i32_11350
  let c1_i32_11351 : BitVec 32 := 1#32
  ⟨c0_i32_11349, v17056, c1_i32_11351⟩
def k0_off7 (k0_t3 : Fin k0_t3_loop.trips) : Fin 2 → Nat :=
  let c0_i32_11349 : BitVec 32 := 0#32
  let c1_i32_11351 : BitVec 32 := 1#32
  let arg16 : BitVec 32 := Scf.iv c0_i32_11349 c1_i32_11351 k0_t3
  let c64_i32_11577 : BitVec 32 := 64#32
  let v17339 : BitVec 32 := Scalar.muli arg16 c64_i32_11577
  let v17340 : Index := Scalar.indexCast v17339
  let c0_11578 : Index := 0#32
  ![v17340.toNat, 0]
def k0_off8 (k0_t3 : Fin k0_t3_loop.trips) : Fin 3 → Nat :=
  let c3_11595 : Index := 3#32
  let c0_i32_11349 : BitVec 32 := 0#32
  let c1_i32_11351 : BitVec 32 := 1#32
  let arg16 : BitVec 32 := Scf.iv c0_i32_11349 c1_i32_11351 k0_t3
  let c64_i32_11577 : BitVec 32 := 64#32
  let v17339 : BitVec 32 := Scalar.muli arg16 c64_i32_11577
  let v17389 : Index := Scalar.indexCast v17339
  let c0_11596 : Index := 0#32
  ![3, v17389.toNat, 0]
@[reducible] def k0_t4_loop : Scf.Loop 32 :=
  let c0_i32_11375 : BitVec 32 := 0#32
  let c5_i32 : BitVec 32 := 5#32
  let v17091 : BitVec 32 := Scalar.addi c0_i32_11375 c5_i32
  let c1_i32_11376 : BitVec 32 := 1#32
  ⟨c0_i32_11375, v17091, c1_i32_11376⟩
def k0_off9 (k0_t4 : Fin k0_t4_loop.trips) : Fin 2 → Nat :=
  let c0_i32_11375 : BitVec 32 := 0#32
  let c1_i32_11376 : BitVec 32 := 1#32
  let arg16 : BitVec 32 := Scf.iv c0_i32_11375 c1_i32_11376 k0_t4
  let c64_i32_11577 : BitVec 32 := 64#32
  let v17339 : BitVec 32 := Scalar.muli arg16 c64_i32_11577
  let v17340 : Index := Scalar.indexCast v17339
  let c0_11578 : Index := 0#32
  ![v17340.toNat, 0]
def k0_off10 (k0_t4 : Fin k0_t4_loop.trips) : Fin 3 → Nat :=
  let c4_11595 : Index := 4#32
  let c0_i32_11375 : BitVec 32 := 0#32
  let c1_i32_11376 : BitVec 32 := 1#32
  let arg16 : BitVec 32 := Scf.iv c0_i32_11375 c1_i32_11376 k0_t4
  let c64_i32_11577 : BitVec 32 := 64#32
  let v17339 : BitVec 32 := Scalar.muli arg16 c64_i32_11577
  let v17389 : Index := Scalar.indexCast v17339
  let c0_11596 : Index := 0#32
  ![4, v17389.toNat, 0]
@[reducible] def k0_t5_loop : Scf.Loop 32 :=
  let c0_i32_11379 : BitVec 32 := 0#32
  let c6_i32 : BitVec 32 := 6#32
  let v17095 : BitVec 32 := Scalar.addi c0_i32_11379 c6_i32
  let c1_i32_11380 : BitVec 32 := 1#32
  ⟨c0_i32_11379, v17095, c1_i32_11380⟩
def k0_off11 (k0_t5 : Fin k0_t5_loop.trips) : Fin 2 → Nat :=
  let c0_i32_11379 : BitVec 32 := 0#32
  let c1_i32_11380 : BitVec 32 := 1#32
  let arg16 : BitVec 32 := Scf.iv c0_i32_11379 c1_i32_11380 k0_t5
  let c64_i32_11577 : BitVec 32 := 64#32
  let v17339 : BitVec 32 := Scalar.muli arg16 c64_i32_11577
  let v17340 : Index := Scalar.indexCast v17339
  let c0_11578 : Index := 0#32
  ![v17340.toNat, 0]
def k0_off12 (k0_t5 : Fin k0_t5_loop.trips) : Fin 3 → Nat :=
  let c5_11595 : Index := 5#32
  let c0_i32_11379 : BitVec 32 := 0#32
  let c1_i32_11380 : BitVec 32 := 1#32
  let arg16 : BitVec 32 := Scf.iv c0_i32_11379 c1_i32_11380 k0_t5
  let c64_i32_11577 : BitVec 32 := 64#32
  let v17339 : BitVec 32 := Scalar.muli arg16 c64_i32_11577
  let v17389 : Index := Scalar.indexCast v17339
  let c0_11596 : Index := 0#32
  ![5, v17389.toNat, 0]
@[reducible] def k0_t6_loop : Scf.Loop 32 :=
  let c0_i32_11404 : BitVec 32 := 0#32
  let c7_i32 : BitVec 32 := 7#32
  let v17130 : BitVec 32 := Scalar.addi c0_i32_11404 c7_i32
  let c1_i32_11405 : BitVec 32 := 1#32
  ⟨c0_i32_11404, v17130, c1_i32_11405⟩
def k0_off13 (k0_t6 : Fin k0_t6_loop.trips) : Fin 2 → Nat :=
  let c0_i32_11404 : BitVec 32 := 0#32
  let c1_i32_11405 : BitVec 32 := 1#32
  let arg16 : BitVec 32 := Scf.iv c0_i32_11404 c1_i32_11405 k0_t6
  let c64_i32_11577 : BitVec 32 := 64#32
  let v17339 : BitVec 32 := Scalar.muli arg16 c64_i32_11577
  let v17340 : Index := Scalar.indexCast v17339
  let c0_11578 : Index := 0#32
  ![v17340.toNat, 0]
def k0_off14 (k0_t6 : Fin k0_t6_loop.trips) : Fin 3 → Nat :=
  let c6_11595 : Index := 6#32
  let c0_i32_11404 : BitVec 32 := 0#32
  let c1_i32_11405 : BitVec 32 := 1#32
  let arg16 : BitVec 32 := Scf.iv c0_i32_11404 c1_i32_11405 k0_t6
  let c64_i32_11577 : BitVec 32 := 64#32
  let v17339 : BitVec 32 := Scalar.muli arg16 c64_i32_11577
  let v17389 : Index := Scalar.indexCast v17339
  let c0_11596 : Index := 0#32
  ![6, v17389.toNat, 0]
@[reducible] def k0_t7_loop : Scf.Loop 32 :=
  let c0_i32_11408 : BitVec 32 := 0#32
  let c8_i32_11409 : BitVec 32 := 8#32
  let v17134 : BitVec 32 := Scalar.addi c0_i32_11408 c8_i32_11409
  let c1_i32_11410 : BitVec 32 := 1#32
  ⟨c0_i32_11408, v17134, c1_i32_11410⟩
def k0_off15 (k0_t7 : Fin k0_t7_loop.trips) : Fin 2 → Nat :=
  let c0_i32_11408 : BitVec 32 := 0#32
  let c1_i32_11410 : BitVec 32 := 1#32
  let arg16 : BitVec 32 := Scf.iv c0_i32_11408 c1_i32_11410 k0_t7
  let c64_i32_11577 : BitVec 32 := 64#32
  let v17339 : BitVec 32 := Scalar.muli arg16 c64_i32_11577
  let v17340 : Index := Scalar.indexCast v17339
  let c0_11578 : Index := 0#32
  ![v17340.toNat, 0]
def k0_off16 (k0_t7 : Fin k0_t7_loop.trips) : Fin 3 → Nat :=
  let c7_11595 : Index := 7#32
  let c0_i32_11408 : BitVec 32 := 0#32
  let c1_i32_11410 : BitVec 32 := 1#32
  let arg16 : BitVec 32 := Scf.iv c0_i32_11408 c1_i32_11410 k0_t7
  let c64_i32_11577 : BitVec 32 := 64#32
  let v17339 : BitVec 32 := Scalar.muli arg16 c64_i32_11577
  let v17389 : Index := Scalar.indexCast v17339
  let c0_11596 : Index := 0#32
  ![7, v17389.toNat, 0]
@[reducible] def k0_t8_loop : Scf.Loop 32 :=
  let c0_i32_11434 : BitVec 32 := 0#32
  let c9_i32 : BitVec 32 := 9#32
  let v17169 : BitVec 32 := Scalar.addi c0_i32_11434 c9_i32
  let c1_i32_11435 : BitVec 32 := 1#32
  ⟨c0_i32_11434, v17169, c1_i32_11435⟩
def k0_off17 (k0_t8 : Fin k0_t8_loop.trips) : Fin 2 → Nat :=
  let c0_i32_11434 : BitVec 32 := 0#32
  let c1_i32_11435 : BitVec 32 := 1#32
  let arg16 : BitVec 32 := Scf.iv c0_i32_11434 c1_i32_11435 k0_t8
  let c64_i32_11577 : BitVec 32 := 64#32
  let v17339 : BitVec 32 := Scalar.muli arg16 c64_i32_11577
  let v17340 : Index := Scalar.indexCast v17339
  let c0_11578 : Index := 0#32
  ![v17340.toNat, 0]
def k0_off18 (k0_t8 : Fin k0_t8_loop.trips) : Fin 3 → Nat :=
  let c8_11595 : Index := 8#32
  let c0_i32_11434 : BitVec 32 := 0#32
  let c1_i32_11435 : BitVec 32 := 1#32
  let arg16 : BitVec 32 := Scf.iv c0_i32_11434 c1_i32_11435 k0_t8
  let c64_i32_11577 : BitVec 32 := 64#32
  let v17339 : BitVec 32 := Scalar.muli arg16 c64_i32_11577
  let v17389 : Index := Scalar.indexCast v17339
  let c0_11596 : Index := 0#32
  ![8, v17389.toNat, 0]
@[reducible] def k0_t9_loop : Scf.Loop 32 :=
  let c0_i32_11438 : BitVec 32 := 0#32
  let c10_i32 : BitVec 32 := 10#32
  let v17173 : BitVec 32 := Scalar.addi c0_i32_11438 c10_i32
  let c1_i32_11439 : BitVec 32 := 1#32
  ⟨c0_i32_11438, v17173, c1_i32_11439⟩
def k0_off19 (k0_t9 : Fin k0_t9_loop.trips) : Fin 2 → Nat :=
  let c0_i32_11438 : BitVec 32 := 0#32
  let c1_i32_11439 : BitVec 32 := 1#32
  let arg16 : BitVec 32 := Scf.iv c0_i32_11438 c1_i32_11439 k0_t9
  let c64_i32_11577 : BitVec 32 := 64#32
  let v17339 : BitVec 32 := Scalar.muli arg16 c64_i32_11577
  let v17340 : Index := Scalar.indexCast v17339
  let c0_11578 : Index := 0#32
  ![v17340.toNat, 0]
def k0_off20 (k0_t9 : Fin k0_t9_loop.trips) : Fin 3 → Nat :=
  let c9_11595 : Index := 9#32
  let c0_i32_11438 : BitVec 32 := 0#32
  let c1_i32_11439 : BitVec 32 := 1#32
  let arg16 : BitVec 32 := Scf.iv c0_i32_11438 c1_i32_11439 k0_t9
  let c64_i32_11577 : BitVec 32 := 64#32
  let v17339 : BitVec 32 := Scalar.muli arg16 c64_i32_11577
  let v17389 : Index := Scalar.indexCast v17339
  let c0_11596 : Index := 0#32
  ![9, v17389.toNat, 0]
@[reducible] def k0_t10_loop : Scf.Loop 32 :=
  let c0_i32_11463 : BitVec 32 := 0#32
  let c11_i32 : BitVec 32 := 11#32
  let v17208 : BitVec 32 := Scalar.addi c0_i32_11463 c11_i32
  let c1_i32_11464 : BitVec 32 := 1#32
  ⟨c0_i32_11463, v17208, c1_i32_11464⟩
def k0_off21 (k0_t10 : Fin k0_t10_loop.trips) : Fin 2 → Nat :=
  let c0_i32_11463 : BitVec 32 := 0#32
  let c1_i32_11464 : BitVec 32 := 1#32
  let arg16 : BitVec 32 := Scf.iv c0_i32_11463 c1_i32_11464 k0_t10
  let c64_i32_11577 : BitVec 32 := 64#32
  let v17339 : BitVec 32 := Scalar.muli arg16 c64_i32_11577
  let v17340 : Index := Scalar.indexCast v17339
  let c0_11578 : Index := 0#32
  ![v17340.toNat, 0]
def k0_off22 (k0_t10 : Fin k0_t10_loop.trips) : Fin 3 → Nat :=
  let c10_11595 : Index := 10#32
  let c0_i32_11463 : BitVec 32 := 0#32
  let c1_i32_11464 : BitVec 32 := 1#32
  let arg16 : BitVec 32 := Scf.iv c0_i32_11463 c1_i32_11464 k0_t10
  let c64_i32_11577 : BitVec 32 := 64#32
  let v17339 : BitVec 32 := Scalar.muli arg16 c64_i32_11577
  let v17389 : Index := Scalar.indexCast v17339
  let c0_11596 : Index := 0#32
  ![10, v17389.toNat, 0]
@[reducible] def k0_t11_loop : Scf.Loop 32 :=
  let c0_i32_11467 : BitVec 32 := 0#32
  let c12_i32 : BitVec 32 := 12#32
  let v17212 : BitVec 32 := Scalar.addi c0_i32_11467 c12_i32
  let c1_i32_11468 : BitVec 32 := 1#32
  ⟨c0_i32_11467, v17212, c1_i32_11468⟩
def k0_off23 (k0_t11 : Fin k0_t11_loop.trips) : Fin 2 → Nat :=
  let c0_i32_11467 : BitVec 32 := 0#32
  let c1_i32_11468 : BitVec 32 := 1#32
  let arg16 : BitVec 32 := Scf.iv c0_i32_11467 c1_i32_11468 k0_t11
  let c64_i32_11577 : BitVec 32 := 64#32
  let v17339 : BitVec 32 := Scalar.muli arg16 c64_i32_11577
  let v17340 : Index := Scalar.indexCast v17339
  let c0_11578 : Index := 0#32
  ![v17340.toNat, 0]
def k0_off24 (k0_t11 : Fin k0_t11_loop.trips) : Fin 3 → Nat :=
  let c11_11595 : Index := 11#32
  let c0_i32_11467 : BitVec 32 := 0#32
  let c1_i32_11468 : BitVec 32 := 1#32
  let arg16 : BitVec 32 := Scf.iv c0_i32_11467 c1_i32_11468 k0_t11
  let c64_i32_11577 : BitVec 32 := 64#32
  let v17339 : BitVec 32 := Scalar.muli arg16 c64_i32_11577
  let v17389 : Index := Scalar.indexCast v17339
  let c0_11596 : Index := 0#32
  ![11, v17389.toNat, 0]
@[reducible] def k0_t12_loop : Scf.Loop 32 :=
  let c0_i32_11492 : BitVec 32 := 0#32
  let c13_i32 : BitVec 32 := 13#32
  let v17247 : BitVec 32 := Scalar.addi c0_i32_11492 c13_i32
  let c1_i32_11493 : BitVec 32 := 1#32
  ⟨c0_i32_11492, v17247, c1_i32_11493⟩
def k0_off25 (k0_t12 : Fin k0_t12_loop.trips) : Fin 2 → Nat :=
  let c0_i32_11492 : BitVec 32 := 0#32
  let c1_i32_11493 : BitVec 32 := 1#32
  let arg16 : BitVec 32 := Scf.iv c0_i32_11492 c1_i32_11493 k0_t12
  let c64_i32_11577 : BitVec 32 := 64#32
  let v17339 : BitVec 32 := Scalar.muli arg16 c64_i32_11577
  let v17340 : Index := Scalar.indexCast v17339
  let c0_11578 : Index := 0#32
  ![v17340.toNat, 0]
def k0_off26 (k0_t12 : Fin k0_t12_loop.trips) : Fin 3 → Nat :=
  let c12_11595 : Index := 12#32
  let c0_i32_11492 : BitVec 32 := 0#32
  let c1_i32_11493 : BitVec 32 := 1#32
  let arg16 : BitVec 32 := Scf.iv c0_i32_11492 c1_i32_11493 k0_t12
  let c64_i32_11577 : BitVec 32 := 64#32
  let v17339 : BitVec 32 := Scalar.muli arg16 c64_i32_11577
  let v17389 : Index := Scalar.indexCast v17339
  let c0_11596 : Index := 0#32
  ![12, v17389.toNat, 0]
@[reducible] def k0_t13_loop : Scf.Loop 32 :=
  let c0_i32_11496 : BitVec 32 := 0#32
  let c14_i32 : BitVec 32 := 14#32
  let v17251 : BitVec 32 := Scalar.addi c0_i32_11496 c14_i32
  let c1_i32_11497 : BitVec 32 := 1#32
  ⟨c0_i32_11496, v17251, c1_i32_11497⟩
def k0_off27 (k0_t13 : Fin k0_t13_loop.trips) : Fin 2 → Nat :=
  let c0_i32_11496 : BitVec 32 := 0#32
  let c1_i32_11497 : BitVec 32 := 1#32
  let arg16 : BitVec 32 := Scf.iv c0_i32_11496 c1_i32_11497 k0_t13
  let c64_i32_11577 : BitVec 32 := 64#32
  let v17339 : BitVec 32 := Scalar.muli arg16 c64_i32_11577
  let v17340 : Index := Scalar.indexCast v17339
  let c0_11578 : Index := 0#32
  ![v17340.toNat, 0]
def k0_off28 (k0_t13 : Fin k0_t13_loop.trips) : Fin 3 → Nat :=
  let c13_11595 : Index := 13#32
  let c0_i32_11496 : BitVec 32 := 0#32
  let c1_i32_11497 : BitVec 32 := 1#32
  let arg16 : BitVec 32 := Scf.iv c0_i32_11496 c1_i32_11497 k0_t13
  let c64_i32_11577 : BitVec 32 := 64#32
  let v17339 : BitVec 32 := Scalar.muli arg16 c64_i32_11577
  let v17389 : Index := Scalar.indexCast v17339
  let c0_11596 : Index := 0#32
  ![13, v17389.toNat, 0]
@[reducible] def k0_t14_loop : Scf.Loop 32 :=
  let c0_i32_11521 : BitVec 32 := 0#32
  let c15_i32 : BitVec 32 := 15#32
  let v17286 : BitVec 32 := Scalar.addi c0_i32_11521 c15_i32
  let c1_i32_11522 : BitVec 32 := 1#32
  ⟨c0_i32_11521, v17286, c1_i32_11522⟩
def k0_off29 (k0_t14 : Fin k0_t14_loop.trips) : Fin 2 → Nat :=
  let c0_i32_11521 : BitVec 32 := 0#32
  let c1_i32_11522 : BitVec 32 := 1#32
  let arg16 : BitVec 32 := Scf.iv c0_i32_11521 c1_i32_11522 k0_t14
  let c64_i32_11577 : BitVec 32 := 64#32
  let v17339 : BitVec 32 := Scalar.muli arg16 c64_i32_11577
  let v17340 : Index := Scalar.indexCast v17339
  let c0_11578 : Index := 0#32
  ![v17340.toNat, 0]
def k0_off30 (k0_t14 : Fin k0_t14_loop.trips) : Fin 3 → Nat :=
  let c14_11595 : Index := 14#32
  let c0_i32_11521 : BitVec 32 := 0#32
  let c1_i32_11522 : BitVec 32 := 1#32
  let arg16 : BitVec 32 := Scf.iv c0_i32_11521 c1_i32_11522 k0_t14
  let c64_i32_11577 : BitVec 32 := 64#32
  let v17339 : BitVec 32 := Scalar.muli arg16 c64_i32_11577
  let v17389 : Index := Scalar.indexCast v17339
  let c0_11596 : Index := 0#32
  ![14, v17389.toNat, 0]
@[reducible] def k0_t15_loop : Scf.Loop 32 :=
  let c0_i32_11525 : BitVec 32 := 0#32
  let c16_i32_11526 : BitVec 32 := 16#32
  let v17290 : BitVec 32 := Scalar.addi c0_i32_11525 c16_i32_11526
  let c1_i32_11527 : BitVec 32 := 1#32
  ⟨c0_i32_11525, v17290, c1_i32_11527⟩
def k0_off31 (k0_t15 : Fin k0_t15_loop.trips) : Fin 2 → Nat :=
  let c0_i32_11525 : BitVec 32 := 0#32
  let c1_i32_11527 : BitVec 32 := 1#32
  let arg16 : BitVec 32 := Scf.iv c0_i32_11525 c1_i32_11527 k0_t15
  let c64_i32_11577 : BitVec 32 := 64#32
  let v17339 : BitVec 32 := Scalar.muli arg16 c64_i32_11577
  let v17340 : Index := Scalar.indexCast v17339
  let c0_11578 : Index := 0#32
  ![v17340.toNat, 0]
def k0_off32 (k0_t15 : Fin k0_t15_loop.trips) : Fin 3 → Nat :=
  let c15_11595 : Index := 15#32
  let c0_i32_11525 : BitVec 32 := 0#32
  let c1_i32_11527 : BitVec 32 := 1#32
  let arg16 : BitVec 32 := Scf.iv c0_i32_11525 c1_i32_11527 k0_t15
  let c64_i32_11577 : BitVec 32 := 64#32
  let v17339 : BitVec 32 := Scalar.muli arg16 c64_i32_11577
  let v17389 : Index := Scalar.indexCast v17339
  let c0_11596 : Index := 0#32
  ![15, v17389.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1x64x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x64x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x64x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "log2e" => some (((Real.log 2)⁻¹ : ℝ) : EReal)
  | "sm_log2e" => some (((1 / 8) * (Real.log 2)⁻¹ : ℝ) : EReal)
  | _ => none
-- ==== ReferenceIdeal.lean ====
abbrev S2x1024x45x64 : Shape := ⟨4, ![2, 1024, 45, 64]⟩
abbrev S2x1024x45 : Shape := ⟨3, ![2, 1024, 45]⟩
abbrev S2x45x64 : Shape := ⟨3, ![2, 45, 64]⟩
abbrev S2x45x1024x64 : Shape := ⟨4, ![2, 45, 1024, 64]⟩
abbrev S45x2x1024 : Shape := ⟨3, ![45, 2, 1024]⟩
abbrev S45x2x1024x1 : Shape := ⟨4, ![45, 2, 1024, 1]⟩
abbrev S45x2x1x1024 : Shape := ⟨4, ![45, 2, 1, 1024]⟩
abbrev S45x2x64 : Shape := ⟨3, ![45, 2, 64]⟩
abbrev S45x2x1x64 : Shape := ⟨4, ![45, 2, 1, 64]⟩
abbrev S2x1024x1x64 : Shape := ⟨4, ![2, 1024, 1, 64]⟩
abbrev S2x1024x64 : Shape := ⟨3, ![2, 1024, 64]⟩
abbrev S2x1024x1 : Shape := ⟨3, ![2, 1024, 1]⟩
abbrev S2x1024 : Shape := ⟨2, ![2, 1024]⟩
abbrev S2x1x1024 : Shape := ⟨3, ![2, 1, 1024]⟩
abbrev S2x2880x1024 : Shape := ⟨3, ![2, 2880, 1024]⟩
abbrev S2x1x1024x64 : Shape := ⟨4, ![2, 1, 1024, 64]⟩
abbrev S1x2x1024x1 : Shape := ⟨4, ![1, 2, 1024, 1]⟩
abbrev S1x2x1x1024 : Shape := ⟨4, ![1, 2, 1, 1024]⟩
abbrev S1x2x1x64 : Shape := ⟨4, ![1, 2, 1, 64]⟩
abbrev S2x64x1024 : Shape := ⟨3, ![2, 64, 1024]⟩
abbrev S2x1024x1024 : Shape := ⟨3, ![2, 1024, 1024]⟩
abbrev S2x1024x254 : Shape := ⟨3, ![2, 1024, 254]⟩
abbrev S2x1x64 : Shape := ⟨3, ![2, 1, 64]⟩

abbrev nBuf : Space → Nat
  | .hbm => 27
  | .vmem => 19
  | .smem => 0
  | _ => 0

abbrev bufTy : (tb : Table) → Fin (tcTables nBuf tb) → BufTy
  | .hbm, ⟨0, _⟩ => ⟨S2x1024x45x64, .fp8e4m3⟩
  | .hbm, ⟨1, _⟩ => ⟨S2x1024x45, .f32⟩
  | .hbm, ⟨2, _⟩ => ⟨S2x1024x45x64, .fp8e4m3⟩
  | .hbm, ⟨3, _⟩ => ⟨S2x1024x45, .f32⟩
  | .hbm, ⟨4, _⟩ => ⟨S2x1024x45x64, .fp8e4m3⟩
  | .hbm, ⟨5, _⟩ => ⟨S2x45x64, .f32⟩
  | .hbm, ⟨6, _⟩ => ⟨S2x45x1024x64, .fp8e4m3⟩
  | .hbm, ⟨7, _⟩ => ⟨S2x45x1024x64, .fp8e4m3⟩
  | .hbm, ⟨8, _⟩ => ⟨S2x45x1024x64, .fp8e4m3⟩
  | .hbm, ⟨9, _⟩ => ⟨S45x2x1024, .f32⟩
  | .hbm, ⟨10, _⟩ => ⟨S45x2x1024x1, .f32⟩
  | .hbm, ⟨11, _⟩ => ⟨S45x2x1024, .f32⟩
  | .hbm, ⟨12, _⟩ => ⟨S45x2x1x1024, .f32⟩
  | .hbm, ⟨13, _⟩ => ⟨S45x2x64, .f32⟩
  | .hbm, ⟨14, _⟩ => ⟨S45x2x1x64, .f32⟩
  | .hbm, ⟨15, _⟩ => ⟨S2x1024x1x64, .fp8e4m3⟩
  | .hbm, ⟨16, _⟩ => ⟨S2x1024x64, .fp8e4m3⟩
  | .hbm, ⟨17, _⟩ => ⟨S2x1024x1x64, .fp8e4m3⟩
  | .hbm, ⟨18, _⟩ => ⟨S2x1024x64, .fp8e4m3⟩
  | .hbm, ⟨19, _⟩ => ⟨S2x1024x1, .f32⟩
  | .hbm, ⟨20, _⟩ => ⟨S2x1024, .f32⟩
  | .hbm, ⟨21, _⟩ => ⟨S2x1024x1, .f32⟩
  | .hbm, ⟨22, _⟩ => ⟨S2x1024x1, .f32⟩
  | .hbm, ⟨23, _⟩ => ⟨S2x1024, .f32⟩
  | .hbm, ⟨24, _⟩ => ⟨S2x1x1024, .f32⟩
  | .hbm, ⟨25, _⟩ => ⟨S2x2880x1024, .bf16⟩
  | .hbm, ⟨26, _⟩ => ⟨S2x1024, .f32⟩
  | .local _ .vmem, ⟨0, _⟩ => ⟨S2x1x1024x64, .fp8e4m3⟩
  | .local _ .vmem, ⟨1, _⟩ => ⟨S2x1x1024x64, .fp8e4m3⟩
  | .local _ .vmem, ⟨2, _⟩ => ⟨S2x1x1024x64, .fp8e4m3⟩
  | .local _ .vmem, ⟨3, _⟩ => ⟨S2x1x1024x64, .fp8e4m3⟩
  | .local _ .vmem, ⟨4, _⟩ => ⟨S2x1x1024x64, .fp8e4m3⟩
  | .local _ .vmem, ⟨5, _⟩ => ⟨S2x1x1024x64, .fp8e4m3⟩
  | .local _ .vmem, ⟨6, _⟩ => ⟨S1x2x1024x1, .f32⟩
  | .local _ .vmem, ⟨7, _⟩ => ⟨S1x2x1024x1, .f32⟩
  | .local _ .vmem, ⟨8, _⟩ => ⟨S1x2x1x1024, .f32⟩
  | .local _ .vmem, ⟨9, _⟩ => ⟨S1x2x1x1024, .f32⟩
  | .local _ .vmem, ⟨10, _⟩ => ⟨S1x2x1x64, .f32⟩
  | .local _ .vmem, ⟨11, _⟩ => ⟨S1x2x1x64, .f32⟩
  | .local _ .vmem, ⟨12, _⟩ => ⟨S2x1024x64, .fp8e4m3⟩
  | .local _ .vmem, ⟨13, _⟩ => ⟨S2x1024x64, .fp8e4m3⟩
  | .local _ .vmem, ⟨14, _⟩ => ⟨S2x1024x1, .f32⟩
  | .local _ .vmem, ⟨15, _⟩ => ⟨S2x1x1024, .f32⟩
  | .local _ .vmem, ⟨16, _⟩ => ⟨S2x64x1024, .bf16⟩
  | .local _ .vmem, ⟨17, _⟩ => ⟨S2x64x1024, .bf16⟩
  | .local _ .vmem, ⟨18, _⟩ => ⟨S2x1024, .f32⟩
  | _, _ => ⟨S2x1024x45x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![45], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1x1024x64 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1024x64 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x1024x64 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1024x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024x64 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Proof.Run.lean ====
/-
  Programs over the fifteen buffers of the attention kernel's body, as data: loads and stores of rectangles of a buffer (or
  of a window of one), counted loops and a condition. `Pg.toProg` is the printed program such data stands for, `Pg.eff` is
  its effect on the buffers' contents as a plain function, and `Pg.sound` says that the program has that effect.
-/
module

public import proofs.«01_k».proof.KernelIdeal
public import Idealize.ShloMosaic.Lib.Pipeline.FrameBody
public import Idealize.ShloMosaic.Lib.Ring
public import Idealize.ShloMosaic.Lib.Tactic

@[expose] public section

noncomputable section

namespace Cert.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal

/-- The buffers of the body: the six input blocks, the two output blocks, the seven scratch arrays. -/
inductive Bf | q | k | v | qs | ks | vs | o | sel | f | kt | ksb | c | ex | p | eye
deriving DecidableEq

/-- Their shapes -/
@[reducible] def shp : Bf → Shape
  | .q | .k | .v => S2x1x64x1024
  | .qs | .ks => S1x2x1024
  | .vs => S1x2x64
  | .o => S2x64x1024
  | .sel => S2x1024
  | .f => S16x1024x128
  | .kt | .ksb | .c => S1024x128
  | .ex => S2x2x1024x128
  | .p => S2x1024x256
  | .eye => S256x256

/-- and element types. -/
@[reducible] def ety : Bf → EltTy
  | .q | .k | .v | .kt | .p | .eye => .fp8e4m3
  | .o => .bf16
  | _ => .f32

variable {F : FTy → Type} [FloatOps F] {sig : RefSig}

/-- What the buffers hold. -/
abbrev Mem (F : FTy → Type) := ∀ b : Bf, (shp b).Idx → Elt F (ety b)

/-- A program over the buffers `A`. -/
inductive Pg (F : FTy → Type) (A : ∀ b : Bf, Memref sig .tc .vmem (shp b) (ety b)) : Type → Type 1
  | ret {α : Type} (a : α) : Pg F A α
  | ld {α : Type} (b : Bf) (r : LoadRect (shp b)) (h : 0 < r.shape.numel) (k : (r.shape.Idx → Elt F (ety b)) → Pg F A α) : Pg F A α
  | st {α : Type} (b : Bf) (r : Rect (shp b)) (w : r.shape.Idx → Elt F (ety b)) (h : ((A b).access r).Stores Finset.univ)
      (k : PUnit.{1} → Pg F A α) : Pg F A α
  | ldw {α : Type} (b : Bf) (R : Rect (shp b)) (hR : ∀ a, R.stride a = 1) (s : Shape) (hs : R.shape.Squeezes s) (r : LoadRect s)
      (h : 0 < r.shape.numel) (k : (r.shape.Idx → Elt F (ety b)) → Pg F A α) : Pg F A α
  | stw {α : Type} (b : Bf) (R : Rect (shp b)) (hR : ∀ a, R.stride a = 1) (s : Shape) (hs : R.shape.Squeezes s) (r : Rect s)
      (w : r.shape.Idx → Elt F (ety b)) (h : ((((A b).slice R hR).squeeze s hs).access r).Stores Finset.univ)
      (k : PUnit.{1} → Pg F A α) : Pg F A α
  | loop {α : Type} (l : Scf.Loop 32) (hok : l.OK) (body : Fin l.trips → Pg F A PUnit.{1}) (k : PUnit.{1} → Pg F A α) : Pg F A α
  | cond {α : Type} (v : BitVec 1) (a : Pg F A PUnit.{1}) (k : PUnit.{1} → Pg F A α) : Pg F A α

namespace Pg

variable {A : ∀ b : Bf, Memref sig .tc .vmem (shp b) (ety b)}

/-- One program after another. -/
protected def bind {α β : Type} : Pg F A α → (α → Pg F A β) → Pg F A β
  | .ret a, g => g a
  | .ld b r h k, g => .ld b r h fun x => (k x).bind g
  | .st b r w h k, g => .st b r w h fun x => (k x).bind g
  | .ldw b R hR s hs r h k, g => .ldw b R hR s hs r h fun x => (k x).bind g
  | .stw b R hR s hs r w h k, g => .stw b R hR s hs r w h fun x => (k x).bind g
  | .loop l hok body k, g => .loop l hok body fun x => (k x).bind g
  | .cond v a k, g => .cond v a fun x => (k x).bind g

instance : Monad (Pg F A) where
  pure := .ret
  bind := Pg.bind

/-- The printed program. -/
def toProg {nD : Nat} {τ : Topo} {Λ : Labels} {α : Type} : Pg F A α → Prog (TpuEff nD τ sig (Elt F) Λ .tc) α
  | .ret a => .ret a
  | .ld b r h k => .op (.load (A b) r (View.loadsAt_vmem h)) fun x => (k x).toProg
  | .st b r w h k => .op (.store (A b) r w Finset.univ h (.inl rfl)) fun x => (k x).toProg
  | .ldw b R hR s hs r h k => .op (.load (((A b).slice R hR).squeeze s hs) r (View.loadsAt_vmem h)) fun x => (k x).toProg
  | .stw b R hR s hs r w h k =>
      .op (.store (((A b).slice R hR).squeeze s hs) r w Finset.univ h (.inl rfl)) fun x => (k x).toProg
  | .loop l hok body k => (Scf.Loop.for l hok ⟨⟩ fun t _ => (body t).toProg) >>= fun x => (k x).toProg
  | .cond v a k => (if v = 1#1 then a.toProg else pure ⟨⟩) >>= fun x => (k x).toProg

end Pg

open Classical in
/-- `X` with its values under the embedding `e` replaced by `w`. -/
def ovl {ι κ α : Type} (e : ι ↪ κ) (X : κ → α) (w : ι → α) : κ → α :=
  fun y => if h : ∃ x, e x = y then w h.choose else X y

theorem ovl_emb {ι κ α : Type} (e : ι ↪ κ) (X : κ → α) (w : ι → α) (x : ι) : ovl e X w (e x) = w x := by
  have h : ∃ x', e x' = e x := ⟨x, rfl⟩
  unfold ovl; rw [dif_pos h]; exact congrArg w (e.injective h.choose_spec)

theorem ovl_of_not {ι κ α : Type} (e : ι ↪ κ) (X : κ → α) (w : ι → α) {y : κ} (h : ∀ x, e x ≠ y) : ovl e X w y = X y := by
  unfold ovl; rw [dif_neg]; rintro ⟨x, hx⟩; exact h x hx

/-- A window's own indices placed in the buffer. -/
def wemb {b : Bf} (R : Rect (shp b)) {s : Shape} (hs : R.shape.Squeezes s) (r : Rect s) : r.shape.Idx ↪ (shp b).Idx :=
  r.emb.trans ((Shape.reshapeEquiv hs.numel_eq).toEmbedding.trans R.emb)

/-- The contents with buffer `b`'s replaced. -/
def Mem.set (M : Mem F) (b : Bf) (X : (shp b).Idx → Elt F (ety b)) : Mem F := Function.update M b X

namespace Pg

variable {A : ∀ b : Bf, Memref sig .tc .vmem (shp b) (ety b)}

/-- A loop's trips as one function of the contents. -/
def runs {n : Nat} (f : Fin n → Mem F → PUnit.{1} × Mem F) : List (Fin n) → Mem F → Mem F
  | [], M => M
  | t :: ts, M => runs f ts (f t M).2

/-- The program's effect on the contents. -/
def eff {α : Type} : Pg F A α → Mem F → α × Mem F
  | .ret a, M => (a, M)
  | .ld b r _ k, M => (k fun j => M b (r.idx j)).eff M
  | .st b r w _ k, M => (k ⟨⟩).eff (M.set b (ovl r.emb (M b) w))
  | .ldw b R _ s hs r _ k, M => (k fun j => M b (R.emb (Shape.reshapeEquiv hs.numel_eq (r.idx j)))).eff M
  | .stw b R _ s hs r w _ k, M => (k ⟨⟩).eff (M.set b (ovl (wemb R hs r) (M b) w))
  | .loop l _ body k, M => (k ⟨⟩).eff (runs (fun t => (body t).eff) (List.finRange l.trips) M)
  | .cond v a k, M => (k ⟨⟩).eff (if v = 1#1 then (a.eff M).2 else M)

theorem eff_bind {α β : Type} (p : Pg F A α) (g : α → Pg F A β) (M : Mem F) :
    (p >>= g).eff M = (g (p.eff M).1).eff (p.eff M).2 := by
  show (Pg.bind p g).eff M = _
  induction p generalizing M with
  | ret a => rfl
  | ld b r h k ih => exact ih _ _ _
  | st b r w h k ih => exact ih _ _ _
  | ldw b R hR s hs r h k ih => exact ih _ _ _
  | stw b R hR s hs r w h k ih => exact ih _ _ _
  | loop l hok body k _ ih => exact ih _ _ _
  | cond v a k _ ih => exact ih _ _ _

section Sound

variable {nD : Nat} {τ : Topo} {Λ : Labels} {Ix : Type} [DecidableEq Ix] {Name : Type} [DecidableEq Name] {U : Type} [URA U]
  {Lvl : Type} [Preorder Lvl]
local notation "𝕄" => MT nD τ sig Ix (Elt F) Name U Lvl

variable {defs : Defs nD τ sig (Elt F) Λ} (𝒱 : Variants) (c : Dev nD) (bd : Option 𝒱.V) (E : Set Name)

theorem load_step {α : Type} {s : Shape} {e : EltTy} (m : Memref sig .tc .vmem s e) (r : LoadRect s) (hl : m.view.LoadsAt r)
    (k : (r.shape.Idx → Elt F e) → Prog (TpuEff nD τ sig (Elt F) Λ .tc) α) (X : s.Idx → Elt F e) (Q : α → sProp 𝕄) :
    (owns (c : Thread nD τ) m fullShare X : sProp 𝕄)
      ⊢ iprop((owns (c : Thread nD τ) m fullShare X -∗ wp frame (wpE defs 𝒱 (c : Thread nD τ) bd) E (k fun j => X (r.idx j)) Q)
        -∗ wp frame (wpE defs 𝒱 (c : Thread nD τ) bd) E (.op (.load m r hl) k) Q) := by
  unfold owns
  iintro ⟨%f, %hf, H⟩ Hk
  subst hf
  iapply (wp_load 𝒱 (c : Thread nD τ) bd E (m := m) (r := r) (S := m.view.set) (View.setOn_subset_set _ _)) $$ H
  iintro H
  iapply Hk
  iexists f
  isplitr; · ipureintro; rfl
  iexact H

theorem load_window {α : Type} {s s' : Shape} {e : EltTy} (m : Memref sig .tc .vmem s e) (R : Rect s) (hR : ∀ a, R.stride a = 1)
    (hs : R.shape.Squeezes s') (r : LoadRect s') (hl : ((m.slice R hR).squeeze s' hs).view.LoadsAt r)
    (k : (r.shape.Idx → Elt F e) → Prog (TpuEff nD τ sig (Elt F) Λ .tc) α) (X : s.Idx → Elt F e) (Q : α → sProp 𝕄) :
    (owns (c : Thread nD τ) m fullShare X : sProp 𝕄)
      ⊢ iprop((owns (c : Thread nD τ) m fullShare X -∗ wp frame (wpE defs 𝒱 (c : Thread nD τ) bd) E
            (k fun j => X (R.emb (Shape.reshapeEquiv hs.numel_eq (r.idx j)))) Q)
        -∗ wp frame (wpE defs 𝒱 (c : Thread nD τ) bd) E (.op (.load ((m.slice R hR).squeeze s' hs) r hl) k) Q) := by
  unfold owns
  iintro ⟨%f, %hf, H⟩ Hk
  subst hf
  have hS : ((m.slice R hR).squeeze s' hs).view.setOn r.set ⊆ m.view.set := by
    refine (View.setOn_subset_set _ _).trans ?_
    intro y hy
    obtain ⟨x, -, rfl⟩ := Finset.mem_map.mp hy
    exact m.view.emb_mem_set _
  iapply (wp_load 𝒱 (c : Thread nD τ) bd E (m := (m.slice R hR).squeeze s' hs) (r := r) (S := m.view.set) hS) $$ H
  iintro H
  iapply Hk
  iexists f
  isplitr; · ipureintro; rfl
  iexact H

theorem read_write {s : Shape} {e : EltTy} (v : View sig .tc .vmem s e) (r : Rect s) (f : v.ty.Contents (Elt F))
    (w : r.shape.Idx → Elt F e) :
    v.read (Elt F) ((v.slice r).write (Elt F) f w Finset.univ) = ovl r.emb (v.read (Elt F) f) w := by
  funext y
  by_cases h : ∃ x, r.emb x = y
  · obtain ⟨x, rfl⟩ := h
    rw [ovl_emb]
    exact congrFun (View.read_write_univ (v := v.slice r) f w) x
  · rw [ovl_of_not _ _ _ (fun x hx => h ⟨x, hx⟩)]
    refine congrArg (_root_.cast _) (View.write_of_not_mem (v := v.slice r) f w _ ?_)
    intro hy
    obtain ⟨x, -, hx⟩ := Finset.mem_map.mp hy
    exact h ⟨x, v.emb.injective hx⟩

theorem read_write_window {s s' : Shape} {e : EltTy} (m : Memref sig .tc .vmem s e) (R : Rect s) (hR : ∀ a, R.stride a = 1)
    (hs : R.shape.Squeezes s') (r : Rect s') (f : m.view.ty.Contents (Elt F)) (w : r.shape.Idx → Elt F e) :
    m.view.read (Elt F) ((((m.slice R hR).squeeze s' hs).access r).write (Elt F) f w Finset.univ)
      = ovl (r.emb.trans ((Shape.reshapeEquiv hs.numel_eq).toEmbedding.trans R.emb)) (m.view.read (Elt F) f) w := by
  funext y
  by_cases h : ∃ x, (r.emb.trans ((Shape.reshapeEquiv hs.numel_eq).toEmbedding.trans R.emb)) x = y
  · obtain ⟨x, rfl⟩ := h
    rw [ovl_emb]
    exact congrFun (View.read_write_univ (v := ((m.slice R hR).squeeze s' hs).access r) f w) x
  · rw [ovl_of_not _ _ _ (fun x hx => h ⟨x, hx⟩)]
    refine congrArg (_root_.cast _) (View.write_of_not_mem (v := ((m.slice R hR).squeeze s' hs).access r) f w _ ?_)
    intro hy
    obtain ⟨x, -, hx⟩ := Finset.mem_map.mp hy
    exact h ⟨x, m.view.emb.injective hx⟩

theorem store_step {α : Type} {s : Shape} {e : EltTy} (m : Memref sig .tc .vmem s e) (r : Rect s) (w : r.shape.Idx → Elt F e)
    (hx : (m.access r).Stores Finset.univ) (hm) (k : PUnit.{1} → Prog (TpuEff nD τ sig (Elt F) Λ .tc) α) (X : s.Idx → Elt F e)
    (Q : α → sProp 𝕄) :
    (owns (c : Thread nD τ) m fullShare X : sProp 𝕄)
      ⊢ iprop((owns (c : Thread nD τ) m fullShare (ovl r.emb X w) -∗ wp frame (wpE defs 𝒱 (c : Thread nD τ) bd) E (k ⟨⟩) Q)
        -∗ wp frame (wpE defs 𝒱 (c : Thread nD τ) bd) E (.op (.store m r w Finset.univ hx hm) k) Q) := by
  unfold owns
  iintro ⟨%f, %hf, H⟩ Hk
  subst hf
  iapply (wp_store 𝒱 (c : Thread nD τ) bd E (m := m) (r := r) (S := m.view.set) (m.view.set_slice_subset r)) $$ H
  iintro H
  iapply Hk
  iexists _
  isplitr
  swap; · iexact H
  ipureintro
  exact read_write m.view r f w

theorem store_window {α : Type} {s s' : Shape} {e : EltTy} (m : Memref sig .tc .vmem s e) (R : Rect s) (hR : ∀ a, R.stride a = 1)
    (hs : R.shape.Squeezes s') (r : Rect s') (w : r.shape.Idx → Elt F e)
    (hx : (((m.slice R hR).squeeze s' hs).access r).Stores Finset.univ) (hm)
    (k : PUnit.{1} → Prog (TpuEff nD τ sig (Elt F) Λ .tc) α) (X : s.Idx → Elt F e) (Q : α → sProp 𝕄) :
    (owns (c : Thread nD τ) m fullShare X : sProp 𝕄)
      ⊢ iprop((owns (c : Thread nD τ) m fullShare
            (ovl (r.emb.trans ((Shape.reshapeEquiv hs.numel_eq).toEmbedding.trans R.emb)) X w)
            -∗ wp frame (wpE defs 𝒱 (c : Thread nD τ) bd) E (k ⟨⟩) Q)
        -∗ wp frame (wpE defs 𝒱 (c : Thread nD τ) bd) E (.op (.store ((m.slice R hR).squeeze s' hs) r w Finset.univ hx hm) k) Q) := by
  unfold owns
  iintro ⟨%f, %hf, H⟩ Hk
  subst hf
  have hS : (((m.slice R hR).squeeze s' hs).access r).setOn Finset.univ ⊆ m.view.set := by
    intro y hy
    obtain ⟨x, -, rfl⟩ := Finset.mem_map.mp hy
    exact m.view.emb_mem_set _
  iapply (wp_store 𝒱 (c : Thread nD τ) bd E (m := (m.slice R hR).squeeze s' hs) (r := r) (S := m.view.set) hS) $$ H
  iintro H
  iapply Hk
  iexists _
  isplitr
  swap; · iexact H
  ipureintro
  exact read_write_window m R hR hs r f w

/-- Holding the buffers at `M` in any form `P M` from which each can be taken and put back changed, the program runs to its
effect on `M`. -/
theorem sound (P : Mem F → sProp 𝕄)
    (hP : ∀ (b : Bf) (M : Mem F), P M ⊢ iprop(owns (c : Thread nD τ) (A b) fullShare (M b)
      ∗ (∀ X, owns (c : Thread nD τ) (A b) fullShare X -∗ P (M.set b X))))
    {α : Type} (p : Pg F A α) (M : Mem F) (Q : α → sProp 𝕄) :
    P M ⊢ iprop((P (p.eff M).2 -∗ Q (p.eff M).1) -∗ wp frame (wpE defs 𝒱 (c : Thread nD τ) bd) E (p.toProg) Q) := by
  have keep : ∀ (b : Bf) (M : Mem F), M.set b (M b) = M := fun b M => Function.update_eq_self b M
  induction p generalizing M with
  | ret a =>
    unfold toProg eff; rw [wp_ret]
    iintro H Hk; imodintro; iapply Hk; iexact H
  | ld b r h k ih =>
    iintro H Hk
    ihave H' := (hP b M) $$ H
    icases H' with ⟨H, Hr⟩
    iapply (load_step 𝒱 c bd E) $$ H
    iintro H
    iapply (ih _ M Q) $$ [H Hr]
    · ihave H2 := Hr $$ %(M b) H
      rw [keep]; iexact H2
    iexact Hk
  | st b r w h k ih =>
    iintro H Hk
    ihave H' := (hP b M) $$ H
    icases H' with ⟨H, Hr⟩
    iapply (store_step 𝒱 c bd E) $$ H
    iintro H
    iapply (ih _ _ Q) $$ [H Hr]
    · iapply Hr; iexact H
    iexact Hk
  | ldw b R hR s hs r h k ih =>
    iintro H Hk
    ihave H' := (hP b M) $$ H
    icases H' with ⟨H, Hr⟩
    iapply (load_window 𝒱 c bd E) $$ H
    iintro H
    iapply (ih _ M Q) $$ [H Hr]
    · ihave H2 := Hr $$ %(M b) H
      rw [keep]; iexact H2
    iexact Hk
  | stw b R hR s hs r w h k ih =>
    iintro H Hk
    ihave H' := (hP b M) $$ H
    icases H' with ⟨H, Hr⟩
    iapply (store_window 𝒱 c bd E) $$ H
    iintro H
    iapply (ih _ _ Q) $$ [H Hr]
    · iapply Hr; iexact H
    iexact Hk
  | loop l hok body k ihb ihk =>
    have hl : ∀ (ts : List (Fin l.trips)) (M : Mem F) (Q : PUnit.{1} → sProp 𝕄),
        P M ⊢ iprop((P (runs (fun t => (body t).eff) ts M) -∗ Q ⟨⟩)
          -∗ wp frame (wpE defs 𝒱 (c : Thread nD τ) bd) E (Scf.forFrom (fun t _ => (body t).toProg) ts ⟨⟩) Q) := by
      intro ts
      induction ts with
      | nil => intro M Q; rw [Scf.forFrom_nil, wp_ret, runs]; iintro H Hk; imodintro; iapply Hk; iexact H
      | cons t ts ih =>
        intro M Q
        rw [Scf.forFrom_cons, wp_bind]
        iintro H Hk
        iapply (ihb t M _) $$ H
        iintro H
        iapply (ih _ Q) $$ H
        iexact Hk
    unfold toProg
    rw [wp_bind, Scf.Loop.for, Scf.for_eq]
    iintro H Hk
    iapply (hl _ M _) $$ H
    iintro H
    iapply (ihk _ _ Q) $$ H
    iexact Hk
  | cond v a k iha ihk =>
    unfold toProg
    rw [wp_bind]
    by_cases h : v = 1#1
    · rw [if_pos h]
      iintro H Hk
      iapply (iha M _) $$ H
      iintro H
      iapply (ihk _ _ Q) $$ H
      simp only [eff, if_pos h]
      iexact Hk
    · rw [if_neg h, show (pure PUnit.unit : Prog (TpuEff nD τ sig (Elt F) Λ .tc) PUnit.{1}) = .ret ⟨⟩ from rfl, wp_ret]
      iintro H Hk
      imodintro
      iapply (ihk _ _ Q) $$ H
      simp only [eff, if_neg h]
      iexact Hk

end Sound

end Pg

end Cert.Body
-- ==== Proof.Body.lean ====
/-
  The kernel's body written with its structure: recursion over tiles, chunks of keys, pieces of a chunk and the two halves
  of a tile, where the printed program spells every trip out.
-/
module

public import proofs.«01_k».proof.Proof.Run

@[expose] public section

noncomputable section

namespace Cert.Body

open Idealize.ShloMosaic Idealize.ShloMosaic.TcCoe Idealize.SL.Sem
open Cert.KernelIdeal Cert.KernelIdeal.Facts Cert.KernelIdeal.Shapes1.Facts₀ Cert.KernelIdeal.K0.Facts₀

variable {F : FTy → Type} [FloatOps F] {sig : RefSig} [Cert.KernelIdeal.Facts]

theorem inb2 {o0 o1 z0 z1 n0 n1 : ℕ} (h0 : o0 + z0 ≤ n0) (h1 : o1 + z1 ≤ n1) :
    ∀ a : Fin 2, (![o0, o1] : Fin 2 → ℕ) a + (![z0, z1] : Fin 2 → ℕ) a ≤ (![n0, n1] : Fin 2 → ℕ) a :=
  fun a => match a with | 0 => h0 | 1 => h1

theorem inb3 {o0 o1 o2 z0 z1 z2 n0 n1 n2 : ℕ} (h0 : o0 + z0 ≤ n0) (h1 : o1 + z1 ≤ n1) (h2 : o2 + z2 ≤ n2) :
    ∀ a : Fin 3, (![o0, o1, o2] : Fin 3 → ℕ) a + (![z0, z1, z2] : Fin 3 → ℕ) a ≤ (![n0, n1, n2] : Fin 3 → ℕ) a :=
  fun a => match a with | 0 => h0 | 1 => h1 | 2 => h2

theorem inb4 {o0 o1 o2 o3 z0 z1 z2 z3 n0 n1 n2 n3 : ℕ} (h0 : o0 + z0 ≤ n0) (h1 : o1 + z1 ≤ n1) (h2 : o2 + z2 ≤ n2)
    (h3 : o3 + z3 ≤ n3) :
    ∀ a : Fin 4, (![o0, o1, o2, o3] : Fin 4 → ℕ) a + (![z0, z1, z2, z3] : Fin 4 → ℕ) a ≤ (![n0, n1, n2, n3] : Fin 4 → ℕ) a :=
  fun a => match a with | 0 => h0 | 1 => h1 | 2 => h2 | 3 => h3

/-- What a program over the buffers `A` may do: the operations of a monad in which the body is written once, and read as data
    (`Pg.ops`) or as the printed program (`progOps`). -/
structure Ops (F : FTy → Type) [FloatOps F] (A : ∀ b : Bf, Memref sig .tc .vmem (shp b) (ety b)) (M : Type → Type 1) where
  ld (b : Bf) (r : LoadRect (shp b)) (h : 0 < r.shape.numel) : M (r.shape.Idx → Elt F (ety b))
  st (b : Bf) (r : Rect (shp b)) (w : r.shape.Idx → Elt F (ety b)) (h : ((A b).access r).Stores Finset.univ) : M PUnit.{1}
  ldw (b : Bf) (R : Rect (shp b)) (hR : ∀ a, R.stride a = 1) (s : Shape) (hs : R.shape.Squeezes s) (r : LoadRect s)
    (h : 0 < r.shape.numel) : M (r.shape.Idx → Elt F (ety b))
  stw (b : Bf) (R : Rect (shp b)) (hR : ∀ a, R.stride a = 1) (s : Shape) (hs : R.shape.Squeezes s) (r : Rect s)
    (w : r.shape.Idx → Elt F (ety b)) (h : ((((A b).slice R hR).squeeze s hs).access r).Stores Finset.univ) : M PUnit.{1}
  loop (l : Scf.Loop 32) (hok : l.OK) (body : Fin l.trips → M PUnit.{1}) : M PUnit.{1}
  cond (v : BitVec 1) (a : M PUnit.{1}) : M PUnit.{1}

variable {A : ∀ b : Bf, Memref sig .tc .vmem (shp b) (ety b)} {M : Type → Type 1}

/-- The body as data -/
def Pg.ops : Ops F A (Pg F A) where
  ld b r h := .ld b r h .ret
  st b r w h := .st b r w h .ret
  ldw b R hR s hs r h := .ldw b R hR s hs r h .ret
  stw b R hR s hs r w h := .stw b R hR s hs r w h .ret
  loop l hok body := .loop l hok body .ret
  cond v a := .cond v a .ret

/-- and as the printed program. -/
def progOps {nD : Nat} {τ : Topo} {Λ : Labels} : Ops F A (Prog (TpuEff nD τ sig (Elt F) Λ .tc)) where
  ld b r h := Prog.lift (.load (A b) r (View.loadsAt_vmem h))
  st b r w h := Prog.lift (.store (A b) r w Finset.univ h (.inl rfl))
  ldw b R hR s hs r h := Prog.lift (.load (((A b).slice R hR).squeeze s hs) r (View.loadsAt_vmem h))
  stw b R hR s hs r w h := Prog.lift (.store (((A b).slice R hR).squeeze s hs) r w Finset.univ h (.inl rfl))
  loop l hok body := Scf.Loop.for l hok ⟨⟩ fun t _ => body t
  cond v a := if v = 1#1 then a else pure ⟨⟩

variable (O : Ops F A M)

/-- Load a block of a buffer. -/
def rd (b : Bf) (off sz : Fin (shp b).rank → ℕ) (inb : ∀ a, off a + sz a ≤ (shp b).size a)
    (h : 0 < (⟨(shp b).rank, sz⟩ : Shape).numel) : M (Vec F ⟨(shp b).rank, sz⟩ (ety b)) :=
  O.ld b (Rect.unit (s := shp b) off sz inb).toLoadRect h

/-- Store a block of a buffer of 32-bit elements. -/
def wr (b : Bf) (off sz : Fin (shp b).rank → ℕ) (inb : ∀ a, off a + sz a ≤ (shp b).size a)
    (h : 0 < (⟨(shp b).rank, sz⟩ : Shape).numel) (he : (ety b).bits = 32) (w : Vec F ⟨(shp b).rank, sz⟩ (ety b)) :
    M PUnit.{1} :=
  O.st b (Rect.unit (s := shp b) off sz inb) w (View.stores_vmem_bits_univ h he)

/-- Store a block of whole words of a buffer of narrower elements. -/
def wrn (b : Bf) (hA : (A b).IsWhole) (off sz : Fin (shp b).rank → ℕ) (inb : ∀ a, off a + sz a ≤ (shp b).size a)
    (h : 0 < (⟨(shp b).rank, sz⟩ : Shape).numel)
    (hp : (Rect.unit (s := shp b) off sz inb).PackedRows (ety b).packing) (w : Vec F ⟨(shp b).rank, sz⟩ (ety b)) :
    M PUnit.{1} :=
  O.st b (Rect.unit (s := shp b) off sz inb) w (View.stores_vmem h (hA.storeExact_slice rfl _ hp) (fun _ => rfl))

/-- Load from a buffer of 32-bit elements through a window that fixes the first coordinate of it. -/
def rdw (b : Bf) (Off Sz : Fin (shp b).rank → ℕ) (Inb : ∀ a, Off a + Sz a ≤ (shp b).size a) (s : Shape)
    (hs : (⟨(shp b).rank, Sz⟩ : Shape).Squeezes s) (off sz : Fin s.rank → ℕ) (inb : ∀ a, off a + sz a ≤ s.size a)
    (h : 0 < (⟨s.rank, sz⟩ : Shape).numel) : M (Vec F ⟨s.rank, sz⟩ (ety b)) :=
  O.ldw b (Rect.unit (s := shp b) Off Sz Inb) (fun _ => rfl) s hs (Rect.unit (s := s) off sz inb).toLoadRect h

/-- Store through such a window. -/
def wrw (b : Bf) (Off Sz : Fin (shp b).rank → ℕ) (Inb : ∀ a, Off a + Sz a ≤ (shp b).size a) (s : Shape)
    (hs : (⟨(shp b).rank, Sz⟩ : Shape).Squeezes s) (off sz : Fin s.rank → ℕ) (inb : ∀ a, off a + sz a ≤ s.size a)
    (h : 0 < (⟨s.rank, sz⟩ : Shape).numel) (he : (ety b).bits = 32) (w : Vec F ⟨s.rank, sz⟩ (ety b)) : M PUnit.{1} :=
  O.stw b (Rect.unit (s := shp b) Off Sz Inb) (fun _ => rfl) s hs (Rect.unit (s := s) off sz inb) w
    (View.stores_vmem_bits_univ h he)

/-- Trips `r`, `r + 1`, …, `r + n - 1` of a loop that carries a value. -/
def iter {σ : Type} [Monad M] (N : ℕ) (body : (r : ℕ) → r < N → σ → M σ) : (n r : ℕ) → r + n ≤ N → σ → M σ
  | 0, _, _, x => pure x
  | n + 1, r, h, x => do
      let y ← body r (by omega) x
      iter N body n (r + 1) (by omega) y

/-- All `N` trips of a loop. -/
def iterAll {σ : Type} [Monad M] (N : ℕ) (body : (r : ℕ) → r < N → σ → M σ) (x : σ) : M σ :=
  iter N body N 0 (by omega) x

variable [Monad M] (hA : ∀ b, (A b).IsWhole)

theorem slices2 {o0 o1 z0 z1 n0 n1 : ℕ} (h0 : o0 + z0 ≤ n0) (h1 : o1 + z1 ≤ n1) :
    (⟨2, ![n0, n1]⟩ : Shape).Slices ![o0, o1] ⟨2, ![z0, z1]⟩ :=
  ⟨rfl, fun a => match a with | ⟨0, _⟩ => h0 | ⟨1, _⟩ => h1⟩

theorem packed2 {n0 n1 o0 z0 z1 : ℕ} {inb} (h0 : 4 ∣ o0) (h1 : 4 ∣ z0) :
    (Rect.unit (s := ⟨2, ![n0, n1]⟩) ![o0, 0] ![z0, z1] inb).PackedRows (EltTy.packing .fp8e4m3) :=
  .inr ⟨le_rfl, rfl, .inl ⟨h0, h1⟩⟩

theorem packed3 {n0 n1 n2 o0 o1 o2 z0 z1 z2 : ℕ} {inb} (h0 : 4 ∣ o1) (h1 : 4 ∣ z1) :
    (Rect.unit (s := ⟨3, ![n0, n1, n2]⟩) ![o0, o1, o2] ![z0, z1, z2] inb).PackedRows (EltTy.packing .fp8e4m3) :=
  have h2 : 2 ≤ (⟨3, ![n0, n1, n2]⟩ : Shape).rank := by show 2 ≤ 3; omega
  .inr ⟨h2, rfl, .inl ⟨h0, h1⟩⟩

theorem packed3b {n0 n1 n2 o0 o1 o2 z0 z1 z2 : ℕ} {inb} (h0 : 2 ∣ o1) (h1 : 2 ∣ z1) :
    (Rect.unit (s := ⟨3, ![n0, n1, n2]⟩) ![o0, o1, o2] ![z0, z1, z2] inb).PackedRows (EltTy.packing .bf16) :=
  have h2 : 2 ≤ (⟨3, ![n0, n1, n2]⟩ : Shape).rank := by show 2 ≤ 3; omega
  .inr ⟨h2, rfl, .inl ⟨h0, h1⟩⟩

theorem pos_of {d : ℕ} {z : Fin d → ℕ} (h : ∀ a, 0 < z a) : 0 < (⟨d, z⟩ : Shape).numel := by
  exact Nat.pos_of_ne_zero fun h0 => by
    obtain ⟨a, -, ha⟩ := Finset.prod_eq_zero_iff.mp (show (∏ a, z a) = 0 from h0)
    exact absurd ha (h a).ne'

/-- The scalar constants of the body: single-precision bits. -/
abbrev cf (w : BitVec 32) : F .f32 := Scalar.ofBits .f32 w

/-! ## Scratch contents -/

/-- The diagonal of ones. -/
def eyeVal : FVec F S256x256 .fp8e4m3 :=
  truncf .fp8e4m3 (select (cmpi .eq (iota .tc S256x256 32 [0] iota_S256x256_d0_w32) (iota .tc S256x256 32 [1] iota_S256x256_d1_w32))
    (broadcast S256x256 (cf 0x3F800000#32)) (broadcast S256x256 (cf 0x00000000#32))) bitsLt_fp8e4m3_f32

def eyeP : M PUnit.{1} := do
  let _ ← rd O .eye ![0, 0] S256x256.size (inb2 le_rfl le_rfl) h_S256x256
  wrn O .eye (hA .eye) ![0, 0] S256x256.size (inb2 le_rfl le_rfl) h_S256x256 (packed2 (by norm_num) (by norm_num))
    (shapeCast S256x256 eyeVal shapeCasts_S256x256_S256x256)

/-- Two batches' 64 features by 256 keys, one above the other, turned. -/
def ktVal (eye : FVec F S256x256 .fp8e4m3) (a b : FVec F S64x256 .fp8e4m3) : FVec F S256x128 .fp8e4m3 :=
  truncf .fp8e4m3 (matmul dot_S256x256_S128x256_S256x128_1_1_0_0_n_n none eye
    (concatenate S128x256 0 [⟨S64x256, a⟩, ⟨S64x256, b⟩] concatenates_S64x256_S64x256_S128x256_d0)
    (constant S256x128 .f32 0x00000000#32)) bitsLt_fp8e4m3_f32

def ktP (c : ℕ) (hc : c < 4) : M PUnit.{1} := do
  let a ← rd O .k ![0, 0, 0, 256 * c] S1x1x64x256.size (inb4 (by norm_num) (by norm_num) (by norm_num) (by omega)) h_S1x1x64x256
  let b ← rd O .k ![1, 0, 0, 256 * c] S1x1x64x256.size (inb4 (by norm_num) (by norm_num) (by norm_num) (by omega)) h_S1x1x64x256
  let e ← rd O .eye ![0, 0] S256x256.size (inb2 le_rfl le_rfl) h_S256x256
  let _ ← rd O .kt ![256 * c, 0] S256x128.size (inb2 (by omega) le_rfl) h_S256x128
  wrn O .kt (hA .kt) ![256 * c, 0] S256x128.size (inb2 (by omega) le_rfl) h_S256x128 (packed2 (by omega) (by norm_num))
    (shapeCast S256x128 (ktVal e (shapeCast S64x256 a shapeCasts_S1x1x64x256_S64x256)
      (shapeCast S64x256 b shapeCasts_S1x1x64x256_S64x256)) shapeCasts_S256x128_S256x128)

/-- A row spread over 64 rows. -/
def spread (a : Vec F S1x1x128 .f32) : FVec F S64x128 .f32 :=
  broadcastTo S64x128 (shapeCast S1x128 (shapeCast S1x128 a shapeCasts_S1x1x128_S1x128) shapeCasts_S1x128_S1x128)
    broadcasts_S1x128_S64x128

def ksbVal (a b : Vec F S1x1x128 .f32) : FVec F S128x128 .f32 :=
  transpose S128x128 [1, 0] (concatenate S128x128 0 [⟨S64x128, spread a⟩, ⟨S64x128, spread b⟩]
    concatenates_S64x128_S64x128_S128x128_d0) transposes_S128x128_p1_0_S128x128

def ksbP (c : ℕ) (hc : c < 8) : M PUnit.{1} := do
  let a ← rd O .ks ![0, 0, 128 * c] S1x1x128.size (inb3 (by norm_num) (by norm_num) (by omega)) h_S1x1x128
  let b ← rd O .ks ![0, 1, 128 * c] S1x1x128.size (inb3 (by norm_num) (by norm_num) (by omega)) h_S1x1x128
  let _ ← rd O .ksb ![128 * c, 0] S128x128.size (inb2 (by omega) le_rfl) h_S128x128
  wr O .ksb ![128 * c, 0] S128x128.size (inb2 (by omega) le_rfl) h_S128x128 rfl
    (shapeCast S128x128 (ksbVal a b) shapeCasts_S128x128_S128x128)

/-! ## Query tiles -/

/-- The lanes of the first batch -/
def lo : IVec S64x128 1 := cmpi .slt (iota .tc S64x128 32 [1] iota_S64x128_d1_w32) (broadcast S64x128 64#32)

/-- and of a row. -/
def lo1 : IVec S1x128 1 := cmpi .slt (iota .tc S1x128 32 [1] iota_S1x128_d1_w32) (broadcast S1x128 64#32)

def rot (x : FVec F S64x128 .f32) : FVec F S64x128 .f32 := dynamicRotate 1 64#32 none x rotates_S64x128_d1
def rot1 (x : FVec F S1x128 .f32) : FVec F S1x128 .f32 := dynamicRotate 1 64#32 none x rotates_S1x128_d1

/-- Block-diagonal queries of two groups: each group's 64 queries of both batches. -/
def qbVal (x y : Vec F S1x1x64x128 .fp8e4m3) : FVec F S128x256 .fp8e4m3 :=
  let q0 : FVec F S64x128 .f32 := extf .f32 (shapeCast S64x128 x shapeCasts_S1x1x64x128_S64x128) bitsLt_fp8e4m3_f32
  let q1 : FVec F S64x128 .f32 := extf .f32 (shapeCast S64x128 y shapeCasts_S1x1x64x128_S64x128) bitsLt_fp8e4m3_f32
  let z : FVec F S64x128 .f32 := broadcast S64x128 (cf 0x00000000#32)
  truncf .fp8e4m3 (concatenate S128x256 0
    [⟨S64x256, concatenate S64x256 1 [⟨S64x128, select lo q0 z⟩, ⟨S64x128, select lo (rot q0) z⟩] concatenates_S64x128_S64x128_S64x256_d1⟩,
     ⟨S64x256, concatenate S64x256 1 [⟨S64x128, select lo z (rot q1)⟩, ⟨S64x128, select lo z q1⟩] concatenates_S64x128_S64x128_S64x256_d1⟩]
    concatenates_S64x256_S64x256_S128x256_d0) bitsLt_fp8e4m3_f32

def row0 (a b : Vec F S1x1x128 .f32) : FVec F S1x128 .f32 :=
  select lo1 (shapeCast S1x128 a shapeCasts_S1x1x128_S1x128) (rot1 (shapeCast S1x128 b shapeCasts_S1x1x128_S1x128))
def row1 (a b : Vec F S1x1x128 .f32) : FVec F S1x128 .f32 :=
  select lo1 (rot1 (shapeCast S1x128 a shapeCasts_S1x1x128_S1x128)) (shapeCast S1x128 b shapeCasts_S1x1x128_S1x128)

/-- A tile's queries and their scale rows. -/
structure QT (F : FTy → Type) where
  qb : FVec F S128x256 .fp8e4m3
  r0 : FVec F S1x128 .f32
  r1 : FVec F S1x128 .f32

def queryP (t : ℕ) (ht : t < 8) : M (QT F) := do
  let x ← rd O .q ![0, 0, 0, 128 * t] S1x1x64x128.size (inb4 (by norm_num) (by norm_num) (by norm_num) (by omega)) h_S1x1x64x128
  let y ← rd O .q ![1, 0, 0, 128 * t] S1x1x64x128.size (inb4 (by norm_num) (by norm_num) (by norm_num) (by omega)) h_S1x1x64x128
  let a ← rd O .qs ![0, 0, 128 * t] S1x1x128.size (inb3 (by norm_num) (by norm_num) (by omega)) h_S1x1x128
  let b ← rd O .qs ![0, 1, 128 * t] S1x1x128.size (inb3 (by norm_num) (by norm_num) (by omega)) h_S1x1x128
  pure ⟨qbVal x y, row0 a b, row1 a b⟩

/-! ## The penalty -/

/-- Floor division of words by 64, as signed division computes it. -/
def fdiv64 (x : IVec S128x256 32) : IVec S128x256 32 :=
  let d := divsi x (broadcast S128x256 64#32)
  let sgn := subi (extui 32 (cmpi .sgt x (broadcast S128x256 0#32)) natLt_1_32) (extui 32 (cmpi .slt x (broadcast S128x256 0#32)) natLt_1_32)
  let s64 : BitVec 32 := Scalar.subi (Scalar.extui (Scalar.cmpi .sgt 64#32 0#32)) (Scalar.extui (Scalar.cmpi .slt 64#32 0#32))
  select (andi (cmpi .ne sgn (broadcast S128x256 s64)) (cmpi .ne (remsi x (broadcast S128x256 64#32)) (broadcast S128x256 0#32)))
    (subi d (broadcast S128x256 1#32)) d

/-- The remainder with the divisor's sign, by 128 -/
def mod128 (x : IVec S128x256 32) : IVec S128x256 32 :=
  let n : BitVec 32 := Scalar.select (Scalar.cmpi .eq 128#32 0#32) 1#32 128#32
  let r := remsi x (broadcast S128x256 n)
  select (andi (xori (cmpi .slt r (broadcast S128x256 0#32))
      (broadcastTo S128x256 (broadcast S128x256 (Scalar.cmpi .slt n 0#32)) broadcasts_S128x256_S128x256))
    (cmpi .ne r (broadcast S128x256 0#32))) (addi r (broadcast S128x256 n)) r

/-- and by 64. -/
def mod64 (x : IVec S64x128 32) : IVec S64x128 32 :=
  let n : BitVec 32 := Scalar.select (Scalar.cmpi .eq 64#32 0#32) 1#32 64#32
  let r := remsi x (broadcast S64x128 n)
  select (andi (xori (cmpi .slt r (broadcast S64x128 0#32))
      (broadcastTo S64x128 (broadcast S64x128 (Scalar.cmpi .slt n 0#32)) broadcasts_S64x128_S64x128))
    (cmpi .ne r (broadcast S64x128 0#32))) (addi r (broadcast S64x128 n)) r

/-- Which of a group's queries a running sum takes (columns below 128), and which its total (the others). -/
def uVal : FVec F S128x256 .f32 :=
  let r := iota .tc S128x256 32 [0] iota_S128x256_d0_w32
  let c := iota .tc S128x256 32 [1] iota_S128x256_d1_w32
  select (andi (cmpi .eq (fdiv64 r) (fdiv64 (mod128 c))) (ori (cmpi .sge c (broadcast S128x256 128#32)) (cmpi .slt r c)))
    (broadcast S128x256 (cf 0x3F800000#32)) (broadcast S128x256 (cf 0x00000000#32))

def jIdx (x : BitVec 32) : IVec S64x128 32 :=
  addi (iota .tc S64x128 32 [0] iota_S64x128_d0_w32) (broadcast S64x128 (Scalar.muli x 64#32))
def iIdx (g : ℕ) : IVec S64x128 32 :=
  addi (mod64 (iota .tc S64x128 32 [1] iota_S64x128_d1_w32)) (broadcast S64x128 (BitVec.ofNat 32 (64 * g)))

/-- Head 0's scores in the penalty: nothing on and above the diagonal or at key 0. -/
def sVal (x : BitVec 32) (g : ℕ) (kt : FVec F S64x128 .fp8e4m3) (qg : FVec F S128x128 .fp8e4m3) (qs : FVec F S1x128 .f32)
    (ks : FVec F S64x128 .f32) : FVec F S64x128 .f32 :=
  let logit := mulf (mulf (matmul dot_S64x128_S128x128_S64x128_1_0_0_1_n_n none kt qg (constant S64x128 .f32 0x00000000#32))
    (broadcastTo S64x128 qs broadcasts_S1x128_S64x128)) ks
  select (andi (cmpi .sgt (jIdx x) (broadcast S64x128 0#32)) (cmpi .slt (jIdx x) (iIdx g)))
    (maximumf logit (broadcast S64x128 (cf 0x00000000#32))) (broadcast S64x128 (cf 0x00000000#32))

def runVal (u : FVec F S128x256 .f32) (s : FVec F S64x128 .f32) : FVec F S64x256 .f32 :=
  matmul dot_S64x128_S128x256_S64x256_1_0_0_1_n_n (some .fp32) s u (constant S64x256 .f32 0x00000000#32)

def fVal (cL : F .f32) (x : BitVec 32) (g : ℕ) (run : FVec F S64x256 .f32) (c : FVec F S64x128 .f32) : FVec F S64x128 .f32 :=
  select (cmpi .sle (jIdx x) (iIdx g))
    (mulf (addf c (extractStridedSlice S64x128 ![0, 0] run slices_S64x256_o0_0_S64x128)) (broadcast S64x128 cL))
    (broadcast S64x128 (cf 0x7F800000#32))

/-- The row a trip starts at. -/
abbrev wOf (x : BitVec 32) : ℕ := (Scalar.indexCast (Scalar.muli x 64#32)).toNat

/-- One block of 64 keys against one group of queries. -/
def penP (cL : F .f32) (u : FVec F S128x256 .f32) (qs : FVec F S1x128 .f32) (qg : FVec F S128x128 .fp8e4m3) (g : ℕ) (hg : g < 16)
    (x : BitVec 32) (hx : wOf x + 64 ≤ 1024) : M PUnit.{1} := do
  let kt ← rd O .kt ![wOf x, 0] S64x128.size (inb2 hx le_rfl) h_S64x128
  let ks ← rd O .ksb ![wOf x, 0] S64x128.size (inb2 hx le_rfl) h_S64x128
  let c ← rd O .c ![wOf x, 0] S64x128.size (inb2 hx le_rfl) h_S64x128
  let _ ← rd O .f ![g, wOf x, 0] S1x64x128.size (inb3 (by omega) hx le_rfl) h_S1x64x128
  wr O .f ![g, wOf x, 0] S1x64x128.size (inb3 (by omega) hx le_rfl) h_S1x64x128 rfl
    (shapeCast S1x64x128 (fVal cL x g (runVal u (sVal x g kt qg qs ks)) c) shapeCasts_S64x128_S1x64x128)
  let c ← rd O .c ![wOf x, 0] S64x128.size (inb2 hx le_rfl) h_S64x128
  let _ ← rd O .c ![wOf x, 0] S64x128.size (inb2 hx le_rfl) h_S64x128
  wr O .c ![wOf x, 0] S64x128.size (inb2 hx le_rfl) h_S64x128 rfl
    (shapeCast S64x128 (addf c (extractStridedSlice S64x128 ![0, 128] (runVal u (sVal x g kt qg qs ks)) slices_S64x256_o0_128_S64x128))
      shapeCasts_S64x128_S64x128)

/-- A group's loop: `n` trips. -/
abbrev penLoop (n : ℕ) : Scf.Loop 32 := ⟨0#32, Scalar.addi 0#32 (BitVec.ofNat 32 n), 1#32⟩

theorem penLoop_trips (n : ℕ) (hn : n ≤ 16) : (penLoop n).trips ≤ n := by
  interval_cases n <;> decide

theorem penLoop_ok (n : ℕ) (hn : n ≤ 16) : (penLoop n).OK := by
  interval_cases n <;> decide

theorem wOf_iv (n : ℕ) (hn : n ≤ 16) (k : Fin (penLoop n).trips) : wOf (Scf.iv 0#32 1#32 k) + 64 ≤ 1024 := by
  have : k.val < 16 := lt_of_lt_of_le k.isLt ((penLoop_trips n hn).trans hn)
  rcases k with ⟨k, hk⟩
  simp only at this
  show wOf (Scf.iv 0#32 1#32 k) + 64 ≤ 1024
  interval_cases k <;> decide

/-- Group 0's only block, or a later group's loop. -/
def penGroup (cL : F .f32) (u : FVec F S128x256 .f32) (qs : FVec F S1x128 .f32) (qg : FVec F S128x128 .fp8e4m3) :
    (g : ℕ) → g < 16 → M PUnit.{1}
  | 0, _ => penP O cL u qs qg 0 (by omega) 0#32 (by decide)
  | g + 1, hg => O.loop (penLoop (g + 2)) (penLoop_ok (g + 2) (by omega))
      (fun k => penP O cL u qs qg (g + 1) hg (Scf.iv 0#32 1#32 k) (wOf_iv (g + 2) (by omega) k))

def penTile (cL : F .f32) (u : FVec F S128x256 .f32) (t : ℕ) (ht : t < 8) : M PUnit.{1} := do
  let Q ← queryP O t ht
  penGroup O cL u (mulf Q.r0 (broadcast S1x128 (cf 0x3E000000#32)))
    (extractStridedSlice S128x128 ![0, 0] Q.qb slices_S128x256_o0_0_S128x128) (2 * t) (by omega)
  penGroup O cL u (mulf Q.r1 (broadcast S1x128 (cf 0x3E000000#32)))
    (extractStridedSlice S128x128 ![0, 128] Q.qb slices_S128x256_o0_128_S128x128) (2 * t + 1) (by omega)

/-- The accumulated scores, turned and stored as the second result. -/
def selP (c : ℕ) (hc : c < 8) : M PUnit.{1} := do
  let x ← rd O .c ![128 * c, 0] S128x128.size (inb2 (by omega) le_rfl) h_S128x128
  let y := transpose S128x128 [1, 0] x transposes_S128x128_p1_0_S128x128
  let _ ← rd O .sel ![0, 128 * c] S1x128.size (inb2 (by norm_num) (by omega)) h_S1x128
  wr O .sel ![0, 128 * c] S1x128.size (inb2 (by norm_num) (by omega)) h_S1x128 rfl
    (extractStridedSlice S1x128 ![0, 0] y slices_S128x128_o0_0_S1x128)
  let _ ← rd O .sel ![1, 128 * c] S1x128.size (inb2 (by norm_num) (by omega)) h_S1x128
  wr O .sel ![1, 128 * c] S1x128.size (inb2 (by norm_num) (by omega)) h_S1x128 rfl
    (extractStridedSlice S1x128 ![64, 0] y slices_S128x128_o64_0_S1x128)

/-- The first step's penalty. -/
def penaltyP (cL : F .f32) : M PUnit.{1} := do
  let _ ← rd O .c ![0, 0] S1024x128.size (inb2 le_rfl le_rfl) h_S1024x128
  wr O .c ![0, 0] S1024x128.size (inb2 le_rfl le_rfl) h_S1024x128 rfl
    (shapeCast S1024x128 (broadcast S1024x128 (cf 0x00000000#32)) shapeCasts_S1024x128_S1024x128)
  iterAll 8 (fun t ht _ => penTile O cL uVal t ht) ⟨⟩
  iterAll 8 (fun c hc _ => selP O c hc) ⟨⟩

/-! ## A tile's attention -/

/-- Scale, mask and offset of one piece of 32 keys. -/
def zVal (x : FVec F S32x128 .f32) (qs : FVec F S1x128 .f32) (ks : FVec F S32x128 .f32) (f : Vec F S1x32x128 .f32) :
    FVec F S32x128 .f32 :=
  subf (mulf (mulf x (broadcastTo S32x128 qs broadcasts_S1x128_S32x128)) ks) (shapeCast S32x128 f shapeCasts_S1x32x128_S32x128)

/-- The four blocks of eight rows of a piece, folded in one after another. -/
def fold4 (op : FVec F S8x128 .f32 → FVec F S8x128 .f32 → FVec F S8x128 .f32) (m : FVec F S8x128 .f32) (z : FVec F S32x128 .f32) :
    FVec F S8x128 .f32 :=
  op (op (op (op m (extractStridedSlice S8x128 ![0, 0] z slices_S32x128_o0_0_S8x128))
    (extractStridedSlice S8x128 ![8, 0] z slices_S32x128_o8_0_S8x128))
    (extractStridedSlice S8x128 ![16, 0] z slices_S32x128_o16_0_S8x128))
    (extractStridedSlice S8x128 ![24, 0] z slices_S32x128_o24_0_S8x128)

/-- Load a piece of the scores. -/
def rdx (par gi key : ℕ) (hp : par < 2) (hg : gi < 2) (hk : key + 32 ≤ 1024) : M (Vec F S1x32x128 .f32) :=
  rdw O .ex ![par, 0, 0, 0] S1x2x1024x128.size (inb4 (by omega) (by norm_num) (by norm_num) (by norm_num)) S2x1024x128
    squeezes_S1x2x1024x128_S2x1024x128 ![gi, key, 0] S1x32x128.size (inb3 (by omega) hk le_rfl) h_S1x32x128

/-- Store a piece of the scores. -/
def wrx (par gi key : ℕ) (hp : par < 2) (hg : gi < 2) (hk : key + 32 ≤ 1024) (z : FVec F S32x128 .f32) : M PUnit.{1} := do
  let _ ← rdx O par gi key hp hg hk
  wrw O .ex ![par, 0, 0, 0] S1x2x1024x128.size (inb4 (by omega) (by norm_num) (by norm_num) (by norm_num)) S2x1024x128
    squeezes_S1x2x1024x128_S2x1024x128 ![gi, key, 0] S1x32x128.size (inb3 (by omega) hk le_rfl) h_S1x32x128 rfl
    (shapeCast S1x32x128 z shapeCasts_S32x128_S1x32x128)

def scoreOne (t gi key : ℕ) (ht : t < 8) (hg : gi < 2) (hk : key + 32 ≤ 1024) (x : FVec F S32x128 .f32) (qs : FVec F S1x128 .f32)
    (ks : FVec F S32x128 .f32) (m : FVec F S8x128 .f32) : M (FVec F S8x128 .f32) := do
  let f ← rd O .f ![2 * t + gi, key, 0] S1x32x128.size (inb3 (by omega) hk le_rfl) h_S1x32x128
  wrx O (t % 2) gi key (Nat.mod_lt _ (by norm_num)) hg hk (zVal x qs ks f)
  pure (fold4 maximumf m (zVal x qs ks f))

/-- One piece of 32 keys; the first group's queries see it when `both`. -/
def scorePiece (t key : ℕ) (ht : t < 8) (hk : key + 32 ≤ 1024) (both : Bool) (x0 x1 : FVec F S32x128 .f32) (qs0 qs1 : FVec F S1x128 .f32)
    (m : FVec F S8x128 .f32 × FVec F S8x128 .f32) : M (FVec F S8x128 .f32 × FVec F S8x128 .f32) := do
  let ks ← rd O .ksb ![key, 0] S32x128.size (inb2 hk le_rfl) h_S32x128
  let m0 ← bif both then scoreOne O t 0 key ht (by norm_num) hk x0 qs0 ks m.1 else pure m.1
  let m1 ← scoreOne O t 1 key ht (by norm_num) hk x1 qs1 ks m.2
  pure (m0, m1)

/-- A chunk of 256 keys -/
def scoreChunk (t c : ℕ) (ht : t < 8) (hc : c < 4) (Q : QT F) (qs0 qs1 : FVec F S1x128 .f32)
    (m : FVec F S8x128 .f32 × FVec F S8x128 .f32) : M (FVec F S8x128 .f32 × FVec F S8x128 .f32) := do
  let kt ← rd O .kt ![256 * c, 0] S256x128.size (inb2 (by omega) le_rfl) h_S256x128
  let acc : FVec F S256x256 .f32 := matmul dot_S256x128_S128x256_S256x256_1_0_0_1_n_n none kt Q.qb (constant S256x256 .f32 0x00000000#32)
  iterAll 8 (fun r hr m => scorePiece O t (256 * c + 32 * r) ht (by omega) (decide (8 * c + r < 4 * t + 2))
    (extractStridedSlice S32x128 ![32 * r, 0] acc (slices2 (by omega) (by norm_num)))
    (extractStridedSlice S32x128 ![32 * r, 128] acc (slices2 (by omega) (by norm_num))) qs0 qs1 m) m

/-- and the last 128 keys of an even tile. -/
def scoreHalf (t : ℕ) (ht : t < 8) (Q : QT F) (qs0 qs1 : FVec F S1x128 .f32)
    (m : FVec F S8x128 .f32 × FVec F S8x128 .f32) : M (FVec F S8x128 .f32 × FVec F S8x128 .f32) := do
  let kt ← rd O .kt ![128 * t, 0] S128x128.size (inb2 (by omega) le_rfl) h_S128x128
  let acc : FVec F S128x256 .f32 := matmul dot_S128x128_S128x256_S128x256_1_0_0_1_n_n none kt Q.qb (constant S128x256 .f32 0x00000000#32)
  iterAll 4 (fun r hr m => scorePiece O t (128 * t + 32 * r) ht (by omega) (decide (r < 2))
    (extractStridedSlice S32x128 ![32 * r, 0] acc (slices2 (by omega) (by norm_num)))
    (extractStridedSlice S32x128 ![32 * r, 128] acc (slices2 (by omega) (by norm_num))) qs0 qs1 m) m

def scoreP (t : ℕ) (ht : t < 8) (Q : QT F) (qs0 qs1 : FVec F S1x128 .f32) : M (FVec F S8x128 .f32 × FVec F S8x128 .f32) := do
  let m ← iterAll ((t + 1) / 2) (fun c hc m => scoreChunk O t c ht (by omega) Q qs0 qs1 m)
    (broadcast S8x128 (cf 0xFF800000#32), broadcast S8x128 (cf 0xFF800000#32))
  bif decide (t % 2 = 0) then scoreHalf O t ht Q qs0 qs1 m else pure m

/-- The largest score of each query. -/
def topOf (m : FVec F S8x128 .f32) : FVec F S1x128 .f32 :=
  shapeCast S1x128 (multiReduction .maximumf [0] S128 m 0xFF800000#32 reduces_S8x128_S128 (.inl rfl) rfl) shapeCasts_S128_S1x128

def totalOf (s : FVec F S8x128 .f32) : FVec F S1x128 .f32 :=
  shapeCast S1x128 (multiReduction .add [0] S128 s 0x00000000#32 reduces_S8x128_S128 (.inl rfl) rfl) shapeCasts_S128_S1x128

def exVal (x : Vec F S1x32x128 .f32) (top : FVec F S1x128 .f32) : FVec F S32x128 .f32 :=
  exp2 (subf (shapeCast S32x128 x shapeCasts_S1x32x128_S32x128) (broadcastTo S32x128 top broadcasts_S1x128_S32x128))

/-- Exponentials of a group's scores, and their sums. -/
def expP (t gi : ℕ) (ht : t < 8) (hg : gi < 2) (top : FVec F S1x128 .f32) : M (FVec F S8x128 .f32) :=
  iterAll (4 * t + 2 + 2 * gi) (fun r hr s => do
    let x ← rdx O (t % 2) gi (32 * r) (Nat.mod_lt _ (by norm_num)) hg (by omega)
    wrx O (t % 2) gi (32 * r) (Nat.mod_lt _ (by norm_num)) hg (by omega) (exVal x top)
    pure (fold4 addf s (exVal x top))) (broadcast S8x128 (cf 0x00000000#32))

/-! ## The quantiser -/

/-- One over the total -/
def invOf (tot : FVec F S1x128 .f32) : FVec F S1x128 .f32 := divf (broadcast S1x128 (cf 0x3F800000#32)) tot
/-- and the largest probability. -/
def ampOf (tot : FVec F S1x128 .f32) : FVec F S1x128 .f32 := mulf (broadcast S1x128 (cf 0x3F800000#32)) (invOf tot)

/-- The power of two whose exponent field is `n`. -/
def powOf (n : IVec S1x128 32) : FVec F S1x128 .f32 := bitcastToFloat .f32 (shli n (broadcast S1x128 23#32))

/-- One step of the search for the exponent field. -/
def expoStep (x : FVec F S1x128 .f32) (n : IVec S1x128 32) (b : BitVec 32) : IVec S1x128 32 :=
  select (cmpf .oge x (powOf (addi n (broadcast S1x128 b)))) (addi n (broadcast S1x128 b)) n

/-- The largest exponent field whose power of two is at most `x`. -/
def expoOf (x : FVec F S1x128 .f32) : IVec S1x128 32 :=
  expoStep x (expoStep x (expoStep x (expoStep x (expoStep x (expoStep x (expoStep x (expoStep x (broadcast S1x128 0#32)
    128#32) 64#32) 32#32) 16#32) 8#32) 4#32) 2#32) 1#32

/-- The scale's exponent. -/
def eOf (tot : FVec F S1x128 .f32) : IVec S1x128 32 :=
  select (cmpf .oeq (ampOf tot) (broadcast S1x128 (cf 0x00000000#32))) (broadcast S1x128 0#32)
    (subi (expoOf (mulf (ampOf tot) (broadcast S1x128 (cf 0x3B124925#32)))) (broadcast S1x128 126#32))

/-- What the exponentials are multiplied by to give codes, -/
def facOf (tot : FVec F S1x128 .f32) : FVec F S1x128 .f32 :=
  minimumf (mulf (invOf tot) (powOf (addi (subi (broadcast S1x128 0#32) (eOf tot)) (broadcast S1x128 127#32))))
    (divf (broadcast S1x128 (cf 0x43E00000#32)) (broadcast S1x128 (cf 0x3F800000#32)))

/-- and the codes to give probabilities. -/
def scaleOf (tot : FVec F S1x128 .f32) : FVec F S1x128 .f32 := powOf (addi (eOf tot) (broadcast S1x128 127#32))

/-! ## Codes, product and result -/

def pVal (x : Vec F S1x32x128 .f32) (fac : FVec F S1x128 .f32) : FVec F S32x128 .fp8e4m3 :=
  truncf .fp8e4m3 (mulf (shapeCast S32x128 x shapeCasts_S1x32x128_S32x128) (broadcastTo S32x128 fac broadcasts_S1x128_S32x128))
    bitsLt_fp8e4m3_f32

/-- Load a block of the codes. -/
def rdp (par : ℕ) (hp : par < 2) (off sz : Fin 2 → ℕ) (inb : ∀ a, off a + sz a ≤ S1024x256.size a)
    (h : 0 < (⟨2, sz⟩ : Shape).numel) : M (Vec F ⟨2, sz⟩ .fp8e4m3) :=
  rdw O .p ![par, 0, 0] S1x1024x256.size (inb3 (by omega) (by norm_num) (by norm_num)) S1024x256
    squeezes_S1x1024x256_S1024x256 off sz inb h

def codesP (t gi : ℕ) (ht : t < 8) (hg : gi < 2) (fac : FVec F S1x128 .f32) : M PUnit.{1} :=
  iterAll (4 * t + 2 + 2 * gi) (fun r hr _ => do
    let x ← rdx O (t % 2) gi (32 * r) (Nat.mod_lt _ (by norm_num)) hg (by omega)
    let _ ← rdp O (t % 2) (Nat.mod_lt _ (by norm_num)) ![32 * r, 128 * gi] S32x128.size (inb2 (by omega) (by omega)) h_S32x128
    wrn O .p (hA .p) ![t % 2, 32 * r, 128 * gi] S1x32x128.size (inb3 (by omega) (by omega) (by omega)) h_S1x32x128
      (packed3 (by omega) (by norm_num))
      (shapeCast S1x32x128 (shapeCast S32x128 (pVal x fac) shapeCasts_S32x128_S32x128) shapeCasts_S32x128_S1x32x128)) ⟨⟩

/-- No codes for the first group's queries at the tile's last 64 keys. -/
def zeroP (t : ℕ) (ht : t < 8) : M PUnit.{1} := do
  let _ ← rdp O (t % 2) (Nat.mod_lt _ (by norm_num)) ![128 * t + 64, 0] S64x128.size (inb2 (by omega) (by norm_num)) h_S64x128
  wrn O .p (hA .p) ![t % 2, 128 * t + 64, 0] S1x64x128.size (inb3 (by omega) (by omega) (by norm_num)) h_S1x64x128
    (packed3 (by omega) (by norm_num))
    (shapeCast S1x64x128 (shapeCast S64x128 (truncf (F := F) .fp8e4m3 (broadcast S64x128 (cf 0x00000000#32)) bitsLt_fp8e4m3_f32)
      shapeCasts_S64x128_S64x128) shapeCasts_S64x128_S1x64x128)

/-- The values of a tile's keys: all of them for the last tile. -/
def vCut (v : FVec F S128x1024 .fp8e4m3) : (t : ℕ) → t < 8 → FVec F ⟨2, ![128, 128 * t + 128]⟩ .fp8e4m3
  | 7, _ => v
  | t, ht => extractStridedSlice ⟨2, ![128, 128 * t + 128]⟩ ![0, 0] v (slices2 (by norm_num) (by omega))

def pvP (t : ℕ) (ht : t < 8) (v : FVec F S128x1024 .fp8e4m3) : M (FVec F S128x256 .f32) := do
  let p ← rdp O (t % 2) (Nat.mod_lt _ (by norm_num)) ![0, 0] ![128 * t + 128, 256] (inb2 (by omega) le_rfl)
    (pos_of fun a => match a with | 0 => by show 0 < 128 * t + 128; omega | 1 => by show 0 < 256; norm_num)
  pure (matmul (.plain 128 (128 * t + 128) 256) none (vCut v t ht) p (constant S128x256 .f32 0x00000000#32))

def o0Val (pv : FVec F S128x256 .f32) (s0 s1 : FVec F S1x128 .f32) (vs0 : FVec F S64x128 .f32) : FVec F S64x128 .bf16 :=
  truncf .bf16 (mulf (mulf (select lo (extractStridedSlice S64x128 ![0, 0] pv slices_S128x256_o0_0_S64x128)
      (rot (extractStridedSlice S64x128 ![0, 128] pv slices_S128x256_o0_128_S64x128)))
    (broadcastTo S64x128 (select lo1 s0 (rot1 s1)) broadcasts_S1x128_S64x128)) vs0) bitsLt_bf16_f32

def o1Val (pv : FVec F S128x256 .f32) (s0 s1 : FVec F S1x128 .f32) (vs1 : FVec F S64x128 .f32) : FVec F S64x128 .bf16 :=
  truncf .bf16 (mulf (mulf (select lo (rot (extractStridedSlice S64x128 ![64, 0] pv slices_S128x256_o64_0_S64x128))
      (extractStridedSlice S64x128 ![64, 128] pv slices_S128x256_o64_128_S64x128))
    (broadcastTo S64x128 (select lo1 (rot1 s0) s1) broadcasts_S1x128_S64x128)) vs1) bitsLt_bf16_f32

def outP (t : ℕ) (ht : t < 8) (b : ℕ) (hb : b < 2) (o : FVec F S64x128 .bf16) : M PUnit.{1} := do
  let _ ← rd O .o ![b, 0, 128 * t] S1x64x128.size (inb3 (by omega) (by norm_num) (by omega)) h_S1x64x128
  wrn O .o (hA .o) ![b, 0, 128 * t] S1x64x128.size (inb3 (by omega) (by norm_num) (by omega)) h_S1x64x128
    (packed3b (by norm_num) (by norm_num)) (shapeCast S1x64x128 o shapeCasts_S64x128_S1x64x128)

/-- The last stretch of a tile: codes, product and result from the totals. -/
def finishP (t : ℕ) (ht : t < 8) (v : FVec F S128x1024 .fp8e4m3) (vs0 vs1 : FVec F S64x128 .f32) (tot0 tot1 : FVec F S1x128 .f32) :
    M PUnit.{1} := do
  codesP O hA t 0 ht (by norm_num) (facOf tot0)
  codesP O hA t 1 ht (by norm_num) (facOf tot1)
  zeroP O hA t ht
  let pv ← pvP O t ht v
  outP O hA t ht 0 (by norm_num) (o0Val pv (scaleOf tot0) (scaleOf tot1) vs0)
  outP O hA t ht 1 (by norm_num) (o1Val pv (scaleOf tot0) (scaleOf tot1) vs1)

def tileP (cS : F .f32) (v : FVec F S128x1024 .fp8e4m3) (vs0 vs1 : FVec F S64x128 .f32) (t : ℕ) (ht : t < 8) : M PUnit.{1} := do
  let Q ← queryP O t ht
  let m ← scoreP O t ht Q (mulf Q.r0 (broadcast S1x128 cS)) (mulf Q.r1 (broadcast S1x128 cS))
  let s0 ← expP O t 0 ht (by norm_num) (topOf m.1)
  let s1 ← expP O t 1 ht (by norm_num) (topOf m.2)
  finishP O hA t ht v vs0 vs1 (totalOf s0) (totalOf s1)

/-- A batch's value scales, spread over the lanes. -/
def vsVal (a : Vec F S1x1x64 .f32) : FVec F S64x128 .f32 :=
  transpose S64x128 [1, 0] (broadcastTo S128x64 (shapeCast S1x64 (shapeCast S1x64 a shapeCasts_S1x1x64_S1x64) shapeCasts_S1x64_S1x64)
    broadcasts_S1x64_S128x64) transposes_S128x64_p1_0_S64x128

def vVal (a b : Vec F S1x1x64x1024 .fp8e4m3) : FVec F S128x1024 .fp8e4m3 :=
  concatenate S128x1024 0 [⟨S64x1024, shapeCast S64x1024 a shapeCasts_S1x1x64x1024_S64x1024⟩,
    ⟨S64x1024, shapeCast S64x1024 b shapeCasts_S1x1x64x1024_S64x1024⟩] concatenates_S64x1024_S64x1024_S128x1024_d0

/-- The first step's condition. -/
def isFirst (i : grid0.Coords) : BitVec 1 :=
  Scalar.cmpi .ne (Scalar.extui (Scalar.cmpi .eq (BitVec.ofNat 32 (i 0).val) 0#32)) 0#32

/-- The whole body. -/
def bodyP (cL cS : F .f32) (i : grid0.Coords) : M PUnit.{1} := do
  O.cond (isFirst i) (eyeP O hA)
  iterAll 4 (fun c hc _ => ktP O hA c hc) ⟨⟩
  iterAll 8 (fun c hc _ => ksbP O c hc) ⟨⟩
  O.cond (isFirst i) (penaltyP O cL)
  let a ← rd O .v ![0, 0, 0, 0] S1x1x64x1024.size (inb4 (by norm_num) le_rfl le_rfl le_rfl) h_S1x1x64x1024
  let b ← rd O .v ![1, 0, 0, 0] S1x1x64x1024.size (inb4 (by norm_num) le_rfl le_rfl le_rfl) h_S1x1x64x1024
  let s0 ← rd O .vs ![0, 0, 0] S1x1x64.size (inb3 (by norm_num) (by norm_num) le_rfl) h_S1x1x64
  let s1 ← rd O .vs ![0, 1, 0] S1x1x64.size (inb3 (by norm_num) (by norm_num) le_rfl) h_S1x1x64
  iterAll 8 (fun t ht _ => tileP O hA cS (vVal a b) (vsVal s0) (vsVal s1) t ht) ⟨⟩

end Cert.Body
-- ==== Proof.Steps.lean ====
/-
  Two programs are equal when they begin with the same operation and go on alike: one lemma per kind of beginning.
-/
module

public import proofs.«01_k».proof.Proof.Body

@[expose] public section

namespace Cert.Body

open Idealize.ShloMosaic Idealize.SL.Sem

universe v

/-- Two programs that begin with the same operation and go on alike. -/
theorem op_congr {E : Type → Type v} {α β : Type} {e : E β} {k k' : β → Prog E α} (h : ∀ x, k x = k' x) :
    Prog.op e k = Prog.op e k' := congrArg _ (funext h)

/-- A condition before the rest `b` of a part, two parts deep. -/
theorem cond_step {E : Type → Type v} {α β γ : Type} {c : Prop} [Decidable c] {a : c → Prog E β} {a' : Prog E PUnit.{1}} {b : Prog E β}
    {f : β → Prog E γ} {g : γ → Prog E α} {k' : PUnit.{1} → Prog E α} (ha : ∀ hc, a hc = a'.bind fun _ => b) (h : (b.bind f).bind g = k' ⟨⟩) :
    ((if hc : c then a hc else b).bind f).bind g = (if c then a' else pure ⟨⟩).bind k' := by
  by_cases hc : c
  · rw [dif_pos hc, if_pos hc, ha hc]
    have e1 : (a'.bind fun _ => b).bind f = a'.bind fun _ => b.bind f := bind_assoc a' (fun _ => b) f
    have e2 : (a'.bind fun _ => b.bind f).bind g = a'.bind fun _ => (b.bind f).bind g := bind_assoc a' (fun _ => b.bind f) g
    rw [e1, e2]; congr 1; funext x; exact h
  · rw [dif_neg hc, if_neg hc]; exact h

/-- Two programs that begin with the same loop, trip by trip, and go on alike. -/
theorem loop_step {E : Type → Type v} {α : Type} {l : Scf.Loop 32} {ok ok' : l.OK}
    {body body' : Fin l.trips → PUnit.{1} → Prog E PUnit.{1}} {k k' : PUnit.{1} → Prog E α} (hb : ∀ t, body t ⟨⟩ = body' t ⟨⟩)
    (h : ∀ x, k x = k' x) : (Scf.Loop.for l ok ⟨⟩ body).bind k = (Scf.Loop.for l ok' ⟨⟩ body').bind k' := by
  have e1 : body = body' := funext fun t => funext fun _ => hb t
  have e2 : k = k' := funext h
  rw [e1, e2]

theorem bind_assoc' {E : Type → Type v} {α β γ : Type} (p : Prog E α) (f : α → Prog E β) (g : β → Prog E γ) :
    (p.bind f).bind g = p.bind fun x => (f x).bind g := bind_assoc p f g

theorem loop_step3 {E : Type → Type v} {α β β' γ' : Type} {l : Scf.Loop 32} {ok ok' : l.OK}
    {body body' : Fin l.trips → PUnit.{1} → Prog E PUnit.{1}} {f : PUnit.{1} → Prog E β} {g : β → Prog E α}
    {a : PUnit.{1} → Prog E β'} {b : β' → Prog E γ'} {d : γ' → Prog E α} (hb : ∀ t, body t ⟨⟩ = body' t ⟨⟩)
    (h : ((f ⟨⟩).bind g) = (((a ⟨⟩).bind b).bind d)) :
    (((Scf.Loop.for l ok ⟨⟩ body).bind f).bind g) = ((((Scf.Loop.for l ok' ⟨⟩ body').bind a).bind b).bind d) := by
  simp only [bind_assoc']
  exact loop_step hb fun _ => by simpa only [bind_assoc'] using h

theorem loop_step4 {E : Type → Type v} {α β β' γ' δ' : Type} {l : Scf.Loop 32} {ok ok' : l.OK}
    {body body' : Fin l.trips → PUnit.{1} → Prog E PUnit.{1}} {f : PUnit.{1} → Prog E β} {g : β → Prog E α}
    {a : PUnit.{1} → Prog E β'} {b : β' → Prog E γ'} {d : γ' → Prog E δ'} {e : δ' → Prog E α} (hb : ∀ t, body t ⟨⟩ = body' t ⟨⟩)
    (h : ((f ⟨⟩).bind g) = ((((a ⟨⟩).bind b).bind d).bind e)) :
    (((Scf.Loop.for l ok ⟨⟩ body).bind f).bind g) = (((((Scf.Loop.for l ok' ⟨⟩ body').bind a).bind b).bind d).bind e) := by
  simp only [bind_assoc']
  exact loop_step hb fun _ => by simpa only [bind_assoc'] using h

end Cert.Body
-- ==== Proof.EqK.lean ====
/-
  The printed body of the kernel is `bodyP`, operation by operation.
-/
module

public import proofs.«01_k».proof.Proof.Steps
public import proofs.«01_k».proof.Kernel

@[expose] public section

noncomputable section

namespace Cert.BodyK

open Idealize.ShloMosaic Idealize.ShloMosaic.TcCoe Idealize.SL.Sem
open Cert.Body
open Cert.Kernel

variable {F : FTy → Type} [FloatOps F] [Cert.Kernel.Facts] [Cert.KernelIdeal.Facts]

section

variable (arg1 : Memref sig .tc .vmem S2x1x64x1024 .fp8e4m3) (harg1 : arg1.IsWhole)
  (arg2 : Memref sig .tc .vmem S2x1x64x1024 .fp8e4m3) (harg2 : arg2.IsWhole)
  (arg3 : Memref sig .tc .vmem S2x1x64x1024 .fp8e4m3) (harg3 : arg3.IsWhole)
  (arg4 : Memref sig .tc .vmem S1x2x1024 .f32) (harg4 : arg4.IsWhole)
  (arg5 : Memref sig .tc .vmem S1x2x1024 .f32) (harg5 : arg5.IsWhole)
  (arg6 : Memref sig .tc .vmem S1x2x64 .f32) (harg6 : arg6.IsWhole)
  (arg7 : Memref sig .tc .vmem S2x64x1024 .bf16) (harg7 : arg7.IsWhole)
  (arg8 : Memref sig .tc .vmem S2x1024 .f32) (harg8 : arg8.IsWhole)
  (arg9 : Memref sig .tc .vmem S16x1024x128 .f32) (harg9 : arg9.IsWhole)
  (arg10 : Memref sig .tc .vmem S1024x128 .fp8e4m3) (harg10 : arg10.IsWhole)
  (arg11 : Memref sig .tc .vmem S1024x128 .f32) (harg11 : arg11.IsWhole)
  (arg12 : Memref sig .tc .vmem S1024x128 .f32) (harg12 : arg12.IsWhole)
  (arg13 : Memref sig .tc .vmem S2x2x1024x128 .f32) (harg13 : arg13.IsWhole)
  (arg14 : Memref sig .tc .vmem S2x1024x256 .fp8e4m3) (harg14 : arg14.IsWhole)
  (arg15 : Memref sig .tc .vmem S256x256 .fp8e4m3) (harg15 : arg15.IsWhole)

/-- The body's buffers by name. -/
def bufs : ∀ b : Bf, Memref sig .tc .vmem (shp b) (ety b)
  | .q => arg1 | .k => arg2 | .v => arg3 | .qs => arg4 | .ks => arg5 | .vs => arg6 | .o => arg7 | .sel => arg8
  | .f => arg9 | .kt => arg10 | .ksb => arg11 | .c => arg12 | .ex => arg13 | .p => arg14 | .eye => arg15

include harg1 harg2 harg3 harg4 harg5 harg6 harg7 harg8 harg9 harg10 harg11 harg12 harg13 harg14 harg15 in
theorem bufs_whole : ∀ b, (bufs arg1 arg2 arg3 arg4 arg5 arg6 arg7 arg8 arg9 arg10 arg11 arg12 arg13 arg14 arg15 b).IsWhole
  | .q => harg1 | .k => harg2 | .v => harg3 | .qs => harg4 | .ks => harg5 | .vs => harg6 | .o => harg7 | .sel => harg8
  | .f => harg9 | .kt => harg10 | .ksb => harg11 | .c => harg12 | .ex => harg13 | .p => harg14 | .eye => harg15

set_option maxRecDepth 10000 in
set_option maxHeartbeats 0 in
theorem body_eq (i : grid0.Coords) :
    cc0_selective_attention (F := F) i arg1 harg1 arg2 harg2 arg3 harg3 arg4 harg4 arg5 harg5 arg6 harg6 arg7 harg7 arg8 harg8
      arg9 harg9 arg10 harg10 arg11 harg11 arg12 harg12 arg13 harg13 arg14 harg14 arg15 harg15
    = bodyP (F := F) progOps (bufs_whole arg1 harg1 arg2 harg2 arg3 harg3 arg4 harg4 arg5 harg5 arg6 harg6 arg7 harg7 arg8 harg8
      arg9 harg9 arg10 harg10 arg11 harg11 arg12 harg12 arg13 harg13 arg14 harg14 arg15 harg15)
      (Scalar.ofBits .f32 0x3FB8AA3B#32) (Scalar.ofBits .f32 0x3E38AA3B#32) i := by
  refine cond_step (a' := eyeP (F := F) progOps _) ?_ ?_
  · intro hc
    iterate 2 refine op_congr fun _ => ?_
    rfl
  clear * -
  as_aux_lemma =>
  iterate 52 refine op_congr fun _ => ?_
  clear * -
  as_aux_lemma =>
  refine cond_step (a' := penaltyP (F := F) progOps _) ?_ ?_
  · intro hc
    iterate 14 (apply op_congr; intro _)
    refine loop_step3 (fun t => ?_) ?_
    · iterate 7 (apply op_congr; intro _)
      rfl
    iterate 7
      iterate 4 (apply op_congr; intro _)
      refine loop_step4 (fun t => ?_) ?_
      · iterate 7 (apply op_congr; intro _)
        rfl
      refine loop_step3 (fun t => ?_) ?_
      · iterate 7 (apply op_congr; intro _)
        rfl
    iterate 40 (apply op_congr; intro _)
    rfl
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 3 (apply op_congr; intro _)
  rfl

end

end Cert.BodyK
-- ==== Proof.Data.lean ====
/-
  The body read as data stands for the body read as a program.
-/
module

public import proofs.«01_k».proof.Proof.Body

@[expose] public section

noncomputable section

namespace Cert.Body

open Idealize.ShloMosaic Idealize.ShloMosaic.TcCoe Idealize.SL.Sem
open Cert.KernelIdeal

instance : Fintype Bf where
  elems := {.q, .k, .v, .qs, .ks, .vs, .o, .sel, .f, .kt, .ksb, .c, .ex, .p, .eye}
  complete b := by cases b <;> decide

variable {F : FTy → Type} [FloatOps F] {sig : RefSig} {A : ∀ b : Bf, Memref sig .tc .vmem (shp b) (ety b)}
variable {nD : Nat} {τ : Topo} {Λ : Labels}

abbrev Pr (nD : Nat) (τ : Topo) (sig : RefSig) (F : FTy → Type) (Λ : Labels) (α : Type) := Prog (TpuEff nD τ sig (Elt F) Λ .tc) α

theorem toProg_pure {α : Type} (a : α) : (pure a : Pg F A α).toProg = (pure a : Pr nD τ sig F Λ α) := rfl

theorem toProg_bind {α β : Type} (p : Pg F A α) (g : α → Pg F A β) :
    (p >>= g).toProg = ((p.toProg : Pr nD τ sig F Λ α) >>= fun a => (g a).toProg) := by
  show (Pg.bind p g).toProg = _
  induction p with
  | ret a => rfl
  | ld b r h k ih => exact congrArg (Prog.op _) (funext fun x => ih x g)
  | st b r w h k ih => exact congrArg (Prog.op _) (funext fun x => ih x g)
  | ldw b R hR s hs r h k ih => exact congrArg (Prog.op _) (funext fun x => ih x g)
  | stw b R hR s hs r w h k ih => exact congrArg (Prog.op _) (funext fun x => ih x g)
  | loop l hok body k _ ih =>
    simp only [Pg.bind, Pg.toProg, bind_assoc]
    exact congrArg _ (funext fun x => ih x g)
  | cond v a k _ ih =>
    simp only [Pg.bind, Pg.toProg, bind_assoc]
    exact congrArg _ (funext fun x => ih x g)

theorem toProg_loop (l : Scf.Loop 32) (hok : l.OK) (body : Fin l.trips → Pg F A PUnit.{1}) :
    ((Pg.ops (F := F) (A := A)).loop l hok body).toProg = (progOps (F := F) (A := A)).loop l hok fun t => ((body t).toProg : Pr nD τ sig F Λ _) := by
  show ((Scf.Loop.for l hok ⟨⟩ fun t _ => (body t).toProg) >>= fun x => pure x : Pr nD τ sig F Λ _) = _
  rw [bind_pure]; rfl

theorem toProg_cond (v : BitVec 1) (a : Pg F A PUnit.{1}) :
    ((Pg.ops (F := F) (A := A)).cond v a).toProg = (progOps (F := F) (A := A)).cond v (a.toProg : Pr nD τ sig F Λ _) := by
  show ((if v = 1#1 then a.toProg else pure ⟨⟩) >>= fun x => pure x : Pr nD τ sig F Λ _) = _
  rw [bind_pure]; rfl

theorem toProg_bif {α : Type} (b : Bool) (x y : Pg F A α) : (bif b then x else y).toProg = bif b then (x.toProg : Pr nD τ sig F Λ α) else y.toProg := by
  cases b <;> rfl

theorem toProg_iter {σ : Type} (N : ℕ) (body : (r : ℕ) → r < N → σ → Pg F A σ) (n r : ℕ) (h : r + n ≤ N) (x : σ) :
    (iter N body n r h x).toProg = iter N (fun r h x => ((body r h x).toProg : Pr nD τ sig F Λ σ)) n r h x := by
  induction n generalizing r x with
  | zero => rfl
  | succ n ih => simp only [iter, toProg_bind, ih]

theorem toProg_iterAll {σ : Type} (N : ℕ) (body : (r : ℕ) → r < N → σ → Pg F A σ) (x : σ) :
    (iterAll N body x).toProg = iterAll N (fun r h x => ((body r h x).toProg : Pr nD τ sig F Λ σ)) x := toProg_iter ..

variable [Cert.KernelIdeal.Facts] (hA : ∀ b, (A b).IsWhole)

theorem toProg_penGroup (cL : F .f32) (u qs qg) (g : ℕ) (hg : g < 16) :
    (penGroup (Pg.ops (F := F) (A := A)) cL u qs qg g hg).toProg = (penGroup (progOps (A := A)) cL u qs qg g hg : Pr nD τ sig F Λ _) := by
  cases g <;> (simp only [penGroup, toProg_loop, penP, toProg_bind]; rfl)

theorem toProg_penaltyP (cL : F .f32) :
    (penaltyP (Pg.ops (F := F) (A := A)) cL).toProg = (penaltyP (progOps (A := A)) cL : Pr nD τ sig F Λ _) := by
  simp only [penaltyP, penTile, queryP, selP, toProg_penGroup, toProg_bind, toProg_pure, toProg_iterAll]
  rfl

theorem toProg_scoreP (t ht Q qs0 qs1) :
    (scoreP (Pg.ops (F := F) (A := A)) t ht Q qs0 qs1).toProg = (scoreP (progOps (A := A)) t ht Q qs0 qs1 : Pr nD τ sig F Λ _) := by
  simp only [scoreP, scoreHalf, scoreChunk, scorePiece, scoreOne, wrx, rdx, toProg_bif, toProg_bind, toProg_pure,
    toProg_iterAll]
  rfl

theorem toProg_expP (t gi ht hg top) :
    (expP (Pg.ops (F := F) (A := A)) t gi ht hg top).toProg = (expP (progOps (A := A)) t gi ht hg top : Pr nD τ sig F Λ _) := by
  simp only [expP, wrx, rdx, toProg_bind, toProg_pure, toProg_iterAll]
  rfl

theorem toProg_finishP (t ht v vs0 vs1 tot0 tot1) :
    (finishP (Pg.ops (F := F) (A := A)) hA t ht v vs0 vs1 tot0 tot1).toProg = (finishP (progOps (A := A)) hA t ht v vs0 vs1 tot0 tot1 : Pr nD τ sig F Λ _) := by
  simp only [finishP, codesP, zeroP, pvP, outP, rdx, rdp, toProg_bind, toProg_pure, toProg_iterAll]
  rfl

theorem toProg_bodyP (cL cS : F .f32) (i : grid0.Coords) :
    (bodyP (Pg.ops (F := F) (A := A)) hA cL cS i).toProg = (bodyP (progOps (A := A)) hA cL cS i : Pr nD τ sig F Λ _) := by
  simp only [bodyP, eyeP, ktP, ksbP, tileP, queryP, toProg_cond, toProg_penaltyP, toProg_scoreP, toProg_expP, toProg_finishP,
    toProg_bind, toProg_pure, toProg_iterAll]
  rfl

end Cert.Body
-- ==== Proof.RegionK.lean ====
/-
  The kernel's one region: what the body does at each point, from what it finds in its fifteen buffers, and the
  program's run for any statement about the scratch arrays that the body keeps.
-/
module

public import proofs.«01_k».proof.Proof.EqK
public import proofs.«01_k».proof.Proof.Data
public import proofs.«01_k».proof.Proof.Gen.KernelIdeal
public import proofs.«01_k».proof.Proof.Gen.Kernel.Frame

@[expose] public section

noncomputable section

namespace Cert.RegionK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Kernel Cert.Kernel.Gen
open Cert.Body Cert.BodyK

variable {F : FTy → Type} [FloatOps F]

local notation "𝕄" => MT nD τ sig Unit (Elt F) ℕ (UR sig nD τ) ℕ

/-- The fifteen buffers at a point. -/
def bufsAt (t : Fin cfg0.N) : ∀ b : Bf, Memref sig .tc .vmem (shp b) (ety b) :=
  bufs (st0_0 t) (st0_1 t) (st0_2 t) (st0_3 t) (st0_4 t) (st0_5 t) (st0_6 t) (st0_7 t)
    (Memref.whole cc0_scratch0) (Memref.whole cc0_scratch1) (Memref.whole cc0_scratch2) (Memref.whole cc0_scratch3)
    (Memref.whole cc0_scratch4) (Memref.whole cc0_scratch5) (Memref.whole cc0_scratch6)

theorem bufsAt_whole (t : Fin cfg0.N) : ∀ b, (bufsAt t b).IsWhole :=
  bufs_whole _ (stage_whole0 0 (cfg0.slots t 0)) _ (stage_whole0 1 (cfg0.slots t 1)) _ (stage_whole0 2 (cfg0.slots t 2)) _ (stage_whole0 3 (cfg0.slots t 3)) _ (stage_whole0 4 (cfg0.slots t 4)) _ (stage_whole0 5 (cfg0.slots t 5)) _ (stage_whole0 6 (cfg0.slots t 6))
    _ (stage_whole0 7 (cfg0.slots t 7)) _ (Memref.isWhole_whole _) _ (Memref.isWhole_whole _) _ (Memref.isWhole_whole _) _ (Memref.isWhole_whole _)
    _ (Memref.isWhole_whole _) _ (Memref.isWhole_whole _) _ (Memref.isWhole_whole _)

/-- The body at a point, as data. -/
def pgAt (t : Fin cfg0.N) : Pg F (bufsAt t) PUnit.{1} :=
  bodyP Pg.ops (bufsAt_whole t) (Scalar.ofBits .f32 0x3FB8AA3B#32) (Scalar.ofBits .f32 0x3E38AA3B#32) (grid0.coords t)

/-- What it does to the buffers' contents. -/
def step (t : Fin cfg0.N) (M : Mem F) : Mem F := ((pgAt t).eff M).2

theorem bodyAt_eq (t : Fin cfg0.N) : bodyAt0 (F := F) t = (pgAt t).toProg := by
  unfold pgAt
  rw [toProg_bodyP]
  exact body_eq ..

/-- The buffers held at `M`. -/
def held (c : Dev nD) (t : Fin cfg0.N) (M : Mem F) : sProp 𝕄 :=
  bigSep Finset.univ fun b : Bf => owns (c : Thread nD τ) (bufsAt t b) fullShare (M b)

theorem held_run (c : Dev nD) (t : Fin cfg0.N) (M : Mem F) (Q : PUnit.{1} → sProp 𝕄) :
    held c t M ⊢ iprop((held c t (step t M) -∗ Q ⟨⟩) -∗ wp frame (wpE (defs₀ (F := F)) Variants.none (c : Thread nD τ) none) Set.univ (bodyAt0 t) Q) := by
  rw [bodyAt_eq]
  unfold step
  generalize pgAt (F := F) t = p
  refine Pg.sound Variants.none c none Set.univ (held c t) (fun b M => ?_) p M Q
  have e1 : held c t M = iprop(owns (c : Thread nD τ) (bufsAt t b) fullShare (M b)
      ∗ bigSep (Finset.univ.erase b) fun j => owns (c : Thread nD τ) (bufsAt t j) fullShare (M j)) := bigSep_univ_split b
  have e2 (X) : held c t (M.set b X) = iprop(owns (c : Thread nD τ) (bufsAt t b) fullShare X
      ∗ bigSep (Finset.univ.erase b) fun j => owns (c : Thread nD τ) (bufsAt t j) fullShare (M j)) := by
    unfold held
    rw [bigSep_univ_split b, bigSep_congr (s := Finset.univ.erase b) (Ψ := fun j => owns (c : Thread nD τ) (bufsAt t j) fullShare (M j))
      fun j hj => by rw [show M.set b X j = M j from Function.update_of_ne (Finset.ne_of_mem_erase hj) _ _],
      show M.set b X b = X from Function.update_self ..]
    rfl
  rw [e1]
  iintro ⟨H, Hr⟩
  isplitl [H]; · iexact H
  iintro %X HX
  rw [e2]
  isplitl [HX] <;> iassumption

/-- The scratch arrays are what a region statement may speak of. -/
def isScratch : Bf → Bool
  | .f | .kt | .ksb | .c | .ex | .p | .eye => true
  | _ => false

/-- The windows' contents put in. -/
def asm (Y : ∀ w : Fin 8, (cfg0.win w).block.Idx → Elt F (cfg0.win w).elt) (M : Mem F) : Mem F
  | .q => Y 0 | .k => Y 1 | .v => Y 2 | .qs => Y 3 | .ks => Y 4 | .vs => Y 5 | .o => Y 6 | .sel => Y 7
  | .f => M .f | .kt => M .kt | .ksb => M .ksb | .c => M .c | .ex => M .ex | .p => M .p | .eye => M .eye

/-- and taken out. -/
def winOf (M : Mem F) : ∀ w : Fin 8, (cfg0.win w).block.Idx → Elt F (cfg0.win w).elt
  | 0 => M .q | 1 => M .k | 2 => M .v | 3 => M .qs | 4 => M .ks | 5 => M .vs | 6 => M .o | 7 => M .sel

variable (m : (ℓ : Loc nD τ sig) → Buf (Elt F) ℓ) (ρ : Dev nD → PrngReg)
  (I : Dev nD → ℕ → Mem F → Prop)
  (after : Dev nD → (w : Fin cfg0.W) → Fin cfg0.N → (Y X : (cfg0.win w).block.Idx → Elt F (cfg0.win w).elt) → Prop)

/-- The scratch arrays at contents of which `I` holds. -/
def scr (c : Dev nD) (n : ℕ) : sProp 𝕄 :=
  iprop(∃ M : Mem F, ⌜I c n M⌝ ∗ owns (c : Thread nD τ) (Memref.whole cc0_scratch0) fullShare (M .f)
    ∗ owns (c : Thread nD τ) (Memref.whole cc0_scratch1) fullShare (M .kt)
    ∗ owns (c : Thread nD τ) (Memref.whole cc0_scratch2) fullShare (M .ksb)
    ∗ owns (c : Thread nD τ) (Memref.whole cc0_scratch3) fullShare (M .c)
    ∗ owns (c : Thread nD τ) (Memref.whole cc0_scratch4) fullShare (M .ex)
    ∗ owns (c : Thread nD τ) (Memref.whole cc0_scratch5) fullShare (M .p)
    ∗ owns (c : Thread nD τ) (Memref.whole cc0_scratch6) fullShare (M .eye))

/-- The data of the run. -/
def rdat (c : Dev nD) : RDat τ (Elt F) Unit ℕ (UR sig nD τ) ℕ cfg0 c where
  A w := V m c (Pipeline.arrRef spec0 w)
  after w t Y X := after c w t Y X
  Φ t := iprop(scr I c t.val ∗ ∃ r, prngReg c r)
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem bigSep_Bf (Φ : Bf → sProp 𝕄) : bigSep Finset.univ Φ
    = iprop(Φ .q ∗ Φ .k ∗ Φ .v ∗ Φ .qs ∗ Φ .ks ∗ Φ .vs ∗ Φ .o ∗ Φ .sel ∗ Φ .f ∗ Φ .kt ∗ Φ .ksb ∗ Φ .c ∗ Φ .ex ∗ Φ .p ∗ Φ .eye) :=
  bigSep_univ_eq_bigSepL [Bf.q, Bf.k, Bf.v, Bf.qs, Bf.ks, Bf.vs, Bf.o, Bf.sel, Bf.f, Bf.kt, Bf.ksb, Bf.c, Bf.ex, Bf.p, Bf.eye] (by decide) (by decide) Φ

set_option maxHeartbeats 2000000 in
theorem body_obligation (c : Dev nD)
    (hI : ∀ n M M', I c n M → (∀ b, isScratch b = true → M b = M' b) → I c n M')
    (hstep : ∀ (t : Fin cfg0.N) (Y : ∀ w : Fin cfg0.W, (cfg0.win w).block.Idx → Elt F (cfg0.win w).elt) (M : Mem F),
      (∀ w, (rdat m I after c).Finds w t (Y w)) → I c t.val (asm Y M) →
      I c (t.val + 1) (step t (asm Y M)) ∧ ∀ w, after c w t (Y w) (winOf (step t (asm Y M)) w)) :
    (rdat m I after c).BodyObligation (defs₀ (F := F)) Variants.none () Set.univ := fun t Y hY => by
  rw [Gen.bigSep_W0, Gen.bigSep_W0, defs₀_row]
  show iprop((scr I c t.val ∗ ∃ r, prngReg c r) ∗ _ ∗ _) ⊢ wp _ _ _ _ fun _ => iprop((scr I c (t.val + 1) ∗ ∃ r, prngReg c r) ∗ _ ∗ _)
  unfold scr
  iintro ⟨⟨⟨%M, %hM, S0, S1, S2, S3, S4, S5, S6⟩, Hg⟩, Ho, H0, H1, H2, H3, H4, H5, H6, H7⟩
  obtain ⟨h1, h2⟩ := hstep t Y M hY (hI _ _ _ hM fun b hb => by cases b <;> first | rfl | exact absurd hb (by decide))
  ihave HH : held c t (asm Y M) $$ [S0 S1 S2 S3 S4 S5 S6 H0 H1 H2 H3 H4 H5 H6 H7]
  · unfold held; rw [bigSep_Bf]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    isplitl [S5]; · iexact S5
    iexact S6
  iapply (held_run c t (asm Y M) _) $$ HH
  unfold held; rw [bigSep_Bf]
  iintro ⟨H0, H1, H2, H3, H4, H5, H6, H7, S0, S1, S2, S3, S4, S5, S6⟩
  isplitl [S0 S1 S2 S3 S4 S5 S6 Hg]
  · isplitr [Hg]
    · iexists (step t (asm Y M))
      isplitr; · ipureintro; exact h1
      isplitl [S0]; · iexact S0
      isplitl [S1]; · iexact S1
      isplitl [S2]; · iexact S2
      isplitl [S3]; · iexact S3
      isplitl [S4]; · iexact S4
      isplitl [S5]; · iexact S5
      iexact S6
    · iexact Hg
  isplitl [Ho]; · iexact Ho
  isplitl [H0]; · iexists _; isplitr [H0]; · ipureintro; exact h2 0
                  iexact H0
  isplitl [H1]; · iexists _; isplitr [H1]; · ipureintro; exact h2 1
                  iexact H1
  isplitl [H2]; · iexists _; isplitr [H2]; · ipureintro; exact h2 2
                  iexact H2
  isplitl [H3]; · iexists _; isplitr [H3]; · ipureintro; exact h2 3
                  iexact H3
  isplitl [H4]; · iexists _; isplitr [H4]; · ipureintro; exact h2 4
                  iexact H4
  isplitl [H5]; · iexists _; isplitr [H5]; · ipureintro; exact h2 5
                  iexact H5
  isplitl [H6]; · iexists _; isplitr [H6]; · ipureintro; exact h2 6
                  iexact H6
  iexists _; isplitr [H7]; · ipureintro; exact h2 7
  iexact H7

/-- The run: given what the scratch arrays and windows keep from point to point, every array ends as the kept relation says and
    every semaphore counter at zero. -/
theorem run (h0 : ∀ c M, I c 0 M)
    (hI : ∀ c n M M', I c n M → (∀ b, isScratch b = true → M b = M' b) → I c n M')
    (hstep : ∀ c (t : Fin cfg0.N) (Y : ∀ w : Fin cfg0.W, (cfg0.win w).block.Idx → Elt F (cfg0.win w).elt) (M : Mem F),
      (∀ w, (rdat m I after c).Finds w t (Y w)) → I c t.val (asm Y M) →
      I c (t.val + 1) (step t (asm Y M)) ∧ ∀ w, after c w t (Y w) (winOf (step t (asm Y M)) w)) :
    θ_run defs (onTc (τ := τ) (main (F := F))) (s₀ m ρ)
      (fun r => RDat.FramePost cfg0 (rdat m I after) (V m) r ∧ r.2.sem = fun _ => 0) :=
  Pipeline.RDat.θ_run_frame_track cfgs (0 : Fin 1) launch0 defs₀ Variants.none (rdat m I after) m ρ main
    (fun c => body_obligation m I after c (hI c) (hstep c)) (fun c => (rdat m I after c).share_full fun _ => rfl) (fun _ _ => rfl)
    (V m) (hmain m Variants.none) (fun _ _ => rfl)
    (fun c => by
      show Pipeline.ΦA spec0 c ⊢ iprop(scr I c 0 ∗ ∃ r, prngReg c r)
      unfold Pipeline.ΦA scr; rw [scopedRest0_eq]
      iintro ⟨⟨⟨%f0, S0⟩, ⟨%f1, S1⟩, ⟨%f2, S2⟩, ⟨%f3, S3⟩, ⟨%f4, S4⟩, ⟨%f5, S5⟩, ⟨%f6, S6⟩⟩, Hg⟩
      isplitr [Hg]
      · let M : Mem F := fun
          | .f => f0 | .kt => f1 | .ksb => f2 | .c => f3 | .ex => f4 | .p => f5 | .eye => f6
          | .q | .k | .v | .qs | .ks | .vs | .o | .sel => fun _ => Classical.choice ((inferInstance : ∀ e, Nonempty (Elt F e)) _)
        iexists M
        isplitr; · ipureintro; exact h0 c M
        simp only [owns_whole]
        isplitl [S0]; · iexact S0
        isplitl [S1]; · iexact S1
        isplitl [S2]; · iexact S2
        isplitl [S3]; · iexact S3
        isplitl [S4]; · iexact S4
        isplitl [S5]; · iexact S5
        iexact S6
      · iexact Hg)
    (fun c => by
      show iprop(scr I c _ ∗ ∃ r, prngReg c r) ⊢ Pipeline.ΦA spec0 c
      unfold Pipeline.ΦA scr; rw [scopedRest0_eq]; simp only [owns_whole]
      iintro ⟨⟨%M, -, S0, S1, S2, S3, S4, S5, S6⟩, Hg⟩
      isplitr [Hg]
      · isplitl [S0]; · iexists _; iexact S0
        isplitl [S1]; · iexists _; iexact S1
        isplitl [S2]; · iexists _; iexact S2
        isplitl [S3]; · iexists _; iexact S3
        isplitl [S4]; · iexists _; iexact S4
        isplitl [S5]; · iexists _; iexact S5
        iexists _; iexact S6
      · iexact Hg)
    _ (fun _ h => h)

/-- The program runs, its arguments end unchanged and its counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run m ρ (fun _ _ _ => True) (fun _ _ _ _ _ => True) (fun _ _ => trivial) (fun _ _ _ _ _ _ => trivial)
      (fun _ _ _ _ _ _ => ⟨trivial, fun _ => trivial⟩))

end Cert.RegionK
-- ==== Proof.Eq.lean ====
/-
  The printed body of the idealized kernel is `bodyP`, operation by operation.
-/
module

public import proofs.«01_k».proof.Proof.Steps

@[expose] public section

noncomputable section

namespace Cert.Body

open Idealize.ShloMosaic Idealize.ShloMosaic.TcCoe Idealize.SL.Sem
open Cert.KernelIdeal

variable {F : FTy → Type} [FloatOps F] [Named F] [Cert.KernelIdeal.Facts]

section

variable (arg1 : Memref sig .tc .vmem S2x1x64x1024 .fp8e4m3) (harg1 : arg1.IsWhole)
  (arg2 : Memref sig .tc .vmem S2x1x64x1024 .fp8e4m3) (harg2 : arg2.IsWhole)
  (arg3 : Memref sig .tc .vmem S2x1x64x1024 .fp8e4m3) (harg3 : arg3.IsWhole)
  (arg4 : Memref sig .tc .vmem S1x2x1024 .f32) (harg4 : arg4.IsWhole)
  (arg5 : Memref sig .tc .vmem S1x2x1024 .f32) (harg5 : arg5.IsWhole)
  (arg6 : Memref sig .tc .vmem S1x2x64 .f32) (harg6 : arg6.IsWhole)
  (arg7 : Memref sig .tc .vmem S2x64x1024 .bf16) (harg7 : arg7.IsWhole)
  (arg8 : Memref sig .tc .vmem S2x1024 .f32) (harg8 : arg8.IsWhole)
  (arg9 : Memref sig .tc .vmem S16x1024x128 .f32) (harg9 : arg9.IsWhole)
  (arg10 : Memref sig .tc .vmem S1024x128 .fp8e4m3) (harg10 : arg10.IsWhole)
  (arg11 : Memref sig .tc .vmem S1024x128 .f32) (harg11 : arg11.IsWhole)
  (arg12 : Memref sig .tc .vmem S1024x128 .f32) (harg12 : arg12.IsWhole)
  (arg13 : Memref sig .tc .vmem S2x2x1024x128 .f32) (harg13 : arg13.IsWhole)
  (arg14 : Memref sig .tc .vmem S2x1024x256 .fp8e4m3) (harg14 : arg14.IsWhole)
  (arg15 : Memref sig .tc .vmem S256x256 .fp8e4m3) (harg15 : arg15.IsWhole)

/-- The body's buffers by name. -/
def bufs : ∀ b : Bf, Memref sig .tc .vmem (shp b) (ety b)
  | .q => arg1 | .k => arg2 | .v => arg3 | .qs => arg4 | .ks => arg5 | .vs => arg6 | .o => arg7 | .sel => arg8
  | .f => arg9 | .kt => arg10 | .ksb => arg11 | .c => arg12 | .ex => arg13 | .p => arg14 | .eye => arg15

include harg1 harg2 harg3 harg4 harg5 harg6 harg7 harg8 harg9 harg10 harg11 harg12 harg13 harg14 harg15 in
theorem bufs_whole : ∀ b, (bufs arg1 arg2 arg3 arg4 arg5 arg6 arg7 arg8 arg9 arg10 arg11 arg12 arg13 arg14 arg15 b).IsWhole
  | .q => harg1 | .k => harg2 | .v => harg3 | .qs => harg4 | .ks => harg5 | .vs => harg6 | .o => harg7 | .sel => harg8
  | .f => harg9 | .kt => harg10 | .ksb => harg11 | .c => harg12 | .ex => harg13 | .p => harg14 | .eye => harg15

set_option maxRecDepth 10000 in
set_option maxHeartbeats 0 in
theorem body_eq (i : grid0.Coords) :
    cc0_selective_attention (F := F) i arg1 harg1 arg2 harg2 arg3 harg3 arg4 harg4 arg5 harg5 arg6 harg6 arg7 harg7 arg8 harg8
      arg9 harg9 arg10 harg10 arg11 harg11 arg12 harg12 arg13 harg13 arg14 harg14 arg15 harg15
    = bodyP (F := F) progOps (bufs_whole arg1 harg1 arg2 harg2 arg3 harg3 arg4 harg4 arg5 harg5 arg6 harg6 arg7 harg7 arg8 harg8
      arg9 harg9 arg10 harg10 arg11 harg11 arg12 harg12 arg13 harg13 arg14 harg14 arg15 harg15)
      (Named.named κ "log2e" 0x3FB8AA3B#32) (Named.named κ "sm_log2e" 0x3E38AA3B#32) i := by
  refine cond_step (a' := eyeP (F := F) progOps _) ?_ ?_
  · intro hc
    iterate 2 refine op_congr fun _ => ?_
    rfl
  clear * -
  as_aux_lemma =>
  iterate 52 refine op_congr fun _ => ?_
  clear * -
  as_aux_lemma =>
  refine cond_step (a' := penaltyP (F := F) progOps _) ?_ ?_
  · intro hc
    iterate 14 (apply op_congr; intro _)
    refine loop_step3 (fun t => ?_) ?_
    · iterate 7 (apply op_congr; intro _)
      rfl
    iterate 7
      iterate 4 (apply op_congr; intro _)
      refine loop_step4 (fun t => ?_) ?_
      · iterate 7 (apply op_congr; intro _)
        rfl
      refine loop_step3 (fun t => ?_) ?_
      · iterate 7 (apply op_congr; intro _)
        rfl
    iterate 40 (apply op_congr; intro _)
    rfl
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 100 (apply op_congr; intro _)
  clear * -
  as_aux_lemma =>
  iterate 3 (apply op_congr; intro _)
  rfl

end

end Cert.Body
-- ==== Proof.RegionI.lean ====
/-
  The idealized kernel's one region: what the body does at each point, from what it finds in its fifteen buffers, and the
  program's run for any statement about the scratch arrays that the body keeps.
-/
module

public import proofs.«01_k».proof.Proof.Eq
public import proofs.«01_k».proof.Proof.Data
public import proofs.«01_k».proof.Proof.Gen.KernelIdeal.Frame

@[expose] public section

noncomputable section

namespace Cert.RegionI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.KernelIdeal Cert.KernelIdeal.Gen
open Cert.Body

variable {F : FTy → Type} [FloatOps F] [Named F]

local notation "𝕄" => MT nD τ sig Unit (Elt F) ℕ (UR sig nD τ) ℕ

/-- The fifteen buffers at a point. -/
def bufsAt (t : Fin cfg0.N) : ∀ b : Bf, Memref sig .tc .vmem (shp b) (ety b) :=
  bufs (st0_0 t) (st0_1 t) (st0_2 t) (st0_3 t) (st0_4 t) (st0_5 t) (st0_6 t) (st0_7 t)
    (Memref.whole cc0_scratch0) (Memref.whole cc0_scratch1) (Memref.whole cc0_scratch2) (Memref.whole cc0_scratch3)
    (Memref.whole cc0_scratch4) (Memref.whole cc0_scratch5) (Memref.whole cc0_scratch6)

theorem bufsAt_whole (t : Fin cfg0.N) : ∀ b, (bufsAt t b).IsWhole :=
  bufs_whole _ (stage_whole0 0 (cfg0.slots t 0)) _ (stage_whole0 1 (cfg0.slots t 1)) _ (stage_whole0 2 (cfg0.slots t 2)) _ (stage_whole0 3 (cfg0.slots t 3)) _ (stage_whole0 4 (cfg0.slots t 4)) _ (stage_whole0 5 (cfg0.slots t 5)) _ (stage_whole0 6 (cfg0.slots t 6))
    _ (stage_whole0 7 (cfg0.slots t 7)) _ (Memref.isWhole_whole _) _ (Memref.isWhole_whole _) _ (Memref.isWhole_whole _) _ (Memref.isWhole_whole _)
    _ (Memref.isWhole_whole _) _ (Memref.isWhole_whole _) _ (Memref.isWhole_whole _)

/-- The body at a point, as data. -/
def pgAt (t : Fin cfg0.N) : Pg F (bufsAt t) PUnit.{1} :=
  bodyP Pg.ops (bufsAt_whole t) (Named.named κ "log2e" 0x3FB8AA3B#32) (Named.named κ "sm_log2e" 0x3E38AA3B#32) (grid0.coords t)

/-- What it does to the buffers' contents. -/
def step (t : Fin cfg0.N) (M : Mem F) : Mem F := ((pgAt t).eff M).2

theorem bodyAt_eq (t : Fin cfg0.N) : bodyAt0 (F := F) t = (pgAt t).toProg := by
  unfold pgAt
  rw [toProg_bodyP]
  exact body_eq ..

/-- The buffers held at `M`. -/
def held (c : Dev nD) (t : Fin cfg0.N) (M : Mem F) : sProp 𝕄 :=
  bigSep Finset.univ fun b : Bf => owns (c : Thread nD τ) (bufsAt t b) fullShare (M b)

theorem held_run (c : Dev nD) (t : Fin cfg0.N) (M : Mem F) (Q : PUnit.{1} → sProp 𝕄) :
    held c t M ⊢ iprop((held c t (step t M) -∗ Q ⟨⟩) -∗ wp frame (wpE (defs₀ (F := F)) Variants.none (c : Thread nD τ) none) Set.univ (bodyAt0 t) Q) := by
  rw [bodyAt_eq]
  unfold step
  generalize pgAt (F := F) t = p
  refine Pg.sound Variants.none c none Set.univ (held c t) (fun b M => ?_) p M Q
  have e1 : held c t M = iprop(owns (c : Thread nD τ) (bufsAt t b) fullShare (M b)
      ∗ bigSep (Finset.univ.erase b) fun j => owns (c : Thread nD τ) (bufsAt t j) fullShare (M j)) := bigSep_univ_split b
  have e2 (X) : held c t (M.set b X) = iprop(owns (c : Thread nD τ) (bufsAt t b) fullShare X
      ∗ bigSep (Finset.univ.erase b) fun j => owns (c : Thread nD τ) (bufsAt t j) fullShare (M j)) := by
    unfold held
    rw [bigSep_univ_split b, bigSep_congr (s := Finset.univ.erase b) (Ψ := fun j => owns (c : Thread nD τ) (bufsAt t j) fullShare (M j))
      fun j hj => by rw [show M.set b X j = M j from Function.update_of_ne (Finset.ne_of_mem_erase hj) _ _],
      show M.set b X b = X from Function.update_self ..]
    rfl
  rw [e1]
  iintro ⟨H, Hr⟩
  isplitl [H]; · iexact H
  iintro %X HX
  rw [e2]
  isplitl [HX] <;> iassumption

/-- The scratch arrays are what a region statement may speak of. -/
def isScratch : Bf → Bool
  | .f | .kt | .ksb | .c | .ex | .p | .eye => true
  | _ => false

/-- The windows' contents put in. -/
def asm (Y : ∀ w : Fin 8, (cfg0.win w).block.Idx → Elt F (cfg0.win w).elt) (M : Mem F) : Mem F
  | .q => Y 0 | .k => Y 1 | .v => Y 2 | .qs => Y 3 | .ks => Y 4 | .vs => Y 5 | .o => Y 6 | .sel => Y 7
  | .f => M .f | .kt => M .kt | .ksb => M .ksb | .c => M .c | .ex => M .ex | .p => M .p | .eye => M .eye

/-- and taken out. -/
def winOf (M : Mem F) : ∀ w : Fin 8, (cfg0.win w).block.Idx → Elt F (cfg0.win w).elt
  | 0 => M .q | 1 => M .k | 2 => M .v | 3 => M .qs | 4 => M .ks | 5 => M .vs | 6 => M .o | 7 => M .sel

variable (m : (ℓ : Loc nD τ sig) → Buf (Elt F) ℓ) (ρ : Dev nD → PrngReg)
  (I : Dev nD → ℕ → Mem F → Prop)
  (after : Dev nD → (w : Fin cfg0.W) → Fin cfg0.N → (Y X : (cfg0.win w).block.Idx → Elt F (cfg0.win w).elt) → Prop)

/-- The scratch arrays at contents of which `I` holds. -/
def scr (c : Dev nD) (n : ℕ) : sProp 𝕄 :=
  iprop(∃ M : Mem F, ⌜I c n M⌝ ∗ owns (c : Thread nD τ) (Memref.whole cc0_scratch0) fullShare (M .f)
    ∗ owns (c : Thread nD τ) (Memref.whole cc0_scratch1) fullShare (M .kt)
    ∗ owns (c : Thread nD τ) (Memref.whole cc0_scratch2) fullShare (M .ksb)
    ∗ owns (c : Thread nD τ) (Memref.whole cc0_scratch3) fullShare (M .c)
    ∗ owns (c : Thread nD τ) (Memref.whole cc0_scratch4) fullShare (M .ex)
    ∗ owns (c : Thread nD τ) (Memref.whole cc0_scratch5) fullShare (M .p)
    ∗ owns (c : Thread nD τ) (Memref.whole cc0_scratch6) fullShare (M .eye))

/-- The data of the run. -/
def rdat (c : Dev nD) : RDat τ (Elt F) Unit ℕ (UR sig nD τ) ℕ cfg0 c where
  A w := V m c (Pipeline.arrRef spec0 w)
  after w t Y X := after c w t Y X
  Φ t := iprop(scr I c t.val ∗ ∃ r, prngReg c r)
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem bigSep_Bf (Φ : Bf → sProp 𝕄) : bigSep Finset.univ Φ
    = iprop(Φ .q ∗ Φ .k ∗ Φ .v ∗ Φ .qs ∗ Φ .ks ∗ Φ .vs ∗ Φ .o ∗ Φ .sel ∗ Φ .f ∗ Φ .kt ∗ Φ .ksb ∗ Φ .c ∗ Φ .ex ∗ Φ .p ∗ Φ .eye) :=
  bigSep_univ_eq_bigSepL [Bf.q, Bf.k, Bf.v, Bf.qs, Bf.ks, Bf.vs, Bf.o, Bf.sel, Bf.f, Bf.kt, Bf.ksb, Bf.c, Bf.ex, Bf.p, Bf.eye] (by decide) (by decide) Φ

set_option maxHeartbeats 2000000 in
theorem body_obligation (c : Dev nD)
    (hI : ∀ n M M', I c n M → (∀ b, isScratch b = true → M b = M' b) → I c n M')
    (hstep : ∀ (t : Fin cfg0.N) (Y : ∀ w : Fin cfg0.W, (cfg0.win w).block.Idx → Elt F (cfg0.win w).elt) (M : Mem F),
      (∀ w, (rdat m I after c).Finds w t (Y w)) → I c t.val (asm Y M) →
      I c (t.val + 1) (step t (asm Y M)) ∧ ∀ w, after c w t (Y w) (winOf (step t (asm Y M)) w)) :
    (rdat m I after c).BodyObligation (defs₀ (F := F)) Variants.none () Set.univ := fun t Y hY => by
  rw [Gen.bigSep_W0, Gen.bigSep_W0, defs₀_row]
  show iprop((scr I c t.val ∗ ∃ r, prngReg c r) ∗ _ ∗ _) ⊢ wp _ _ _ _ fun _ => iprop((scr I c (t.val + 1) ∗ ∃ r, prngReg c r) ∗ _ ∗ _)
  unfold scr
  iintro ⟨⟨⟨%M, %hM, S0, S1, S2, S3, S4, S5, S6⟩, Hg⟩, Ho, H0, H1, H2, H3, H4, H5, H6, H7⟩
  obtain ⟨h1, h2⟩ := hstep t Y M hY (hI _ _ _ hM fun b hb => by cases b <;> first | rfl | exact absurd hb (by decide))
  ihave HH : held c t (asm Y M) $$ [S0 S1 S2 S3 S4 S5 S6 H0 H1 H2 H3 H4 H5 H6 H7]
  · unfold held; rw [bigSep_Bf]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    isplitl [S5]; · iexact S5
    iexact S6
  iapply (held_run c t (asm Y M) _) $$ HH
  unfold held; rw [bigSep_Bf]
  iintro ⟨H0, H1, H2, H3, H4, H5, H6, H7, S0, S1, S2, S3, S4, S5, S6⟩
  isplitl [S0 S1 S2 S3 S4 S5 S6 Hg]
  · isplitr [Hg]
    · iexists (step t (asm Y M))
      isplitr; · ipureintro; exact h1
      isplitl [S0]; · iexact S0
      isplitl [S1]; · iexact S1
      isplitl [S2]; · iexact S2
      isplitl [S3]; · iexact S3
      isplitl [S4]; · iexact S4
      isplitl [S5]; · iexact S5
      iexact S6
    · iexact Hg
  isplitl [Ho]; · iexact Ho
  isplitl [H0]; · iexists _; isplitr [H0]; · ipureintro; exact h2 0
                  iexact H0
  isplitl [H1]; · iexists _; isplitr [H1]; · ipureintro; exact h2 1
                  iexact H1
  isplitl [H2]; · iexists _; isplitr [H2]; · ipureintro; exact h2 2
                  iexact H2
  isplitl [H3]; · iexists _; isplitr [H3]; · ipureintro; exact h2 3
                  iexact H3
  isplitl [H4]; · iexists _; isplitr [H4]; · ipureintro; exact h2 4
                  iexact H4
  isplitl [H5]; · iexists _; isplitr [H5]; · ipureintro; exact h2 5
                  iexact H5
  isplitl [H6]; · iexists _; isplitr [H6]; · ipureintro; exact h2 6
                  iexact H6
  iexists _; isplitr [H7]; · ipureintro; exact h2 7
  iexact H7

/-- The run: given what the scratch arrays and windows keep from point to point, every array ends as the kept relation says and
    every semaphore counter at zero. -/
theorem run (h0 : ∀ c M, I c 0 M)
    (hI : ∀ c n M M', I c n M → (∀ b, isScratch b = true → M b = M' b) → I c n M')
    (hstep : ∀ c (t : Fin cfg0.N) (Y : ∀ w : Fin cfg0.W, (cfg0.win w).block.Idx → Elt F (cfg0.win w).elt) (M : Mem F),
      (∀ w, (rdat m I after c).Finds w t (Y w)) → I c t.val (asm Y M) →
      I c (t.val + 1) (step t (asm Y M)) ∧ ∀ w, after c w t (Y w) (winOf (step t (asm Y M)) w)) :
    θ_run defs (onTc (τ := τ) (main (F := F))) (s₀ m ρ)
      (fun r => RDat.FramePost cfg0 (rdat m I after) (V m) r ∧ r.2.sem = fun _ => 0) :=
  Pipeline.RDat.θ_run_frame_track cfgs (0 : Fin 1) launch0 defs₀ Variants.none (rdat m I after) m ρ main
    (fun c => body_obligation m I after c (hI c) (hstep c)) (fun c => (rdat m I after c).share_full fun _ => rfl) (fun _ _ => rfl)
    (V m) (hmain m Variants.none) (fun _ _ => rfl)
    (fun c => by
      show Pipeline.ΦA spec0 c ⊢ iprop(scr I c 0 ∗ ∃ r, prngReg c r)
      unfold Pipeline.ΦA scr; rw [scopedRest0_eq]
      iintro ⟨⟨⟨%f0, S0⟩, ⟨%f1, S1⟩, ⟨%f2, S2⟩, ⟨%f3, S3⟩, ⟨%f4, S4⟩, ⟨%f5, S5⟩, ⟨%f6, S6⟩⟩, Hg⟩
      isplitr [Hg]
      · let M : Mem F := fun
          | .f => f0 | .kt => f1 | .ksb => f2 | .c => f3 | .ex => f4 | .p => f5 | .eye => f6
          | .q | .k | .v | .qs | .ks | .vs | .o | .sel => fun _ => Classical.choice ((inferInstance : ∀ e, Nonempty (Elt F e)) _)
        iexists M
        isplitr; · ipureintro; exact h0 c M
        simp only [owns_whole]
        isplitl [S0]; · iexact S0
        isplitl [S1]; · iexact S1
        isplitl [S2]; · iexact S2
        isplitl [S3]; · iexact S3
        isplitl [S4]; · iexact S4
        isplitl [S5]; · iexact S5
        iexact S6
      · iexact Hg)
    (fun c => by
      show iprop(scr I c _ ∗ ∃ r, prngReg c r) ⊢ Pipeline.ΦA spec0 c
      unfold Pipeline.ΦA scr; rw [scopedRest0_eq]; simp only [owns_whole]
      iintro ⟨⟨%M, -, S0, S1, S2, S3, S4, S5, S6⟩, Hg⟩
      isplitr [Hg]
      · isplitl [S0]; · iexists _; iexact S0
        isplitl [S1]; · iexists _; iexact S1
        isplitl [S2]; · iexists _; iexact S2
        isplitl [S3]; · iexists _; iexact S3
        isplitl [S4]; · iexists _; iexact S4
        isplitl [S5]; · iexists _; iexact S5
        iexists _; iexact S6
      · iexact Hg)
    _ (fun _ h => h)

/-- The program runs, its arguments end unchanged and its counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run m ρ (fun _ _ _ => True) (fun _ _ _ _ _ => True) (fun _ _ => trivial) (fun _ _ _ _ _ _ => trivial)
      (fun _ _ _ _ _ _ => ⟨trivial, fun _ => trivial⟩))

end Cert.RegionI
-- ==== Proof.Eff.lean ====
/-
  What the body's pieces do to the buffers: blocks read and written, loops by an invariant, and the buffers a piece keeps.
-/
module

public import proofs.«01_k».proof.Proof.Data
public import Idealize.ShloMosaic.Lib.Pipeline.ValueKit.Tiles

@[expose] public section

noncomputable section

namespace Cert.Body

open Idealize.ShloMosaic Idealize.ShloMosaic.TcCoe Idealize.SL.Sem
open Cert.KernelIdeal Cert.KernelIdeal.Facts Cert.KernelIdeal.Shapes1.Facts₀ Cert.KernelIdeal.K0.Facts₀

variable {F : FTy → Type} [FloatOps F] {sig : RefSig} [Cert.KernelIdeal.Facts]
variable {A : ∀ b : Bf, Memref sig .tc .vmem (shp b) (ety b)}

/-! ## Blocks -/

/-- A block of a buffer's contents. -/
def blk (b : Bf) (off sz : Fin (shp b).rank → ℕ) (inb : ∀ a, off a + sz a ≤ (shp b).size a) (M : Mem F) :
    Vec F ⟨(shp b).rank, sz⟩ (ety b) := fun j => M b ((Rect.unit (s := shp b) off sz inb).toLoadRect.idx j)

theorem blk_apply {b : Bf} {off sz : Fin (shp b).rank → ℕ} {inb : ∀ a, off a + sz a ≤ (shp b).size a} {M : Mem F}
    (x : (⟨(shp b).rank, sz⟩ : Shape).Idx) (i : (shp b).Idx) (hi : ∀ a, (i a).val = off a + (x a).val) :
    blk b off sz inb M x = M b i :=
  congrArg (M b) (funext fun a => Fin.ext ((Rect.idx_unit_val off sz inb x a).trans (hi a).symm))

/-- The contents with a block replaced. -/
def put (b : Bf) (off sz : Fin (shp b).rank → ℕ) (inb : ∀ a, off a + sz a ≤ (shp b).size a)
    (w : Vec F ⟨(shp b).rank, sz⟩ (ety b)) (M : Mem F) : Mem F :=
  M.set b (ovl (Rect.unit (s := shp b) off sz inb).emb (M b) w)

theorem put_ne {b b' : Bf} {off sz inb} (w : Vec F ⟨(shp b).rank, sz⟩ (ety b)) (M : Mem F) (h : b' ≠ b) :
    put b off sz inb w M b' = M b' := Function.update_of_ne h _ _

theorem put_in {b : Bf} {off sz : Fin (shp b).rank → ℕ} {inb : ∀ a, off a + sz a ≤ (shp b).size a}
    (w : Vec F ⟨(shp b).rank, sz⟩ (ety b)) (M : Mem F) (y : (shp b).Idx)
    (x : (⟨(shp b).rank, sz⟩ : Shape).Idx) (hi : ∀ a, (y a).val = off a + (x a).val) : put b off sz inb w M b y = w x := by
  have e : (Rect.unit (s := shp b) off sz inb).emb x = y :=
    funext fun a => Fin.ext ((Rect.idx_unit_val off sz inb x a).trans (hi a).symm)
  unfold put Mem.set
  rw [Function.update_self, ← e]
  exact ovl_emb _ _ _ x

theorem put_out {b : Bf} {off sz : Fin (shp b).rank → ℕ} {inb : ∀ a, off a + sz a ≤ (shp b).size a}
    (w : Vec F ⟨(shp b).rank, sz⟩ (ety b)) (M : Mem F) (y : (shp b).Idx) (a : Fin (shp b).rank)
    (ha : (y a).val < off a ∨ off a + sz a ≤ (y a).val) : put b off sz inb w M b y = M b y := by
  unfold put Mem.set
  rw [Function.update_self]
  refine ovl_of_not _ _ _ fun x hx => ?_
  have h1 : (((Rect.unit (s := shp b) off sz inb).emb x) a).val = off a + (x a).val := Rect.idx_unit_val off sz inb x a
  have h2 : (x a).val < sz a := (x a).isLt
  rw [hx] at h1
  omega

/-! ## Effects of single operations -/

theorem eff_pure {α : Type} (a : α) (M : Mem F) : (pure a : Pg F A α).eff M = (a, M) := rfl

theorem eff_rd (b : Bf) (off sz : Fin (shp b).rank → ℕ) (inb : ∀ a, off a + sz a ≤ (shp b).size a)
    (h : 0 < (⟨(shp b).rank, sz⟩ : Shape).numel) (M : Mem F) :
    (rd (Pg.ops (A := A)) b off sz inb h).eff M = (blk b off sz inb M, M) := rfl

theorem eff_wr (b : Bf) (off sz : Fin (shp b).rank → ℕ) (inb : ∀ a, off a + sz a ≤ (shp b).size a)
    (h : 0 < (⟨(shp b).rank, sz⟩ : Shape).numel) (he : (ety b).bits = 32) (w : Vec F ⟨(shp b).rank, sz⟩ (ety b)) (M : Mem F) :
    (wr (Pg.ops (A := A)) b off sz inb h he w).eff M = (⟨⟩, put b off sz inb w M) := rfl

theorem eff_wrn (b : Bf) (hA : (A b).IsWhole) (off sz : Fin (shp b).rank → ℕ) (inb : ∀ a, off a + sz a ≤ (shp b).size a)
    (h : 0 < (⟨(shp b).rank, sz⟩ : Shape).numel)
    (hp : (Rect.unit (s := shp b) off sz inb).PackedRows (ety b).packing) (w : Vec F ⟨(shp b).rank, sz⟩ (ety b)) (M : Mem F) :
    (wrn (Pg.ops (A := A)) b hA off sz inb h hp w).eff M = (⟨⟩, put b off sz inb w M) := rfl

theorem eff_cond (v : BitVec 1) (a : Pg F A PUnit.{1}) (M : Mem F) :
    ((Pg.ops (A := A)).cond v a).eff M = (⟨⟩, if v = 1#1 then (a.eff M).2 else M) := rfl

/-! ## Loops -/

theorem iter_eff {σ : Type} (N : ℕ) (body : (r : ℕ) → r < N → σ → Pg F A σ) (P : ℕ → σ → Mem F → Prop)
    (hs : ∀ r (hr : r < N) x M, P r x M → P (r + 1) ((body r hr x).eff M).1 ((body r hr x).eff M).2) :
    ∀ (n r : ℕ) (h : r + n ≤ N) (x : σ) (M : Mem F), P r x M →
      P (r + n) ((iter N body n r h x).eff M).1 ((iter N body n r h x).eff M).2
  | 0, r, h, x, M, h0 => h0
  | n + 1, r, h, x, M, h0 => by
      have := iter_eff N body P hs n (r + 1) (by omega) ((body r (by omega) x).eff M).1 ((body r (by omega) x).eff M).2
        (hs r (by omega) x M h0)
      rw [show r + (n + 1) = r + 1 + n by omega]
      unfold iter
      rw [Pg.eff_bind]
      exact this

theorem iterAll_eff {σ : Type} (N : ℕ) (body : (r : ℕ) → r < N → σ → Pg F A σ) (x : σ) (P : ℕ → σ → Mem F → Prop) (M : Mem F)
    (h0 : P 0 x M) (hs : ∀ r (hr : r < N) x M, P r x M → P (r + 1) ((body r hr x).eff M).1 ((body r hr x).eff M).2) :
    P N ((iterAll N body x).eff M).1 ((iterAll N body x).eff M).2 := by
  have key : ∀ K, K = N → P K ((iterAll N body x).eff M).1 ((iterAll N body x).eff M).2 →
      P N ((iterAll N body x).eff M).1 ((iterAll N body x).eff M).2 := fun K e h => e ▸ h
  exact key (0 + N) (Nat.zero_add N) (iter_eff N body P hs N 0 (by omega) x M h0)

theorem runs_eff {n : ℕ} (f : Fin n → Mem F → PUnit.{1} × Mem F) (P : ℕ → Mem F → Prop)
    (hs : ∀ (k : Fin n) M, P k.val M → P (k.val + 1) (f k M).2) :
    ∀ (d k : ℕ) (_ : k + d = n) (M : Mem F), P k M → P n (Pg.runs f ((List.finRange n).drop k) M)
  | 0, k, hk, M, h0 => by
      rw [List.drop_eq_nil_of_le (by rw [List.length_finRange]; omega)]
      obtain rfl : k = n := by omega
      exact h0
  | d + 1, k, hk, M, h0 => by
      rw [List.drop_eq_getElem_cons (by rw [List.length_finRange]; omega)]
      refine runs_eff f P hs d (k + 1) (by omega) _ ?_
      rw [List.getElem_finRange]
      exact hs ⟨k, by omega⟩ M h0

theorem loop_eff (l : Scf.Loop 32) (hok : l.OK) (body : Fin l.trips → Pg F A PUnit.{1}) (P : ℕ → Mem F → Prop) (M : Mem F)
    (h0 : P 0 M) (hs : ∀ (k : Fin l.trips) M, P k.val M → P (k.val + 1) ((body k).eff M).2) :
    P l.trips (((Pg.ops (A := A)).loop l hok body).eff M).2 :=
  runs_eff (fun t => (body t).eff) P hs l.trips 0 (by omega) M h0

/-! ## Buffers kept -/

/-- The piece leaves buffer `b` as it was. -/
structure Keeps {α : Type} (b : Bf) (p : Pg F A α) : Prop where
  of : ∀ M, (p.eff M).2 b = M b

namespace Keeps

variable {b : Bf} {α β : Type}

theorem pure (a : α) : Keeps b (Pure.pure a : Pg F A α) := ⟨fun _ => rfl⟩

theorem bind {p : Pg F A α} {g : α → Pg F A β} (hp : Keeps b p) (hg : ∀ a, Keeps b (g a)) : Keeps b (p >>= g) := ⟨fun M => by
  rw [Pg.eff_bind]; exact ((hg _).of _).trans (hp.of M)⟩

theorem rd (b' : Bf) (off sz inb h) : Keeps b (Body.rd (Pg.ops (F := F) (A := A)) b' off sz inb h) := ⟨fun _ => rfl⟩

theorem wr (b' : Bf) (off sz inb h he w) (hb : b ≠ b') : Keeps b (Body.wr (Pg.ops (F := F) (A := A)) b' off sz inb h he w) :=
  ⟨fun M => put_ne w M hb⟩

theorem wrn (b' : Bf) (hA off sz inb h hp w) (hb : b ≠ b') :
    Keeps b (Body.wrn (Pg.ops (F := F) (A := A)) b' hA off sz inb h hp w) :=
  ⟨fun M => put_ne w M hb⟩

theorem rdw (b' : Bf) (Off Sz Inb s hs off sz inb h) :
    Keeps b (Body.rdw (Pg.ops (F := F) (A := A)) b' Off Sz Inb s hs off sz inb h) := ⟨fun _ => rfl⟩

theorem wrw (b' : Bf) (Off Sz Inb s hs off sz inb h he w) (hb : b ≠ b') :
    Keeps b (Body.wrw (Pg.ops (F := F) (A := A)) b' Off Sz Inb s hs off sz inb h he w) :=
  ⟨fun M => Function.update_of_ne hb _ M⟩

theorem cond (v : BitVec 1) (a : Pg F A PUnit.{1}) (h : Keeps b a) : Keeps b ((Pg.ops (A := A)).cond v a) := ⟨fun M => by
  rw [eff_cond]; show (if v = 1#1 then (a.eff M).2 else M) b = M b
  split
  · exact h.of M
  · rfl⟩

theorem iterAll {σ : Type} (N : ℕ) (body : (r : ℕ) → r < N → σ → Pg F A σ) (x : σ) (h : ∀ r hr x, Keeps b (body r hr x)) :
    Keeps b (Body.iterAll N body x) := ⟨fun M =>
  iterAll_eff N body x (fun _ _ M' => M' b = M b) M rfl fun r hr x M' e => ((h r hr x).of M').trans e⟩

theorem loop (l : Scf.Loop 32) (hok : l.OK) (body : Fin l.trips → Pg F A PUnit.{1}) (h : ∀ k, Keeps b (body k)) :
    Keeps b ((Pg.ops (A := A)).loop l hok body) := ⟨fun M =>
  loop_eff l hok body (fun _ M' => M' b = M b) M rfl fun k M' e => ((h k).of M').trans e⟩

theorem ite (c : Bool) {p q : Pg F A α} (hp : Keeps b p) (hq : Keeps b q) : Keeps b (bif c then p else q) := by
  cases c
  · exact hq
  · exact hp

end Keeps

variable (hA : ∀ b, (A b).IsWhole)

theorem keeps_eye {b : Bf} (hb : b ≠ .eye) : Keeps b (eyeP (F := F) Pg.ops hA) :=
  .bind (.rd ..) fun _ => .wrn _ _ _ _ _ _ _ _ hb

theorem keeps_kt {b : Bf} (hb : b ≠ .kt) (c : ℕ) (hc : c < 4) : Keeps b (ktP (F := F) Pg.ops hA c hc) :=
  .bind (.rd ..) fun _ => .bind (.rd ..) fun _ => .bind (.rd ..) fun _ => .bind (.rd ..) fun _ => .wrn _ _ _ _ _ _ _ _ hb

theorem keeps_ksb {b : Bf} (hb : b ≠ .ksb) (c : ℕ) (hc : c < 8) : Keeps b (ksbP (F := F) (A := A) Pg.ops c hc) :=
  .bind (.rd ..) fun _ => .bind (.rd ..) fun _ => .bind (.rd ..) fun _ => .wr _ _ _ _ _ _ _ hb

theorem keeps_query {b : Bf} (t : ℕ) (ht : t < 8) : Keeps b (queryP (F := F) (A := A) Pg.ops t ht) :=
  .bind (.rd ..) fun _ => .bind (.rd ..) fun _ => .bind (.rd ..) fun _ => .bind (.rd ..) fun _ => .pure _

theorem keeps_pen {b : Bf} (h1 : b ≠ .c) (h2 : b ≠ .f) (cL : F .f32) (u qs qg g hg x hx) :
    Keeps b (penP (F := F) (A := A) Pg.ops cL u qs qg g hg x hx) :=
  .bind (.rd ..) fun _ => .bind (.rd ..) fun _ => .bind (.rd ..) fun _ => .bind (.rd ..) fun _ => .bind (.wr _ _ _ _ _ _ _ h2) fun _ =>
    .bind (.rd ..) fun _ => .bind (.rd ..) fun _ => .wr _ _ _ _ _ _ _ h1

theorem keeps_rdx {b : Bf} (par gi key hp hg hk) : Keeps b (rdx (F := F) (A := A) Pg.ops par gi key hp hg hk) := .rdw ..

theorem keeps_wrx {b : Bf} (hb : b ≠ .ex) (par gi key hp hg hk z) : Keeps b (wrx (F := F) (A := A) Pg.ops par gi key hp hg hk z) :=
  .bind (keeps_rdx ..) fun _ => .wrw _ _ _ _ _ _ _ _ _ _ _ _ hb

theorem keeps_scoreOne {b : Bf} (hb : b ≠ .ex) (t gi key ht hg hk x qs ks m) :
    Keeps b (scoreOne (F := F) (A := A) Pg.ops t gi key ht hg hk x qs ks m) :=
  .bind (.rd ..) fun _ => .bind (keeps_wrx hb ..) fun _ => .pure _

theorem keeps_scorePiece {b : Bf} (hb : b ≠ .ex) (t key ht hk both x0 x1 qs0 qs1 m) :
    Keeps b (scorePiece (F := F) (A := A) Pg.ops t key ht hk both x0 x1 qs0 qs1 m) :=
  .bind (.rd ..) fun _ => .bind (.ite _ (keeps_scoreOne hb ..) (.pure _)) fun _ => .bind (keeps_scoreOne hb ..) fun _ => .pure _

theorem keeps_score {b : Bf} (hb : b ≠ .ex) (t ht Q qs0 qs1) : Keeps b (scoreP (F := F) (A := A) Pg.ops t ht Q qs0 qs1) :=
  .bind (.iterAll _ _ _ fun _ _ _ => .bind (.rd ..) fun _ => .iterAll _ _ _ fun _ _ _ => keeps_scorePiece hb ..) fun _ =>
    .ite _ (.bind (.rd ..) fun _ => .iterAll _ _ _ fun _ _ _ => keeps_scorePiece hb ..) (.pure _)

theorem keeps_exp {b : Bf} (hb : b ≠ .ex) (t gi ht hg top) : Keeps b (expP (F := F) (A := A) Pg.ops t gi ht hg top) :=
  .iterAll _ _ _ fun _ _ _ => .bind (keeps_rdx ..) fun _ => .bind (keeps_wrx hb ..) fun _ => .pure _

theorem keeps_codes {b : Bf} (hb : b ≠ .p) (t gi ht hg fac) : Keeps b (codesP (F := F) Pg.ops hA t gi ht hg fac) :=
  .iterAll _ _ _ fun _ _ _ => .bind (keeps_rdx ..) fun _ => .bind (.rdw ..) fun _ => .wrn _ _ _ _ _ _ _ _ hb

theorem keeps_tile {b : Bf} (h1 : b ≠ .ex) (h2 : b ≠ .p) (h3 : b ≠ .o) (cS : F .f32) (v vs0 vs1 t ht) :
    Keeps b (tileP (F := F) Pg.ops hA cS v vs0 vs1 t ht) :=
  .bind (keeps_query ..) fun _ => .bind (keeps_score h1 ..) fun _ => .bind (keeps_exp h1 ..) fun _ => .bind (keeps_exp h1 ..) fun _ =>
    .bind (keeps_codes hA h2 ..) fun _ => .bind (keeps_codes hA h2 ..) fun _ =>
      .bind (.bind (.rdw ..) fun _ => .wrn _ _ _ _ _ _ _ _ h2) fun _ => .bind (.bind (.rdw ..) fun _ => .pure _) fun _ =>
        .bind (.bind (.rd ..) fun _ => .wrn _ _ _ _ _ _ _ _ h3) fun _ => .bind (.rd ..) fun _ => .wrn _ _ _ _ _ _ _ _ h3

end Cert.Body
-- ==== Proof.Vals.lean ====
/-
  The values the first step computes on the way to the second result, each read at an element, over exact arithmetic: the
  identity matrix, the keys of head 0 and their scales, the query tiles, the scores and a group's totals.
-/
module

public import proofs.«01_k».proof.Proof.Data
public import Idealize.ShloMosaic.Lib.Pointwise
public import Idealize.ShloMosaic.Lib.WordCmp

@[expose] public section

noncomputable section

namespace Cert.Body

open Idealize.ShloMosaic Idealize.ShloMosaic.TcCoe Idealize.SL.Sem Idealize.ShloMosaic.WordCmp
open Cert.KernelIdeal Cert.KernelIdeal.Facts Cert.KernelIdeal.Shapes1.Facts₀ Cert.KernelIdeal.K0.Facts₀

variable [Cert.KernelIdeal.Facts]

theorem eyeVal_apply (r c : Fin 256) : (shapeCast S256x256 (eyeVal (F := Ideal)) shapeCasts_S256x256_S256x256) (ix2 r c) = if r = c then (1:EReal) else 0 := by
  pointwise [eyeVal]
  rw [cmpi_eq_ofNat (by omega) (by omega)]
  by_cases h : r = c
  · subst h; simp [Scalar.select]
  · have : r.val ≠ c.val := fun e => h (Fin.ext e)
    simp [Scalar.select, h, this]

theorem ktVal_apply (eye : FVec Ideal S256x256 .fp8e4m3) (a b : Vec Ideal S1x1x64x256 .fp8e4m3) (r : Fin 256) (l : Fin 128) :
    shapeCast S256x128 (ktVal eye (shapeCast S64x256 a shapeCasts_S1x1x64x256_S64x256)
      (shapeCast S64x256 b shapeCasts_S1x1x64x256_S64x256)) shapeCasts_S256x128_S256x128 (ix2 r l) =
      ∑ x : Fin 256, eye (ix2 r x) * (if l.val < 64 then a else b) (ix4 0 0 ⟨l.val % 64, Nat.mod_lt _ (by decide)⟩ x) := by
  pointwise [ktVal]
  refine Finset.sum_congr rfl fun x _ => congrArg _ ?_
  split_ifs with h
  · exact congrArg a (congrArg (fun z => ix4 0 0 z x) (Fin.ext (Nat.mod_eq_of_lt h).symm))
  · exact congrArg b (congrArg (fun z => ix4 0 0 z x) (Fin.ext (by show l.val - 64 = l.val % 64; omega)))
  · rename_i h'; exact absurd rfl h'

theorem ksbVal_apply (a b : Vec Ideal S1x1x128 .f32) (r : Fin 128) (l : Fin 128) :
    shapeCast S128x128 (ksbVal a b) shapeCasts_S128x128_S128x128 (ix2 r l) = (if l.val < 64 then a else b) (ix3 0 0 r) := by
  pointwise [ksbVal, spread]
  split_ifs <;> rfl

theorem row0_apply (x y : Vec Ideal S1x1x128 .f32) (l : Fin 128) :
    row0 x y (ix2 0 l) = (if l.val < 64 then x else y) (ix3 0 0 ⟨l.val % 64, (Nat.mod_lt _ (by decide)).trans (by decide)⟩) := by
  pointwise [row0, lo1, rot1]
  rw [cmpi_slt_ofNat (by omega) (by norm_num)]
  by_cases h : l.val < 64
  · simp only [h, decide_true, if_true]
    exact congrArg x (congrArg (fun z => ix3 0 0 z) (Fin.ext (Nat.mod_eq_of_lt h).symm))
  · simp only [h, decide_false, if_false]
    exact congrArg y (congrArg (fun z => ix3 0 0 z) (Fin.ext (by show (l.val + 128 - 64) % 128 = l.val % 64; omega)))

theorem row1_apply (x y : Vec Ideal S1x1x128 .f32) (l : Fin 128) :
    row1 x y (ix2 0 l) = (if l.val < 64 then x else y) (ix3 0 0 ⟨64 + l.val % 64, by omega⟩) := by
  pointwise [row1, lo1, rot1]
  rw [cmpi_slt_ofNat (by omega) (by norm_num)]
  by_cases h : l.val < 64
  · simp only [h, decide_true, if_true]
    exact congrArg x (congrArg (fun z => ix3 0 0 z) (Fin.ext (by show (l.val + 128 - 64) % 128 = 64 + l.val % 64; omega)))
  · simp only [h, decide_false, if_false]
    exact congrArg y (congrArg (fun z => ix3 0 0 z) (Fin.ext (by show l.val = 64 + l.val % 64; omega)))

theorem mod64_apply (a : Fin 64) (l : Fin 128) :
    mod64 (iota .tc S64x128 32 [1] iota_S64x128_d1_w32) (ix2 a l) = BitVec.ofNat 32 (l.val % 64) := by
  pointwise [mod64]
  revert l; decide +kernel

theorem fdiv64_apply (r : Fin 128) (l : Fin 256) :
    fdiv64 (iota .tc S128x256 32 [0] iota_S128x256_d0_w32) (ix2 r l) = BitVec.ofNat 32 (r.val / 64) := by
  pointwise [fdiv64]
  revert r; decide +kernel

theorem fdiv64_mod128_apply (r : Fin 128) (l : Fin 256) :
    fdiv64 (mod128 (iota .tc S128x256 32 [1] iota_S128x256_d1_w32)) (ix2 r l) = BitVec.ofNat 32 (l.val % 128 / 64) := by
  pointwise [fdiv64, mod128]
  revert l; decide +kernel

theorem uVal_apply (r : Fin 128) (l : Fin 128) :
    uVal (F := Ideal) (ix2 r ⟨128 + l.val, by omega⟩) = if r.val / 64 = l.val / 64 then (1 : EReal) else 0 := by
  pointwise [uVal]
  rw [fdiv64_apply, fdiv64_mod128_apply, cmpi_eq_ofNat (by omega) (by omega), cmpi_sge_ofNat (by omega) (by norm_num),
    cmpi_slt_ofNat (by omega) (by omega)]
  have e : l.val % 128 / 64 = l.val / 64 := by omega
  have e' : r.val < 128 + l.val := by omega
  by_cases h : r.val / 64 = l.val / 64
  · simp [e, h, e', Scalar.select, IntOp.andi, IntOp.ori]
  · simp [e, h, e', Scalar.select, IntOp.andi, IntOp.ori]

/-- A group's block-diagonal queries: the lane's own batch on the rows of that batch, nothing elsewhere. -/
def qAt (h : ℕ) (hh : h < 2) (x y : Vec Ideal S1x1x64x128 .fp8e4m3) (r l : Fin 128) : EReal :=
  if r.val / 64 = l.val / 64 then
    (if l.val < 64 then x else y) (ix4 0 0 ⟨r.val % 64, Nat.mod_lt _ (by decide)⟩ ⟨64 * h + l.val % 64, by omega⟩)
  else 0

theorem qbVal_apply0 (x y : Vec Ideal S1x1x64x128 .fp8e4m3) (r l : Fin 128) :
    extractStridedSlice S128x128 ![0, 0] (qbVal x y) slices_S128x256_o0_0_S128x128 (ix2 r l) = qAt 0 (by decide) x y r l := by
  pointwise [qbVal, lo, rot, qAt]
  rw [cmpi_slt_ofNat (by omega) (by norm_num)]
  by_cases h : r.val < 64 <;> by_cases g : l.val < 64
  · rw [if_pos (by omega : r.val / 64 = l.val / 64)]
    simp only [h, g, decide_true, if_true, dif_pos]
    exact congrArg₂ (fun z w => x (ix4 0 0 z w)) (Fin.ext (by show r.val = r.val % 64; omega)) (Fin.ext (by show l.val = l.val % 64; omega))
  · rw [if_neg (by omega : ¬ r.val / 64 = l.val / 64)]
    simp only [h, g, decide_false, dif_pos]; rfl
  · rw [if_neg (by omega : ¬ r.val / 64 = l.val / 64)]
    simp only [h, g, decide_true, dif_neg, not_false_eq_true]; rfl
  · rw [if_pos (by omega : r.val / 64 = l.val / 64)]
    simp only [h, g, decide_false, if_false, dif_neg, not_false_eq_true]
    exact congrArg₂ (fun z w => y (ix4 0 0 z w)) (Fin.ext (by show r.val - 64 = r.val % 64; omega)) (Fin.ext (by show (l.val + 128 - 64) % 128 = l.val % 64; omega))

theorem qbVal_apply1 (x y : Vec Ideal S1x1x64x128 .fp8e4m3) (r l : Fin 128) :
    extractStridedSlice S128x128 ![0, 128] (qbVal x y) slices_S128x256_o0_128_S128x128 (ix2 r l) = qAt 1 (by decide) x y r l := by
  pointwise [qbVal, lo, rot, qAt]
  rw [cmpi_slt_ofNat (by omega) (by norm_num)]
  by_cases h : r.val < 64 <;> by_cases g : l.val < 64
  · rw [if_pos (by omega : r.val / 64 = l.val / 64)]
    simp only [h, g, decide_true, if_true, dif_pos]
    exact congrArg₂ (fun z w => x (ix4 0 0 z w)) (Fin.ext (by show r.val = r.val % 64; omega)) (Fin.ext (by show (l.val + 128 - 64) % 128 = 64 + l.val % 64; omega))
  · rw [if_neg (by omega : ¬ r.val / 64 = l.val / 64)]
    simp only [h, g, decide_false, dif_pos]; rfl
  · rw [if_neg (by omega : ¬ r.val / 64 = l.val / 64)]
    simp only [h, g, decide_true, dif_neg, not_false_eq_true]; rfl
  · rw [if_pos (by omega : r.val / 64 = l.val / 64)]
    simp only [h, g, decide_false, if_false, dif_neg, not_false_eq_true]
    exact congrArg₂ (fun z w => y (ix4 0 0 z w)) (Fin.ext (by show r.val - 64 = r.val % 64; omega)) (Fin.ext (by show l.val = 64 + l.val % 64; omega))

/-- The score of key `j` for query `i`, from the product of the codes and the two scales. -/
def score (i j : ℕ) (acc a k : EReal) : EReal := if 0 < j ∧ j < i then max (acc * a * k) 0 else 0

theorem sVal_apply (n : ℕ) (hn : n < 16) (g : ℕ) (hg : g < 16) (kt : FVec Ideal S64x128 .fp8e4m3) (qg : FVec Ideal S128x128 .fp8e4m3)
    (qs : FVec Ideal S1x128 .f32) (ks : FVec Ideal S64x128 .f32) (a : Fin 64) (l : Fin 128) :
    sVal (BitVec.ofNat 32 n) g kt qg qs ks (ix2 a l) =
      score (64 * g + l.val % 64) (64 * n + a.val) (∑ x : Fin 128, kt (ix2 a x) * qg (ix2 x l)) (qs (ix2 0 l)) (ks (ix2 a l)) := by
  have e1 : jIdx (BitVec.ofNat 32 n) (ix2 a l) = BitVec.ofNat 32 (64 * n + a.val) := by
    pointwise [jIdx]
    simp [IntOp.addi, Scalar.muli, IntOp.muli]
    rw [show (64 * n + a.val) = a.val + n * 64 by omega, BitVec.ofNat_add, BitVec.ofNat_mul]
  have e2 : iIdx g (ix2 a l) = BitVec.ofNat 32 (64 * g + l.val % 64) := by
    pointwise [iIdx]
    rw [mod64_apply]
    simp only [IntOp.addi]
    rw [← BitVec.ofNat_add, Nat.add_comm]
  pointwise [sVal]
  rw [e1, e2, cmpi_sgt_ofNat (by omega) (by norm_num), cmpi_slt_ofNat (by omega) (by omega)]
  unfold score
  by_cases h1 : 0 < 64 * n + a.val <;> by_cases h2 : 64 * n + a.val < 64 * g + l.val % 64 <;> simp [h1, h2, Scalar.select, IntOp.andi]

/-- A group's total for a lane: the scores of the lane's batch. -/
theorem total_apply (s : FVec Ideal S64x128 .f32) (c : FVec Ideal S64x128 .f32) (a : Fin 64) (l : Fin 128) :
    (shapeCast S64x128 (addf c (extractStridedSlice S64x128 ![0, 128] (runVal uVal s) slices_S64x256_o0_128_S64x128))
      shapeCasts_S64x128_S64x128) (ix2 a l) = c (ix2 a l) + ∑ x : Fin 64, s (ix2 a ⟨64 * (l.val / 64) + x.val, by omega⟩) := by
  pointwise [runVal]
  refine congrArg _ ?_
  simp only [uVal_apply]
  rw [show (Finset.univ : Finset (Fin 128)) = (Finset.univ : Finset (Fin (64 + 64))) from rfl]
  refine (Fin.sum_univ_add (a := 64) (b := 64) (fun x : Fin (64 + 64) => s (ix2 a x) * (if x.val / 64 = l.val / 64 then (1 : EReal) else 0))).trans ?_
  by_cases h : l.val < 64
  · have h0 : l.val / 64 = 0 := by omega
    have z : ∀ x : Fin 64, (Fin.natAdd 64 x).val / 64 = 1 := fun x => by simp only [Fin.val_natAdd]; omega
    have z' : ∀ x : Fin 64, (Fin.castAdd 64 x).val / 64 = 0 := fun x => by simp only [Fin.val_castAdd]; omega
    simp only [h0, z, z', if_true, one_ne_zero, if_false, mul_one, mul_zero, Finset.sum_const_zero, add_zero]
    exact Finset.sum_congr rfl fun x _ => congrArg (fun z => s (ix2 a z)) (Fin.ext (by show x.val = 64 * 0 + x.val; omega))
  · have h0 : l.val / 64 = 1 := by omega
    have z : ∀ x : Fin 64, (Fin.natAdd 64 x).val / 64 = 1 := fun x => by simp only [Fin.val_natAdd]; omega
    have z' : ∀ x : Fin 64, (Fin.castAdd 64 x).val / 64 = 0 := fun x => by simp only [Fin.val_castAdd]; omega
    simp only [h0, z, z', if_true, zero_ne_one, if_false, mul_one, mul_zero, Finset.sum_const_zero, zero_add]
    exact Finset.sum_congr rfl fun x _ => congrArg (fun z => s (ix2 a z)) (Fin.ext (by show 64 + x.val = 64 * 1 + x.val; omega))

end Cert.Body
-- ==== Proof.Pen.lean ====
/-
  The penalty's totals: what the first step leaves in the second result's buffer, over exact arithmetic.
-/
module

public import proofs.«01_k».proof.Proof.Eff
public import proofs.«01_k».proof.Proof.Vals

@[expose] public section

noncomputable section

namespace Cert.Body

open Idealize.ShloMosaic Idealize.ShloMosaic.TcCoe Idealize.SL.Sem
open Cert.KernelIdeal Cert.KernelIdeal.Facts Cert.KernelIdeal.Shapes1.Facts₀ Cert.KernelIdeal.K0.Facts₀

variable {sig : RefSig} [Cert.KernelIdeal.Facts]
variable {A : ∀ b : Bf, Memref sig .tc .vmem (shp b) (ety b)} (hA : ∀ b, (A b).IsWhole)

/-! ## Sums -/

/-- A sum over 128 lanes of terms that vanish off one half is the sum over that half. -/
theorem sum_half (f : Fin 128 → EReal) (β : ℕ) (hβ : β < 2) (h0 : ∀ r : Fin 128, r.val / 64 ≠ β → f r = 0) :
    ∑ r, f r = ∑ d : Fin 64, f ⟨64 * β + d.val, by omega⟩ := by
  refine (Fin.sum_univ_add (a := 64) (b := 64) (f : Fin (64 + 64) → EReal)).trans ?_
  have e0 : β ≠ 0 → ∑ d : Fin 64, f (Fin.castAdd 64 d : Fin (64 + 64)) = 0 := fun h =>
    Finset.sum_eq_zero fun d _ => h0 _ (by show d.val / 64 ≠ β; omega)
  have e1 : β ≠ 1 → ∑ d : Fin 64, f (Fin.natAdd 64 d : Fin (64 + 64)) = 0 := fun h =>
    Finset.sum_eq_zero fun d _ => h0 _ (by show (64 + d.val) / 64 ≠ β; omega)
  obtain rfl | rfl : β = 0 ∨ β = 1 := by omega
  · rw [e1 (by omega), add_zero]
    exact Finset.sum_congr rfl fun d _ => congrArg f (Fin.ext (by show d.val = 64 * 0 + d.val; omega))
  · rw [e0 (by omega), zero_add]
    exact Finset.sum_congr rfl fun d _ => congrArg f (Fin.ext (by show 64 + d.val = 64 * 1 + d.val; omega))

/-! ## The queries' scores -/

/-- The product of a key's and a query's codes of head 0 -/
def dotAt (M : Mem Ideal) (b : Fin 2) (i j : Fin 1024) : EReal :=
  ∑ d : Fin 64, M .k (ix4 b 0 d j) * M .q (ix4 b 0 d i)

/-- and its score. -/
def scAt (M : Mem Ideal) (b : Fin 2) (i j : Fin 1024) : EReal :=
  score i.val j.val (dotAt M b i j) (M .qs (ix3 0 b i) * (cf 0x3E000000#32 : Ideal .f32)) (M .ks (ix3 0 b j))

/-- The score is nothing from the diagonal on. -/
theorem score_zero {i j : ℕ} (h : i ≤ j) (x y z : EReal) : score i j x y z = 0 := by
  unfold score; rw [if_neg (by omega)]

/-! ## Scratch contents -/

def EyeOk (M : Mem Ideal) : Prop := ∀ r c : Fin 256, M .eye (ix2 r c) = if r = c then (1 : EReal) else 0

def KtOk (M : Mem Ideal) (n : ℕ) : Prop := ∀ (j : Fin 1024) (l : Fin 128), j.val < n →
  M .kt (ix2 j l) = M .k (ix4 ⟨l.val / 64, by omega⟩ 0 ⟨l.val % 64, by omega⟩ j)

def KsOk (M : Mem Ideal) (n : ℕ) : Prop := ∀ (j : Fin 1024) (l : Fin 128), j.val < n →
  M .ksb (ix2 j l) = M .ks (ix3 0 ⟨l.val / 64, by omega⟩ j)

theorem eye_ok (M : Mem Ideal) : EyeOk ((eyeP (F := Ideal) Pg.ops hA).eff M).2 := fun r c =>
  by
    refine (put_in (b := .eye) _ M (ix2 r c) (ix2 r c) ?_).trans (eyeVal_apply r c)
    exact fun a => match a with | 0 => (Nat.zero_add _).symm | 1 => (Nat.zero_add _).symm

theorem eff_kt (c : ℕ) (hc : c < 4) (M : Mem Ideal) : ((ktP (F := Ideal) Pg.ops hA c hc).eff M).2 =
    put .kt ![256 * c, 0] S256x128.size (inb2 (by omega) le_rfl)
      (shapeCast S256x128 (ktVal (blk .eye ![0, 0] S256x256.size (inb2 le_rfl le_rfl) M)
        (shapeCast S64x256 (blk .k ![0, 0, 0, 256 * c] S1x1x64x256.size (inb4 (by norm_num) (by norm_num) (by norm_num) (by omega)) M)
          shapeCasts_S1x1x64x256_S64x256)
        (shapeCast S64x256 (blk .k ![1, 0, 0, 256 * c] S1x1x64x256.size (inb4 (by norm_num) (by norm_num) (by norm_num) (by omega)) M)
          shapeCasts_S1x1x64x256_S64x256)) shapeCasts_S256x128_S256x128) M := rfl

theorem kt_step (c : ℕ) (hc : c < 4) (M : Mem Ideal) (he : EyeOk M) (hk : KtOk M (256 * c)) :
    KtOk ((ktP (F := Ideal) Pg.ops hA c hc).eff M).2 (256 * (c + 1)) := by
  intro j l hj
  rw [(keeps_kt hA (b := .k) (by decide) c hc).of M, eff_kt]
  by_cases h : j.val < 256 * c
  · rw [put_out (b := .kt) _ M (ix2 j l) 0 (.inl h)]
    exact hk j l h
  · refine (put_in (b := .kt) _ M (ix2 j l) (ix2 ⟨j.val - 256 * c, by omega⟩ l) ?_).trans ?_
    · exact fun a => match a with
      | 0 => by show j.val = 256 * c + (j.val - 256 * c); omega
      | 1 => (Nat.zero_add _).symm
    refine (ktVal_apply _ _ _ _ _).trans ?_
    rw [Finset.sum_eq_single (⟨j.val - 256 * c, by omega⟩ : Fin 256)]
    · rw [blk_apply (b := .eye) (ix2 _ _) (ix2 (⟨j.val - 256 * c, by omega⟩ : Fin 256) (⟨j.val - 256 * c, by omega⟩ : Fin 256))
        (fun a => match a with | 0 => (Nat.zero_add _).symm | 1 => (Nat.zero_add _).symm), he, if_pos rfl, one_mul]
      split_ifs with hl
      · exact blk_apply (b := .k) _ _ (fun a => match a with
          | 0 => by show l.val / 64 = 0 + 0; omega | 1 => rfl | 2 => (Nat.zero_add _).symm
          | 3 => by show j.val = 256 * c + (j.val - 256 * c); omega)
      · exact blk_apply (b := .k) _ _ (fun a => match a with
          | 0 => by show l.val / 64 = 1 + 0; omega | 1 => rfl | 2 => (Nat.zero_add _).symm
          | 3 => by show j.val = 256 * c + (j.val - 256 * c); omega)
    · intro x _ hx
      rw [blk_apply (b := .eye) (ix2 _ _) (ix2 (⟨j.val - 256 * c, by omega⟩ : Fin 256) x)
        (fun a => match a with | 0 => (Nat.zero_add _).symm | 1 => (Nat.zero_add _).symm), he, if_neg (fun e => hx e.symm), zero_mul]
    · intro h; exact absurd (Finset.mem_univ _) h

theorem eff_ksb (c : ℕ) (hc : c < 8) (M : Mem Ideal) : ((ksbP (F := Ideal) (A := A) Pg.ops c hc).eff M).2 =
    put .ksb ![128 * c, 0] S128x128.size (inb2 (by omega) le_rfl)
      (shapeCast S128x128 (ksbVal (blk .ks ![0, 0, 128 * c] S1x1x128.size (inb3 (by norm_num) (by norm_num) (by omega)) M)
        (blk .ks ![0, 1, 128 * c] S1x1x128.size (inb3 (by norm_num) (by norm_num) (by omega)) M)) shapeCasts_S128x128_S128x128) M := rfl

theorem ks_step (c : ℕ) (hc : c < 8) (M : Mem Ideal) (hk : KsOk M (128 * c)) :
    KsOk ((ksbP (F := Ideal) (A := A) Pg.ops c hc).eff M).2 (128 * (c + 1)) := by
  intro j l hj
  rw [(keeps_ksb (A := A) (b := .ks) (by decide) c hc).of M, eff_ksb]
  by_cases h : j.val < 128 * c
  · rw [put_out (b := .ksb) _ M (ix2 j l) 0 (.inl h)]
    exact hk j l h
  · refine (put_in (b := .ksb) _ M (ix2 j l) (ix2 ⟨j.val - 128 * c, by omega⟩ l) ?_).trans ?_
    · exact fun a => match a with
      | 0 => by show j.val = 128 * c + (j.val - 128 * c); omega
      | 1 => (Nat.zero_add _).symm
    refine (ksbVal_apply _ _ _ _).trans ?_
    split_ifs with hl
    · exact blk_apply (b := .ks) _ _ (fun a => match a with
        | 0 => rfl | 1 => by show l.val / 64 = 0 + 0; omega
        | 2 => by show j.val = 128 * c + (j.val - 128 * c); omega)
    · exact blk_apply (b := .ks) _ _ (fun a => match a with
        | 0 => rfl | 1 => by show l.val / 64 = 1 + 0; omega
        | 2 => by show j.val = 128 * c + (j.val - 128 * c); omega)

/-! ## One block of keys against a group of queries -/

/-- A query's score for a key, from the contents of the scratch, -/
def grpTerm (M : Mem Ideal) (qs : FVec Ideal S1x128 .f32) (qg : FVec Ideal S128x128 .fp8e4m3) (g : ℕ) (j : Fin 1024) (l : Fin 128)
    (x : Fin 64) : EReal :=
  score (64 * g + (64 * (l.val / 64) + x.val) % 64) j.val
    (∑ r : Fin 128, M .kt (ix2 j r) * qg (ix2 r ⟨64 * (l.val / 64) + x.val, by omega⟩))
    (qs (ix2 0 ⟨64 * (l.val / 64) + x.val, by omega⟩)) (M .ksb (ix2 j ⟨64 * (l.val / 64) + x.val, by omega⟩))

/-- and what a group adds to a key's running total. -/
def grpAt (M : Mem Ideal) (qs : FVec Ideal S1x128 .f32) (qg : FVec Ideal S128x128 .fp8e4m3) (g : ℕ) (j : Fin 1024) (l : Fin 128) : EReal :=
  ∑ x : Fin 64, grpTerm M qs qg g j l x

/-- The contents before a block's last store: the penalty stored. -/
def penMid (cL : Ideal .f32) (u : FVec Ideal S128x256 .f32) (qs : FVec Ideal S1x128 .f32) (qg : FVec Ideal S128x128 .fp8e4m3) (g : ℕ)
    (hg : g < 16) (x : BitVec 32) (hx : wOf x + 64 ≤ 1024) (M : Mem Ideal) : Mem Ideal :=
  put .f ![g, wOf x, 0] S1x64x128.size (inb3 (by omega) hx le_rfl)
    (shapeCast S1x64x128 (fVal cL x g (runVal u (sVal x g (blk .kt ![wOf x, 0] S64x128.size (inb2 hx le_rfl) M) qg qs
      (blk .ksb ![wOf x, 0] S64x128.size (inb2 hx le_rfl) M))) (blk .c ![wOf x, 0] S64x128.size (inb2 hx le_rfl) M))
      shapeCasts_S64x128_S1x64x128) M

theorem eff_pen (cL : Ideal .f32) (u : FVec Ideal S128x256 .f32) (qs : FVec Ideal S1x128 .f32) (qg : FVec Ideal S128x128 .fp8e4m3) (g : ℕ)
    (hg : g < 16) (x : BitVec 32) (hx : wOf x + 64 ≤ 1024) (M : Mem Ideal) :
    ((penP (F := Ideal) (A := A) Pg.ops cL u qs qg g hg x hx).eff M).2 =
      put .c ![wOf x, 0] S64x128.size (inb2 hx le_rfl)
        (shapeCast S64x128 (addf (blk .c ![wOf x, 0] S64x128.size (inb2 hx le_rfl) (penMid cL u qs qg g hg x hx M))
          (extractStridedSlice S64x128 ![0, 128] (runVal u (sVal x g (blk .kt ![wOf x, 0] S64x128.size (inb2 hx le_rfl) M) qg qs
            (blk .ksb ![wOf x, 0] S64x128.size (inb2 hx le_rfl) M))) slices_S64x256_o0_128_S64x128))
          shapeCasts_S64x128_S64x128) (penMid cL u qs qg g hg x hx M) := rfl

theorem wOf_ofNat (n : ℕ) (hn : n < 16) : wOf (BitVec.ofNat 32 n) = 64 * n := by
  interval_cases n <;> decide

theorem pen_c (cL : Ideal .f32) (qs : FVec Ideal S1x128 .f32) (qg : FVec Ideal S128x128 .fp8e4m3) (g : ℕ)
    (hg : g < 16) (x : BitVec 32) (hx : wOf x + 64 ≤ 1024) (n : ℕ) (hn : n < 16) (hxn : x = BitVec.ofNat 32 n) (M : Mem Ideal)
    (j : Fin 1024) (l : Fin 128) :
    ((penP (F := Ideal) (A := A) Pg.ops cL uVal qs qg g hg x hx).eff M).2 .c (ix2 j l) =
      if j.val / 64 = n then M .c (ix2 j l) + grpAt M qs qg g j l else M .c (ix2 j l) := by
  subst hxn
  have hw := wOf_ofNat n hn
  rw [eff_pen]
  have hmid : penMid cL uVal qs qg g hg (BitVec.ofNat 32 n) hx M .c = M .c := put_ne _ _ (by decide)
  by_cases h : j.val / 64 = n
  · rw [if_pos h]
    refine (put_in (b := .c) _ _ (ix2 j l) (ix2 (⟨j.val - 64 * n, by omega⟩ : Fin 64) l) ?_).trans ?_
    · exact fun a => match a with
      | 0 => by show j.val = wOf (BitVec.ofNat 32 n) + (j.val - 64 * n); omega
      | 1 => (Nat.zero_add _).symm
    refine (total_apply _ _ _ _).trans ?_
    have hj : ∀ y : Fin 128, ∀ a : Fin 2, ((ix2 j y : (⟨2, ![1024, 128]⟩ : Shape).Idx) a).val =
        (![wOf (BitVec.ofNat 32 n), 0] : Fin 2 → ℕ) a + ((ix2 (⟨j.val - 64 * n, by omega⟩ : Fin 64) y : (⟨2, ![64, 128]⟩ : Shape).Idx) a).val :=
      fun y a => match a with
        | 0 => by show j.val = wOf (BitVec.ofNat 32 n) + (j.val - 64 * n); omega
        | 1 => (Nat.zero_add _).symm
    refine congrArg₂ (· + ·) ?_ (Finset.sum_congr rfl fun x _ => ?_)
    · rw [blk_apply (b := .c) _ (ix2 j l) (hj l), hmid]
    · rw [sVal_apply n hn g hg]
      rw [show 64 * n + (j.val - 64 * n) = j.val by omega]
      rw [blk_apply (b := .ksb) _ (ix2 j _) (hj _)]
      congr 1
      exact Finset.sum_congr rfl fun r _ => by rw [blk_apply (b := .kt) _ (ix2 j _) (hj _)]
  · rw [if_neg h, put_out (b := .c) _ _ (ix2 j l) 0 (by
      show j.val < wOf (BitVec.ofNat 32 n) ∨ wOf (BitVec.ofNat 32 n) + 64 ≤ j.val; omega), hmid]

/-! ## A group -/

theorem trips_eq (n : ℕ) (hn : n ≤ 16) : (penLoop n).trips = n := by
  interval_cases n <;> decide

theorem iv_eq (n : ℕ) (hn : n ≤ 16) (k : Fin (penLoop n).trips) : Scf.iv 0#32 1#32 k = BitVec.ofNat 32 k.val := by
  have : k.val < 16 := lt_of_lt_of_le k.isLt ((penLoop_trips n hn).trans hn)
  rcases k with ⟨k, hk⟩
  simp only at this
  show Scf.iv 0#32 1#32 k = BitVec.ofNat 32 k
  interval_cases k <;> decide

theorem keeps_group {b : Bf} (h1 : b ≠ .c) (h2 : b ≠ .f) (cL : Ideal .f32) (u qs qg) : (g : ℕ) → (hg : g < 16) →
    Keeps b (penGroup (F := Ideal) (A := A) Pg.ops cL u qs qg g hg)
  | 0, _ => keeps_pen h1 h2 cL u qs qg 0 (by omega) 0#32 (by decide)
  | _ + 1, _ => .loop _ _ _ fun _ => keeps_pen h1 h2 ..

theorem grp_zero (M : Mem Ideal) (qs qg) (g : ℕ) (j : Fin 1024) (l : Fin 128) (h : g < j.val / 64) : grpAt M qs qg g j l = 0 :=
  Finset.sum_eq_zero fun x _ => score_zero (by omega) _ _ _

theorem group_c (cL : Ideal .f32) (qs : FVec Ideal S1x128 .f32) (qg : FVec Ideal S128x128 .fp8e4m3) (g : ℕ)
    (hg : g < 16) (M : Mem Ideal) (j : Fin 1024) (l : Fin 128) :
    ((penGroup (F := Ideal) (A := A) Pg.ops cL uVal qs qg g hg).eff M).2 .c (ix2 j l) = M .c (ix2 j l) + grpAt M qs qg g j l := by
  have key : ((penGroup (F := Ideal) (A := A) Pg.ops cL uVal qs qg g hg).eff M).2 .c (ix2 j l) =
      if j.val / 64 < g + 1 then M .c (ix2 j l) + grpAt M qs qg g j l else M .c (ix2 j l) := by
    match g, hg with
    | 0, hg =>
      refine (pen_c (A := A) cL qs qg 0 hg 0#32 (by decide) 0 (by omega) rfl M j l).trans ?_
      congr 1
      exact propext (by omega)
    | g + 1, hg =>
      have h := loop_eff (A := A) (penLoop (g + 2)) (penLoop_ok (g + 2) (by omega))
        (fun k => penP (F := Ideal) Pg.ops cL uVal qs qg (g + 1) hg (Scf.iv 0#32 1#32 k) (wOf_iv (g + 2) (by omega) k))
        (fun n M' => (M' .kt = M .kt ∧ M' .ksb = M .ksb) ∧ M' .c (ix2 j l) =
          if j.val / 64 < n then M .c (ix2 j l) + grpAt M qs qg (g + 1) j l else M .c (ix2 j l)) M ⟨⟨rfl, rfl⟩, by rw [if_neg (by omega)]⟩
        (fun k M' hM => by
          have hk : k.val < 16 := lt_of_lt_of_le k.isLt ((penLoop_trips (g + 2) (by omega)).trans (by omega))
          refine ⟨⟨((keeps_pen (by decide) (by decide) ..).of M').trans hM.1.1, ((keeps_pen (by decide) (by decide) ..).of M').trans hM.1.2⟩, ?_⟩
          rw [pen_c (A := A) cL qs qg (g + 1) hg _ _ k.val hk (iv_eq (g + 2) (by omega) k) M' j l, hM.2]
          have e : grpAt M' qs qg (g + 1) j l = grpAt M qs qg (g + 1) j l := by
            unfold grpAt grpTerm; rw [hM.1.1, hM.1.2]
          rw [e]
          by_cases h1 : j.val / 64 = k.val
          · rw [if_pos h1, if_neg (by omega), if_pos (by omega)]
          · rw [if_neg h1]
            congr 1
            exact propext (by omega))
      refine h.2.trans ?_
      rw [trips_eq (g + 2) (by omega)]
  rw [key]
  split_ifs with h
  · rfl
  · rw [grp_zero M qs qg g j l (by omega), add_zero]

/-! ## All groups -/

/-- What group `g` adds: the scores of its 64 queries of the lane's batch. -/
def grpSum (M : Mem Ideal) (b : Fin 2) (j : Fin 1024) (g : ℕ) : EReal :=
  if hg : g < 16 then ∑ x : Fin 64, scAt M b ⟨64 * g + x.val, by omega⟩ j else 0

theorem eff_query (t : ℕ) (ht : t < 8) (M : Mem Ideal) : (queryP (F := Ideal) (A := A) Pg.ops t ht).eff M =
    (⟨qbVal (blk .q ![0, 0, 0, 128 * t] S1x1x64x128.size (inb4 (by norm_num) (by norm_num) (by norm_num) (by omega)) M)
        (blk .q ![1, 0, 0, 128 * t] S1x1x64x128.size (inb4 (by norm_num) (by norm_num) (by norm_num) (by omega)) M),
      row0 (blk .qs ![0, 0, 128 * t] S1x1x128.size (inb3 (by norm_num) (by norm_num) (by omega)) M)
        (blk .qs ![0, 1, 128 * t] S1x1x128.size (inb3 (by norm_num) (by norm_num) (by omega)) M),
      row1 (blk .qs ![0, 0, 128 * t] S1x1x128.size (inb3 (by norm_num) (by norm_num) (by omega)) M)
        (blk .qs ![0, 1, 128 * t] S1x1x128.size (inb3 (by norm_num) (by norm_num) (by omega)) M)⟩, M) := rfl

/-- A query's score, once the group's queries and scales are those of the buffers. -/
theorem grp_term (M : Mem Ideal) (hk : KtOk M 1024) (hs : KsOk M 1024) (t h : ℕ) (ht : t < 8) (hh : h < 2) (qs : FVec Ideal S1x128 .f32)
    (qg : FVec Ideal S128x128 .fp8e4m3)
    (hqg : ∀ r l : Fin 128, qg (ix2 r l) = qAt h hh
      (blk .q ![0, 0, 0, 128 * t] S1x1x64x128.size (inb4 (by norm_num) (by norm_num) (by norm_num) (by omega)) M)
      (blk .q ![1, 0, 0, 128 * t] S1x1x64x128.size (inb4 (by norm_num) (by norm_num) (by norm_num) (by omega)) M) r l)
    (hqs : ∀ l : Fin 128, qs (ix2 0 l) =
      (if l.val < 64 then blk .qs ![0, 0, 128 * t] S1x1x128.size (inb3 (by norm_num) (by norm_num) (by omega)) M
        else blk .qs ![0, 1, 128 * t] S1x1x128.size (inb3 (by norm_num) (by norm_num) (by omega)) M)
        (ix3 0 0 (⟨64 * h + l.val % 64, by omega⟩ : Fin 128)) * (cf 0x3E000000#32 : Ideal .f32))
    (j : Fin 1024) (l : Fin 128) (x : Fin 64) :
    grpTerm M qs qg (2 * t + h) j l x = scAt M ⟨l.val / 64, by omega⟩ ⟨64 * (2 * t + h) + x.val, by omega⟩ j := by
  unfold grpTerm
  have e1 : (64 * (l.val / 64) + x.val) % 64 = x.val := by omega
  have e2 : (64 * (l.val / 64) + x.val) / 64 = l.val / 64 := by omega
  have hq : ∀ d : Fin 64, (if 64 * (l.val / 64) + x.val < 64 then
      blk .q ![0, 0, 0, 128 * t] S1x1x64x128.size (inb4 (by norm_num) (by norm_num) (by norm_num) (by omega)) M
      else blk .q ![1, 0, 0, 128 * t] S1x1x64x128.size (inb4 (by norm_num) (by norm_num) (by norm_num) (by omega)) M)
      (ix4 0 0 d (⟨64 * h + (64 * (l.val / 64) + x.val) % 64, by omega⟩ : Fin 128)) =
      M .q (ix4 (⟨l.val / 64, by omega⟩ : Fin 2) 0 d (⟨64 * (2 * t + h) + x.val, by omega⟩ : Fin 1024)) := fun d => by
    split_ifs with hl
    · exact blk_apply (b := .q) _ _ (fun a => match a with
        | 0 => by show l.val / 64 = 0 + 0; omega | 1 => rfl | 2 => (Nat.zero_add _).symm
        | 3 => by show 64 * (2 * t + h) + x.val = 128 * t + (64 * h + (64 * (l.val / 64) + x.val) % 64); omega)
    · exact blk_apply (b := .q) _ _ (fun a => match a with
        | 0 => by show l.val / 64 = 1 + 0; omega | 1 => rfl | 2 => (Nat.zero_add _).symm
        | 3 => by show 64 * (2 * t + h) + x.val = 128 * t + (64 * h + (64 * (l.val / 64) + x.val) % 64); omega)
  have hqs' : (if 64 * (l.val / 64) + x.val < 64 then
      blk .qs ![0, 0, 128 * t] S1x1x128.size (inb3 (by norm_num) (by norm_num) (by omega)) M
      else blk .qs ![0, 1, 128 * t] S1x1x128.size (inb3 (by norm_num) (by norm_num) (by omega)) M)
      (ix3 0 0 (⟨64 * h + (64 * (l.val / 64) + x.val) % 64, by omega⟩ : Fin 128)) =
      M .qs (ix3 0 (⟨l.val / 64, by omega⟩ : Fin 2) (⟨64 * (2 * t + h) + x.val, by omega⟩ : Fin 1024)) := by
    split_ifs with hl
    · exact blk_apply (b := .qs) _ _ (fun a => match a with
        | 0 => rfl | 1 => by show l.val / 64 = 0 + 0; omega
        | 2 => by show 64 * (2 * t + h) + x.val = 128 * t + (64 * h + (64 * (l.val / 64) + x.val) % 64); omega)
    · exact blk_apply (b := .qs) _ _ (fun a => match a with
        | 0 => rfl | 1 => by show l.val / 64 = 1 + 0; omega
        | 2 => by show 64 * (2 * t + h) + x.val = 128 * t + (64 * h + (64 * (l.val / 64) + x.val) % 64); omega)
  unfold scAt
  rw [hqs, hqs', hs j _ j.isLt, e1]
  have eb : (⟨(64 * (l.val / 64) + x.val) / 64, by omega⟩ : Fin 2) = ⟨l.val / 64, by omega⟩ := Fin.ext e2
  rw [eb]
  congr 1
  unfold dotAt
  rw [sum_half _ (l.val / 64) (by omega) (fun r hr => by
    rw [hqg]; unfold qAt; rw [if_neg (by show ¬ r.val / 64 = (64 * (l.val / 64) + x.val) / 64; omega), mul_zero])]
  refine Finset.sum_congr rfl fun d _ => congrArg₂ (· * ·) ?_ ?_
  · rw [hk j _ j.isLt]
    exact congrArg₂ (fun b z => M .k (ix4 b 0 z j)) (Fin.ext (by show (64 * (l.val / 64) + d.val) / 64 = l.val / 64; omega))
      (Fin.ext (by show (64 * (l.val / 64) + d.val) % 64 = d.val; omega))
  · rw [hqg]; unfold qAt
    rw [if_pos (by show (64 * (l.val / 64) + d.val) / 64 = (64 * (l.val / 64) + x.val) / 64; omega), ← hq d]
    exact congrArg _ (congrArg (fun z => ix4 0 0 z _) (Fin.ext (by show (64 * (l.val / 64) + d.val) % 64 = d.val; omega)))

/-- A group's sum likewise. -/
theorem grp_eq (M : Mem Ideal) (qs : FVec Ideal S1x128 .f32) (qg : FVec Ideal S128x128 .fp8e4m3) (g : ℕ) (hg : g < 16)
    (j : Fin 1024) (l : Fin 128)
    (h : ∀ x : Fin 64, grpTerm M qs qg g j l x = scAt M ⟨l.val / 64, by omega⟩ ⟨64 * g + x.val, by omega⟩ j) :
    grpAt M qs qg g j l = grpSum M ⟨l.val / 64, by omega⟩ j g := by
  unfold grpAt grpSum
  rw [dif_pos hg]
  exact Finset.sum_congr rfl fun x _ => h x

/-- The tile's two groups. -/
theorem tile_term0 (t : ℕ) (ht : t < 8) (M : Mem Ideal) (hk : KtOk M 1024) (hs : KsOk M 1024) (j : Fin 1024) (l : Fin 128) (x : Fin 64) :
    grpTerm M (mulf ((queryP (F := Ideal) (A := A) Pg.ops t ht).eff M).1.r0 (broadcast S1x128 (cf 0x3E000000#32)))
      (extractStridedSlice S128x128 ![0, 0] ((queryP (F := Ideal) (A := A) Pg.ops t ht).eff M).1.qb slices_S128x256_o0_0_S128x128)
      (2 * t) j l x = scAt M ⟨l.val / 64, by omega⟩ ⟨64 * (2 * t) + x.val, by omega⟩ j := by
  rw [eff_query]
  refine grp_term M hk hs t 0 ht (by decide) _ _ (fun r l => qbVal_apply0 _ _ r l) (fun l => ?_) j l x
  refine congrArg (· * _) ((row0_apply _ _ l).trans ?_)
  exact congrArg _ (congrArg (fun z => ix3 0 0 z) (Fin.ext (by show l.val % 64 = 64 * 0 + l.val % 64; omega)))

theorem tile_term1 (t : ℕ) (ht : t < 8) (M : Mem Ideal) (hk : KtOk M 1024) (hs : KsOk M 1024) (j : Fin 1024) (l : Fin 128) (x : Fin 64) :
    grpTerm M (mulf ((queryP (F := Ideal) (A := A) Pg.ops t ht).eff M).1.r1 (broadcast S1x128 (cf 0x3E000000#32)))
      (extractStridedSlice S128x128 ![0, 128] ((queryP (F := Ideal) (A := A) Pg.ops t ht).eff M).1.qb slices_S128x256_o0_128_S128x128)
      (2 * t + 1) j l x = scAt M ⟨l.val / 64, by omega⟩ ⟨64 * (2 * t + 1) + x.val, by omega⟩ j := by
  rw [eff_query]
  refine grp_term M hk hs t 1 ht (by decide) _ _ (fun r l => qbVal_apply1 _ _ r l) (fun l => ?_) j l x
  exact congrArg (· * _) (row1_apply _ _ l)

theorem keeps_penTile {b : Bf} (h1 : b ≠ .c) (h2 : b ≠ .f) (cL : Ideal .f32) (u t ht) :
    Keeps b (penTile (F := Ideal) (A := A) Pg.ops cL u t ht) :=
  .bind (keeps_query ..) fun _ => .bind (keeps_group h1 h2 ..) fun _ => keeps_group h1 h2 ..

theorem penTile_c (cL : Ideal .f32) (t : ℕ) (ht : t < 8) (M : Mem Ideal) (hk : KtOk M 1024) (hs : KsOk M 1024)
    (j : Fin 1024) (l : Fin 128) :
    ((penTile (F := Ideal) (A := A) Pg.ops cL uVal t ht).eff M).2 .c (ix2 j l) =
      M .c (ix2 j l) + grpSum M ⟨l.val / 64, by omega⟩ j (2 * t) + grpSum M ⟨l.val / 64, by omega⟩ j (2 * t + 1) := by
  unfold penTile
  rw [Pg.eff_bind, eff_query, Pg.eff_bind, group_c, group_c]
  have e : ∀ (M' : Mem Ideal) qs qg g, M' .kt = M .kt → M' .ksb = M .ksb → grpAt M' qs qg g j l = grpAt M qs qg g j l :=
    fun M' qs qg g h1 h2 => by unfold grpAt grpTerm; rw [h1, h2]
  rw [e _ _ _ _ ((keeps_group (by decide) (by decide) ..).of M) ((keeps_group (by decide) (by decide) ..).of M)]
  exact congrArg₂ (· + ·) (congrArg _ (grp_eq M _ _ _ (by omega) j l (tile_term0 (A := A) t ht M hk hs j l)))
    (grp_eq M _ _ _ (by omega) j l (tile_term1 (A := A) t ht M hk hs j l))

/-- The groups one after another are all the queries. -/
theorem sum_groups (M : Mem Ideal) (b : Fin 2) (j : Fin 1024) :
    ∑ g ∈ Finset.range 16, grpSum M b j g = ∑ i : Fin 1024, scAt M b i j := by
  rw [Finset.sum_range]
  have e : ∀ g : Fin 16, grpSum M b j g.val = ∑ x : Fin 64, scAt M b (finProdFinEquiv (m := 16) (n := 64) (g, x)) j := fun g => by
    unfold grpSum
    rw [dif_pos g.isLt]
    exact Finset.sum_congr rfl fun x _ => congrArg (fun i => scAt M b i j) (Fin.ext (by
      show 64 * g.val + x.val = x.val + 64 * g.val; omega))
  simp only [e]
  rw [← Fintype.sum_prod_type' (f := fun g x => scAt M b (finProdFinEquiv (m := 16) (n := 64) (g, x)) j)]
  exact Equiv.sum_comp (finProdFinEquiv (m := 16) (n := 64)) (fun i => scAt M b i j)

/-! ## The second result -/

def SelOk (M : Mem Ideal) (n : ℕ) : Prop := ∀ (b : Fin 2) (j : Fin 1024), j.val < n →
  M .sel (ix2 b j) = M .c (ix2 j (⟨64 * b.val, by omega⟩ : Fin 128))

theorem eff_sel (c : ℕ) (hc : c < 8) (M : Mem Ideal) : ((selP (F := Ideal) (A := A) Pg.ops c hc).eff M).2 =
    put .sel ![1, 128 * c] S1x128.size (inb2 (by norm_num) (by omega))
      (extractStridedSlice S1x128 ![64, 0] (transpose S128x128 [1, 0]
        (blk .c ![128 * c, 0] S128x128.size (inb2 (by omega) le_rfl) M) transposes_S128x128_p1_0_S128x128) slices_S128x128_o64_0_S1x128)
      (put .sel ![0, 128 * c] S1x128.size (inb2 (by norm_num) (by omega))
        (extractStridedSlice S1x128 ![0, 0] (transpose S128x128 [1, 0]
          (blk .c ![128 * c, 0] S128x128.size (inb2 (by omega) le_rfl) M) transposes_S128x128_p1_0_S128x128) slices_S128x128_o0_0_S1x128) M) := rfl

theorem keeps_sel {b : Bf} (hb : b ≠ .sel) (c : ℕ) (hc : c < 8) : Keeps b (selP (F := Ideal) (A := A) Pg.ops c hc) :=
  .bind (.rd ..) fun _ => .bind (.rd ..) fun _ => .bind (.wr _ _ _ _ _ _ _ hb) fun _ => .bind (.rd ..) fun _ => .wr _ _ _ _ _ _ _ hb

theorem turn0 (x : FVec Ideal S128x128 .f32) (l : Fin 128) :
    extractStridedSlice S1x128 ![0, 0] (transpose S128x128 [1, 0] x transposes_S128x128_p1_0_S128x128) slices_S128x128_o0_0_S1x128
      (ix2 0 l) = x (ix2 l 0) := by
  pointwise

theorem turn1 (x : FVec Ideal S128x128 .f32) (l : Fin 128) :
    extractStridedSlice S1x128 ![64, 0] (transpose S128x128 [1, 0] x transposes_S128x128_p1_0_S128x128) slices_S128x128_o64_0_S1x128
      (ix2 0 l) = x (ix2 l 64) := by
  pointwise

theorem sel_step (c : ℕ) (hc : c < 8) (M : Mem Ideal) (h : SelOk M (128 * c)) :
    SelOk ((selP (F := Ideal) (A := A) Pg.ops c hc).eff M).2 (128 * (c + 1)) := by
  intro b j hj
  rw [(keeps_sel (A := A) (b := .c) (by decide) c hc).of M, eff_sel]
  by_cases hlt : j.val < 128 * c
  · rw [put_out (b := .sel) _ _ (ix2 b j) 1 (.inl hlt), put_out (b := .sel) _ _ (ix2 b j) 1 (.inl hlt)]
    exact h b j hlt
  · have hb : b = 0 ∨ b = 1 := by omega
    obtain rfl | rfl := hb
    · rw [put_out (b := .sel) _ _ (ix2 0 j) 0 (.inl (by show 0 < 1; omega))]
      refine (put_in (b := .sel) _ M (ix2 0 j) (ix2 0 (⟨j.val - 128 * c, by omega⟩ : Fin 128)) ?_).trans ?_
      · exact fun a => match a with
        | 0 => rfl | 1 => by show j.val = 128 * c + (j.val - 128 * c); omega
      · refine (turn0 _ _).trans (blk_apply (b := .c) _ _ ?_)
        exact fun a => match a with
        | 0 => by show j.val = 128 * c + (j.val - 128 * c); omega
        | 1 => rfl
    · refine (put_in (b := .sel) _ _ (ix2 1 j) (ix2 0 (⟨j.val - 128 * c, by omega⟩ : Fin 128)) ?_).trans ?_
      · exact fun a => match a with
        | 0 => rfl | 1 => by show j.val = 128 * c + (j.val - 128 * c); omega
      · refine (turn1 _ _).trans (blk_apply (b := .c) _ _ ?_)
        exact fun a => match a with
        | 0 => by show j.val = 128 * c + (j.val - 128 * c); omega
        | 1 => rfl

theorem score_congr {M M' : Mem Ideal} (h1 : M' .q = M .q) (h2 : M' .k = M .k) (h3 : M' .qs = M .qs) (h4 : M' .ks = M .ks)
    (b : Fin 2) (i j : Fin 1024) : scAt M' b i j = scAt M b i j := by
  unfold scAt dotAt; rw [h1, h2, h3, h4]

end Cert.Body
-- ==== Proof.PenF.lean ====
/-
  The penalty the first step leaves in the scratch: for every query and every key up to it, the scores of the earlier queries
  added up, in units of powers of two; plus infinity beyond the diagonal.
-/
module

public import proofs.«01_k».proof.Proof.Pen

@[expose] public section

noncomputable section

namespace Cert.Body

open Idealize.ShloMosaic Idealize.ShloMosaic.TcCoe Idealize.SL.Sem Idealize.ShloMosaic.WordCmp
open Cert.KernelIdeal Cert.KernelIdeal.Facts Cert.KernelIdeal.Shapes1.Facts₀ Cert.KernelIdeal.K0.Facts₀

variable {sig : RefSig} [Cert.KernelIdeal.Facts]
variable {A : ∀ b : Bf, Memref sig .tc .vmem (shp b) (ety b)} (hA : ∀ b, (A b).IsWhole)

theorem uVal_run (r : Fin 128) (l : Fin 128) :
    uVal (F := Ideal) (ix2 r ⟨l.val, by omega⟩) = if r.val / 64 = l.val / 64 ∧ r.val < l.val then (1 : EReal) else 0 := by
  pointwise [uVal]
  rw [fdiv64_apply, fdiv64_mod128_apply, cmpi_eq_ofNat (by omega) (by omega), cmpi_sge_ofNat (by omega) (by norm_num),
    cmpi_slt_ofNat (by omega) (by omega)]
  have e : l.val % 128 / 64 = l.val / 64 := by omega
  have e' : ¬ 128 ≤ l.val := by omega
  by_cases h : r.val / 64 = l.val / 64 <;> by_cases h' : r.val < l.val <;> simp [e, h, h', e', Scalar.select, IntOp.andi, IntOp.ori]

theorem run_apply (s : FVec Ideal S64x128 .f32) (a : Fin 64) (l : Fin 128) :
    extractStridedSlice S64x128 ![0, 0] (runVal uVal s) slices_S64x256_o0_0_S64x128 (ix2 a l) =
      ∑ x : Fin 64, if x.val < l.val % 64 then s (ix2 a ⟨64 * (l.val / 64) + x.val, by omega⟩) else 0 := by
  pointwise [runVal]
  simp only [uVal_run]
  rw [sum_half _ (l.val / 64) (by omega) (fun r hr => by rw [if_neg (fun h => hr h.1), mul_zero])]
  refine Finset.sum_congr rfl fun x _ => ?_
  by_cases h : x.val < l.val % 64
  · rw [if_pos h, if_pos ⟨by show (64 * (l.val / 64) + x.val) / 64 = l.val / 64; omega, by show 64 * (l.val / 64) + x.val < l.val; omega⟩, mul_one]
  · rw [if_neg h, if_neg (fun h' => h (by have : 64 * (l.val / 64) + x.val < l.val := h'.2; omega)), mul_zero]

theorem fVal_apply (cL : Ideal .f32) (n : ℕ) (hn : n < 16) (g : ℕ) (hg : g < 16) (run : FVec Ideal S64x256 .f32) (c : FVec Ideal S64x128 .f32)
    (a : Fin 64) (l : Fin 128) :
    shapeCast S1x64x128 (fVal cL (BitVec.ofNat 32 n) g run c) shapeCasts_S64x128_S1x64x128 (ix3 0 a l) =
      if 64 * n + a.val ≤ 64 * g + l.val % 64 then
        (c (ix2 a l) + extractStridedSlice S64x128 ![0, 0] run slices_S64x256_o0_0_S64x128 (ix2 a l)) * cL else (⊤ : EReal) := by
  have e1 : jIdx (BitVec.ofNat 32 n) (ix2 a l) = BitVec.ofNat 32 (64 * n + a.val) := by
    pointwise [jIdx]
    simp [IntOp.addi, Scalar.muli, IntOp.muli]
    rw [show (64 * n + a.val) = a.val + n * 64 by omega, BitVec.ofNat_add, BitVec.ofNat_mul]
  have e2 : iIdx g (ix2 a l) = BitVec.ofNat 32 (64 * g + l.val % 64) := by
    pointwise [iIdx]
    rw [mod64_apply]
    simp only [IntOp.addi]
    rw [← BitVec.ofNat_add, Nat.add_comm]
  have ht : (Ideal.ofBits .f32 0x7F800000#32 : EReal) = ⊤ := by simp [Ideal.ofBits, Ideal.ieee]
  pointwise [fVal]
  rw [e1, e2, cmpi_sle_ofNat (by omega) (by omega)]
  by_cases h : 64 * n + a.val ≤ 64 * g + l.val % 64 <;> simp [h, Scalar.select, ht]

/-- What a group stores for a key, from the contents it finds. -/
def fNew (cL : Ideal .f32) (M : Mem Ideal) (qs : FVec Ideal S1x128 .f32) (qg : FVec Ideal S128x128 .fp8e4m3) (g : ℕ) (j : Fin 1024)
    (l : Fin 128) : EReal :=
  if j.val ≤ 64 * g + l.val % 64 then
    ((M .c (ix2 j l) : EReal) + ∑ x : Fin 64, if x.val < l.val % 64 then grpTerm M qs qg g j l x else 0) * cL else ⊤

theorem pen_f (cL : Ideal .f32) (qs : FVec Ideal S1x128 .f32) (qg : FVec Ideal S128x128 .fp8e4m3) (g : ℕ)
    (hg : g < 16) (x : BitVec 32) (hx : wOf x + 64 ≤ 1024) (n : ℕ) (hn : n < 16) (hxn : x = BitVec.ofNat 32 n) (M : Mem Ideal)
    (g' : Fin 16) (j : Fin 1024) (l : Fin 128) :
    ((penP (F := Ideal) (A := A) Pg.ops cL uVal qs qg g hg x hx).eff M).2 .f (ix3 g' j l) =
      if g'.val = g ∧ j.val / 64 = n then fNew cL M qs qg g j l else M .f (ix3 g' j l) := by
  subst hxn
  have hw := wOf_ofNat n hn
  rw [eff_pen, put_ne (b := .c) (b' := .f) _ _ (by decide)]
  unfold penMid
  by_cases h : g'.val = g ∧ j.val / 64 = n
  · rw [if_pos h]
    obtain ⟨rfl, h⟩ := h
    refine (put_in (b := .f) _ M (ix3 g' j l) (ix3 0 (⟨j.val - 64 * n, by omega⟩ : Fin 64) l) ?_).trans ?_
    · exact fun a => match a with
      | 0 => rfl
      | 1 => by show j.val = wOf (BitVec.ofNat 32 n) + (j.val - 64 * n); omega
      | 2 => (Nat.zero_add _).symm
    rw [fVal_apply cL n hn g'.val hg]
    have hj : ∀ y : Fin 128, ∀ a : Fin 2, ((ix2 j y : (⟨2, ![1024, 128]⟩ : Shape).Idx) a).val =
        (![wOf (BitVec.ofNat 32 n), 0] : Fin 2 → ℕ) a + ((ix2 (⟨j.val - 64 * n, by omega⟩ : Fin 64) y : (⟨2, ![64, 128]⟩ : Shape).Idx) a).val :=
      fun y a => match a with
        | 0 => by show j.val = wOf (BitVec.ofNat 32 n) + (j.val - 64 * n); omega
        | 1 => (Nat.zero_add _).symm
    unfold fNew
    rw [show 64 * n + (j.val - 64 * n) = j.val by omega]
    refine if_congr Iff.rfl (congrArg (· * cL) (congrArg₂ (· + ·) (blk_apply (b := .c) _ (ix2 j l) (hj l)) ?_)) rfl
    rw [run_apply]
    refine Finset.sum_congr rfl fun x _ => if_congr Iff.rfl ?_ rfl
    rw [sVal_apply n hn g'.val hg]
    unfold grpTerm
    rw [show 64 * n + (j.val - 64 * n) = j.val by omega]
    rw [blk_apply (b := .ksb) _ (ix2 j _) (hj _)]
    congr 1
    exact Finset.sum_congr rfl fun r _ => by rw [blk_apply (b := .kt) _ (ix2 j _) (hj _)]
  · rw [if_neg h]
    by_cases hg' : g'.val = g
    · have h' : j.val / 64 ≠ n := fun e => h ⟨hg', e⟩
      exact put_out (b := .f) _ M (ix3 g' j l) 1 (by
        show j.val < wOf (BitVec.ofNat 32 n) ∨ wOf (BitVec.ofNat 32 n) + 64 ≤ j.val; omega)
    · exact put_out (b := .f) _ M (ix3 g' j l) 0 (by show g'.val < g ∨ g + 1 ≤ g'.val; omega)

theorem fNew_congr (cL : Ideal .f32) {M M' : Mem Ideal} (qs qg g) (j : Fin 1024) (l : Fin 128) (h1 : M' .kt = M .kt) (h2 : M' .ksb = M .ksb)
    (h3 : M' .c (ix2 j l) = M .c (ix2 j l)) : fNew cL M' qs qg g j l = fNew cL M qs qg g j l := by
  unfold fNew grpTerm; rw [h1, h2, h3]

theorem group_f (cL : Ideal .f32) (qs : FVec Ideal S1x128 .f32) (qg : FVec Ideal S128x128 .fp8e4m3) (g : ℕ)
    (hg : g < 16) (M : Mem Ideal) (g' : Fin 16) (j : Fin 1024) (l : Fin 128) :
    ((penGroup (F := Ideal) (A := A) Pg.ops cL uVal qs qg g hg).eff M).2 .f (ix3 g' j l) =
      if g'.val = g ∧ j.val / 64 < g + 1 then fNew cL M qs qg g j l else M .f (ix3 g' j l) := by
  match g, hg with
  | 0, hg =>
    refine (pen_f (A := A) cL qs qg 0 hg 0#32 (by decide) 0 (by omega) rfl M g' j l).trans ?_
    exact if_congr (by omega) rfl rfl
  | g + 1, hg =>
    have h := loop_eff (A := A) (penLoop (g + 2)) (penLoop_ok (g + 2) (by omega))
      (fun k => penP (F := Ideal) Pg.ops cL uVal qs qg (g + 1) hg (Scf.iv 0#32 1#32 k) (wOf_iv (g + 2) (by omega) k))
      (fun n M' => ((M' .kt = M .kt ∧ M' .ksb = M .ksb) ∧ (n ≤ j.val / 64 → M' .c (ix2 j l) = M .c (ix2 j l))) ∧ M' .f (ix3 g' j l) =
        if g'.val = g + 1 ∧ j.val / 64 < n then fNew cL M qs qg (g + 1) j l else M .f (ix3 g' j l)) M
      ⟨⟨⟨rfl, rfl⟩, fun _ => rfl⟩, by rw [if_neg (by omega)]⟩
      (fun k M' hM => by
        have hk : k.val < 16 := lt_of_lt_of_le k.isLt ((penLoop_trips (g + 2) (by omega)).trans (by omega))
        refine ⟨⟨⟨((keeps_pen (by decide) (by decide) ..).of M').trans hM.1.1.1, ((keeps_pen (by decide) (by decide) ..).of M').trans hM.1.1.2⟩,
          fun hle => ?_⟩, ?_⟩
        · rw [pen_c (A := A) cL qs qg (g + 1) hg _ _ k.val hk (iv_eq (g + 2) (by omega) k) M' j l, if_neg (by omega), hM.1.2 (by omega)]
        · rw [pen_f (A := A) cL qs qg (g + 1) hg _ _ k.val hk (iv_eq (g + 2) (by omega) k) M' g' j l]
          by_cases h1 : g'.val = g + 1 ∧ j.val / 64 = k.val
          · rw [if_pos h1, if_pos (by omega), fNew_congr cL qs qg (g + 1) j l hM.1.1.1 hM.1.1.2 (hM.1.2 (by omega))]
          · rw [if_neg h1, hM.2]
            exact if_congr (by omega) rfl rfl)
    refine h.2.trans ?_
    rw [trips_eq (g + 2) (by omega)]

/-! ## All groups -/

/-- A query's score, by number; -/
def scN (M : Mem Ideal) (b : Fin 2) (j : Fin 1024) (i : ℕ) : EReal := if h : i < 1024 then scAt M b ⟨i, h⟩ j else 0

/-- the earlier queries' scores added up, -/
def before (M : Mem Ideal) (b : Fin 2) (i j : Fin 1024) : EReal := ∑ x ∈ Finset.range i.val, scN M b j x

/-- and the penalty of key `j` for query `i`. -/
def fSpec (cL : Ideal .f32) (M : Mem Ideal) (b : Fin 2) (i j : Fin 1024) : EReal :=
  if j.val ≤ i.val then before M b i j * cL else ⊤

def FOk (G : Fin 2 → Fin 1024 → Fin 1024 → EReal) (M : Mem Ideal) (n : ℕ) : Prop := ∀ (g : Fin 16) (j : Fin 1024) (l : Fin 128),
  g.val < n → j.val < 64 * (g.val + 1) → M .f (ix3 g j l) = G ⟨l.val / 64, by omega⟩ ⟨64 * g.val + l.val % 64, by omega⟩ j

theorem before_eq (M : Mem Ideal) (b : Fin 2) (g : ℕ) (hg : g < 16) (y : ℕ) (hy : y < 64) (j : Fin 1024) :
    (∑ g' ∈ Finset.range g, grpSum M b j g') + (∑ x : Fin 64, if x.val < y then scAt M b ⟨64 * g + x.val, by omega⟩ j else 0) =
      before M b ⟨64 * g + y, by omega⟩ j := by
  have h1 : ∀ g, g ≤ 16 → (∑ g' ∈ Finset.range g, grpSum M b j g') = ∑ x ∈ Finset.range (64 * g), scN M b j x := fun g => by
    induction g with
    | zero => exact fun _ => by simp
    | succ g ih =>
      intro hg
      rw [Finset.sum_range_succ, ih (by omega), show 64 * (g + 1) = 64 * g + 64 by ring, Finset.sum_range_add, Finset.sum_range (n := 64)]
      unfold grpSum
      rw [dif_pos (by omega)]
      refine congrArg _ (Finset.sum_congr rfl fun x _ => ?_)
      unfold scN
      rw [dif_pos (by omega)]
  unfold before
  rw [h1 g (by omega)]
  show _ = ∑ x ∈ Finset.range (64 * g + y), _
  rw [Finset.sum_range_add]
  refine congrArg _ ?_
  rw [Finset.sum_fin_eq_sum_range, ← Finset.sum_subset (Finset.range_subset_range.2 hy.le) fun x hx hx' => by
    rw [dif_pos (Finset.mem_range.1 hx), if_neg (fun h => hx' (Finset.mem_range.2 h))]]
  refine Finset.sum_congr rfl fun x hx => ?_
  have := Finset.mem_range.1 hx
  rw [dif_pos (by omega), if_pos this]
  unfold scN
  rw [dif_pos (by omega)]

/-- A group's store, once its terms are the scores and the running totals those of the earlier groups. -/
theorem fNew_eq (cL : Ideal .f32) (M0 M : Mem Ideal) (qs qg) (g : ℕ) (hg : g < 16) (j : Fin 1024) (l : Fin 128)
    (hc : M .c (ix2 j l) = ∑ g' ∈ Finset.range g, grpSum M0 ⟨l.val / 64, by omega⟩ j g')
    (h : ∀ x : Fin 64, grpTerm M qs qg g j l x = scAt M0 ⟨l.val / 64, by omega⟩ ⟨64 * g + x.val, by omega⟩ j) :
    fNew cL M qs qg g j l = fSpec cL M0 ⟨l.val / 64, by omega⟩ ⟨64 * g + l.val % 64, by omega⟩ j := by
  unfold fNew fSpec
  refine if_congr Iff.rfl (congrArg (· * cL) ?_) rfl
  rw [hc, ← before_eq M0 ⟨l.val / 64, by omega⟩ g hg (l.val % 64) (by omega) j]
  exact congrArg _ (Finset.sum_congr rfl fun x _ => by rw [h x])

theorem penTile_f (cL : Ideal .f32) (t : ℕ) (ht : t < 8) (M0 M : Mem Ideal) (hk : KtOk M 1024) (hs : KsOk M 1024)
    (e1 : M .q = M0 .q) (e2 : M .k = M0 .k) (e3 : M .qs = M0 .qs) (e4 : M .ks = M0 .ks)
    (hc : ∀ (j : Fin 1024) (l : Fin 128), M .c (ix2 j l) = ∑ g' ∈ Finset.range (2 * t), grpSum M0 ⟨l.val / 64, by omega⟩ j g')
    (hf : FOk (fSpec cL M0) M (2 * t)) :
    FOk (fSpec cL M0) ((penTile (F := Ideal) (A := A) Pg.ops cL uVal t ht).eff M).2 (2 * t + 2) := by
  intro g j l hg hj
  unfold penTile
  rw [Pg.eff_bind, Pg.eff_bind, show ((queryP (F := Ideal) (A := A) Pg.ops t ht).eff M).2 = M from rfl, group_f, group_f]
  have t0 := fun x => (tile_term0 (A := A) t ht M hk hs j l x).trans (score_congr e1 e2 e3 e4 _ _ _)
  have t1 := fun x => (tile_term1 (A := A) t ht M hk hs j l x).trans (score_congr e1 e2 e3 e4 _ _ _)
  by_cases h1 : g.val = 2 * t + 1
  · rw [if_pos ⟨h1, by omega⟩]
    refine (fNew_eq cL M0 _ _ _ (2 * t + 1) (by omega) j l ?_ fun x => ?_).trans ?_
    · rw [group_c, Finset.sum_range_succ, hc]
      refine congrArg _ ?_
      refine (Finset.sum_congr rfl fun x _ => t0 x).trans ?_
      unfold grpSum
      rw [dif_pos (by omega)]
    · rw [← t1 x]
      unfold grpTerm
      rw [(keeps_group (by decide) (by decide) ..).of M, (keeps_group (by decide) (by decide) ..).of M]
    · exact congrArg (fun i => fSpec cL M0 _ i j) (Fin.ext (by show 64 * (2 * t + 1) + _ = 64 * g.val + _; rw [h1]))
  · rw [if_neg (fun h => h1 h.1)]
    by_cases h0 : g.val = 2 * t
    · rw [if_pos ⟨h0, by omega⟩]
      refine (fNew_eq cL M0 _ _ _ (2 * t) (by omega) j l (hc j l) t0).trans ?_
      exact congrArg (fun i => fSpec cL M0 _ i j) (Fin.ext (by show 64 * (2 * t) + _ = 64 * g.val + _; rw [h0]))
    · rw [if_neg (fun h => h0 h.1)]
      exact hf g j l (by omega) hj

end Cert.Body
-- ==== Proof.Quant.lean ====
/-
  One query's row over exact arithmetic: the quantised probabilities times the values, as the kernel computes them (powers of
  two for exponentials, the scale's exponent field found by search, the codes by one multiplication) and as the reference does
  (exponentials, probabilities, the least power of two above the threshold, codes by division and clamping). The two agree for
  every row of scores.
-/
module

public import Idealize.ShloMosaic.Lib.Pointwise
public import Idealize.ShloMosaic.Lib.WordCmp

@[expose] public section

noncomputable section

namespace Cert.Quant

open Idealize.ShloMosaic

/-! ## Powers of two by exponent field -/

/-- The number whose exponent field is `m`, -/
def pwB (m : BitVec 32) : EReal := Ideal.ofBits .f32 (IntOp.shli .vector m 23#32)

/-- and its value. -/
def pwR (n : ℕ) : ℝ := (2 : ℝ) ^ ((n : ℤ) - 127)

theorem pwR_pos (n : ℕ) : 0 < pwR n := by unfold pwR; positivity

theorem pwR_mono {a b : ℕ} (h : a ≤ b) : pwR a ≤ pwR b := by
  unfold pwR
  exact zpow_le_zpow_right₀ (by norm_num) (by omega)

theorem fields : ∀ n : Fin 256, ((IntOp.shli .vector (BitVec.ofNat 32 n.val) 23#32).extractLsb' 31 1 == 1#1) = false ∧
    ((IntOp.shli .vector (BitVec.ofNat 32 n.val) 23#32).extractLsb' 23 8).toNat = n.val ∧
    ((IntOp.shli .vector (BitVec.ofNat 32 n.val) 23#32).extractLsb' 0 23).toNat = 0 := by decide +kernel

theorem word_eq (w : BitVec 32) (n : ℕ) (h1 : 1 ≤ n) (h2 : n ≤ 254) (e1 : (w.extractLsb' 31 1 == 1#1) = false)
    (e2 : (w.extractLsb' 23 8).toNat = n) (e3 : (w.extractLsb' 0 23).toNat = 0) : Ideal.ieee 8 23 w = (pwR n : EReal) := by
  unfold Ideal.ieee
  simp only [show (8 : ℕ) + 23 = 31 from rfl, e1, e2, e3, Nat.add_zero]
  rw [if_neg (by norm_num; omega), if_neg (by omega)]
  congr 1
  unfold pwR
  simp only [Bool.false_eq_true, if_false, one_mul]
  rw [show (((2 ^ 23 : ℕ) : ℕ) : ℝ) = (2 : ℝ) ^ (23 : ℤ) by norm_num, ← zpow_add₀ (by norm_num)]
  congr 1
  norm_num

theorem word_top (w : BitVec 32) (e1 : (w.extractLsb' 31 1 == 1#1) = false)
    (e2 : (w.extractLsb' 23 8).toNat = 255) (e3 : (w.extractLsb' 0 23).toNat = 0) : Ideal.ieee 8 23 w = ⊤ := by
  unfold Ideal.ieee
  simp only [show (8 : ℕ) + 23 = 31 from rfl, e1, e2, e3]
  norm_num

theorem pwB_eq (n : ℕ) (h1 : 1 ≤ n) (h2 : n ≤ 254) : pwB (BitVec.ofNat 32 n) = (pwR n : EReal) :=
  word_eq _ n h1 h2 (fields ⟨n, by omega⟩).1 (fields ⟨n, by omega⟩).2.1 (fields ⟨n, by omega⟩).2.2

theorem pwB_top : pwB (BitVec.ofNat 32 255) = ⊤ :=
  word_top (IntOp.shli .vector (BitVec.ofNat 32 255) 23#32) (fields ⟨255, by omega⟩).1 (fields ⟨255, by omega⟩).2.1 (fields ⟨255, by omega⟩).2.2

/-! ## The search -/

def srch (g : BitVec 32 → BitVec 1) (n b : BitVec 32) : BitVec 32 := Scalar.select (g (IntOp.addi n b)) (IntOp.addi n b) n

def srch8 (g : BitVec 32 → BitVec 1) : BitVec 32 :=
  srch g (srch g (srch g (srch g (srch g (srch g (srch g (srch g 0#32 128#32) 64#32) 32#32) 16#32) 8#32) 4#32) 2#32) 1#32

theorem srch_congr {g g' : BitVec 32 → BitVec 1} (h : ∀ m : BitVec 32, 1 ≤ m.toNat → m.toNat ≤ 255 → g m = g' m) {n b : BitVec 32}
    (hb : 1 ≤ b.toNat) (hn : n.toNat + 2 * b.toNat ≤ 256) :
    srch g n b = srch g' n b ∧ (srch g n b).toNat + b.toNat ≤ 256 := by
  have e : (IntOp.addi n b).toNat = n.toNat + b.toNat := by
    show (n + b).toNat = _
    rw [BitVec.toNat_add, Nat.mod_eq_of_lt (by omega)]
  have hg := h (IntOp.addi n b) (by omega) (by omega)
  unfold srch
  refine ⟨by rw [hg], ?_⟩
  unfold Scalar.select
  split <;> omega

theorem srch8_congr {g g' : BitVec 32 → BitVec 1} (h : ∀ m : BitVec 32, 1 ≤ m.toNat → m.toNat ≤ 255 → g m = g' m) :
    srch8 g = srch8 g' := by
  obtain ⟨e1, h1⟩ := srch_congr h (n := 0#32) (b := 128#32) (by decide) (by decide)
  obtain ⟨e2, h2⟩ := srch_congr h (n := srch g 0#32 128#32) (b := 64#32) (by decide) h1
  obtain ⟨e3, h3⟩ := srch_congr h (b := 32#32) (by decide) h2
  obtain ⟨e4, h4⟩ := srch_congr h (b := 16#32) (by decide) h3
  obtain ⟨e5, h5⟩ := srch_congr h (b := 8#32) (by decide) h4
  obtain ⟨e6, h6⟩ := srch_congr h (b := 4#32) (by decide) h5
  obtain ⟨e7, h7⟩ := srch_congr h (b := 2#32) (by decide) h6
  obtain ⟨e8, -⟩ := srch_congr h (b := 1#32) (by decide) h7
  unfold srch8
  rw [e8, e7, e6, e5, e4, e3, e2, e1]

theorem srch8_le : ∀ N : Fin 256, srch8 (fun m => if m.toNat ≤ N.val then 1#1 else 0#1) = BitVec.ofNat 32 N.val := by
  decide +kernel

/-! ## The kernel's scale and factor -/

/-- The threshold's factor, -/
def cB : EReal := Ideal.ofBits .f32 0x3B124925#32
def cR : ℝ := 9586981 * (2 : ℝ) ^ (-32 : ℤ)

theorem cB_eq : cB = (cR : EReal) := by
  unfold cB cR
  simp [Ideal.ofBits, Ideal.ieee, -EReal.coe_mul]

/-- the search's result, -/
def expoS (x : EReal) : BitVec 32 := srch8 (fun m => Ideal.cmp .oge x (pwB m))

def ampS (tot : EReal) : EReal := Ideal.ofBits .f32 0x3F800000#32 * Ideal.div (Ideal.ofBits .f32 0x3F800000#32) tot

def eS (tot : EReal) : BitVec 32 :=
  Scalar.select (Ideal.cmp .oeq (ampS tot) (Ideal.ofBits .f32 0x00000000#32)) 0#32 (IntOp.subi (expoS (ampS tot * cB)) 126#32)

/-- what the exponentials are multiplied by, -/
def facS (tot : EReal) : EReal :=
  min (Ideal.div (Ideal.ofBits .f32 0x3F800000#32) tot * pwB (IntOp.addi (IntOp.subi 0#32 (eS tot)) 127#32))
    (Ideal.div (Ideal.ofBits .f32 0x43E00000#32) (Ideal.ofBits .f32 0x3F800000#32))

/-- and the scale. -/
def scaleS (tot : EReal) : EReal := pwB (IntOp.addi (eS tot) 127#32)

theorem one_eq : Ideal.ofBits .f32 0x3F800000#32 = 1 := by simp [Ideal.ofBits, Ideal.ieee, -EReal.coe_mul]; norm_num
theorem zero_eq : Ideal.ofBits .f32 0x00000000#32 = 0 := by simp [Ideal.ofBits, Ideal.ieee]
theorem top_eq : Ideal.ofBits .f32 0x7F800000#32 = ⊤ := by simp [Ideal.ofBits, Ideal.ieee]
theorem bot_eq : Ideal.ofBits .f32 0xFF800000#32 = ⊥ := by simp [Ideal.ofBits, Ideal.ieee]
theorem hi_eq : Ideal.ofBits .f32 0x43E00000#32 = ((448 : ℝ) : EReal) := by
  simp [Ideal.ofBits, Ideal.ieee, -EReal.coe_mul]; norm_num
theorem lo_eq : Ideal.ofBits .f32 0xC3E00000#32 = ((-448 : ℝ) : EReal) := by
  simp [Ideal.ofBits, Ideal.ieee, -EReal.coe_mul]; norm_num

/-- A threshold of a probability lies in one of eleven binades. -/
theorem find_N (x : ℝ) (h1 : pwR 108 ≤ x) (h2 : x < pwR 119) : ∃ N, 108 ≤ N ∧ N ≤ 118 ∧ pwR N ≤ x ∧ x < pwR (N + 1) := by
  classical
  have hex : ∃ n, x < pwR (n + 1) := ⟨118, h2⟩
  have hs := Nat.find_spec hex
  have hle : Nat.find hex ≤ 118 := Nat.find_min' hex h2
  have hge : 108 ≤ Nat.find hex := by
    by_contra hlt
    exact absurd (hs.trans_le ((pwR_mono (by omega : Nat.find hex + 1 ≤ 108)).trans h1)) (lt_irrefl _)
  refine ⟨Nat.find hex, hge, hle, ?_, hs⟩
  have := Nat.find_min hex (m := Nat.find hex - 1) (by omega)
  rw [Nat.sub_add_cancel (by omega)] at this
  exact not_lt.mp this

theorem expo_eq (x : ℝ) (N : ℕ) (h1 : N ≤ 253) (hl : pwR N ≤ x) (hu : x < pwR (N + 1)) : expoS (x : EReal) = BitVec.ofNat 32 N := by
  refine Eq.trans (srch8_congr fun m hm hm' => ?_) (srch8_le ⟨N, by omega⟩)
  obtain ⟨k, hk⟩ : ∃ k, m.toNat = k := ⟨_, rfl⟩
  obtain rfl : m = BitVec.ofNat 32 k := by
    rw [← hk]; exact BitVec.eq_of_toNat_eq (by rw [BitVec.toNat_ofNat, Nat.mod_eq_of_lt m.isLt])
  rw [hk] at hm hm'
  simp only [hk]
  have key : pwB (BitVec.ofNat 32 k) ≤ (x : EReal) ↔ k ≤ N := by
    by_cases h255 : k = 255
    · subst h255
      rw [pwB_top]
      constructor
      · intro h; exact absurd (top_le_iff.mp h) (EReal.coe_ne_top x)
      · intro h; omega
    · rw [pwB_eq k hm (by omega), EReal.coe_le_coe_iff]
      constructor
      · intro h
        by_contra hlt
        exact absurd ((hu.trans_le (pwR_mono (by omega))).trans_le h) (lt_irrefl _)
      · intro h; exact (pwR_mono h).trans hl
  show BitVec.ofBool (decide (pwB (BitVec.ofNat 32 k) ≤ (x : EReal))) = _
  by_cases h : k ≤ N
  · rw [if_pos h, decide_eq_true (key.2 h)]; rfl
  · rw [if_neg h, decide_eq_false fun h' => h (key.1 h')]; rfl

theorem words : ∀ N : Fin 256, 108 ≤ N.val → N.val ≤ 118 →
    IntOp.addi (IntOp.subi (BitVec.ofNat 32 N.val) 126#32) 127#32 = BitVec.ofNat 32 (N.val + 1) ∧
    IntOp.addi (IntOp.subi 0#32 (IntOp.subi (BitVec.ofNat 32 N.val) 126#32)) 127#32 = BitVec.ofNat 32 (253 - N.val) := by
  decide +kernel

theorem pwR_inv (N : ℕ) (h : N ≤ 118) : pwR (253 - N) = (pwR (N + 1))⁻¹ := by
  unfold pwR
  rw [← zpow_neg]
  congr 1
  push_cast [Nat.cast_sub (show N ≤ 253 by omega)]
  ring

/-- Total `T`'s scale and factor: the power of two just above the threshold, and what divides by the total and by that power. -/
theorem scale_fac (T : ℝ) (h1 : 1 ≤ T) (h2 : T ≤ 1024) : ∃ N, 108 ≤ N ∧ N ≤ 118 ∧ pwR N ≤ T⁻¹ * cR ∧ T⁻¹ * cR < pwR (N + 1) ∧
    scaleS (T : EReal) = (pwR (N + 1) : EReal) ∧ facS (T : EReal) = ((T⁻¹ * (pwR (N + 1))⁻¹ : ℝ) : EReal) ∧
    T⁻¹ * (pwR (N + 1))⁻¹ ≤ 448 := by
  have T0 : 0 < T := by linarith
  have hc : cR = 9586981 / 4294967296 := by unfold cR; norm_num
  have i1 : T⁻¹ ≤ 1 := inv_le_one_of_one_le₀ h1
  have i2 : (1024 : ℝ)⁻¹ ≤ T⁻¹ := inv_anti₀ T0 h2
  obtain ⟨N, n1, n2, hl, hu⟩ := find_N (T⁻¹ * cR) (by
      have : pwR 108 = 1 / 524288 := by unfold pwR; norm_num
      rw [this, hc]; nlinarith) (by
      have : pwR 119 = 1 / 256 := by unfold pwR; norm_num
      rw [this, hc]; nlinarith)
  have hinv : Ideal.div (Ideal.ofBits .f32 0x3F800000#32) (T : EReal) = ((T⁻¹ : ℝ) : EReal) := by
    rw [one_eq, Ideal.div, if_neg (by exact_mod_cast T0.ne'), one_mul, ← EReal.coe_inv]
  have hamp : ampS (T : EReal) = ((T⁻¹ : ℝ) : EReal) := by unfold ampS; rw [hinv, one_eq, one_mul]
  have he : eS (T : EReal) = IntOp.subi (BitVec.ofNat 32 N) 126#32 := by
    unfold eS
    rw [hamp, zero_eq, cB_eq, ← EReal.coe_mul, expo_eq _ N (by omega) hl hu]
    have : Ideal.cmp .oeq ((T⁻¹ : ℝ) : EReal) 0 = 0#1 := by
      show BitVec.ofBool (decide (((T⁻¹ : ℝ) : EReal) = 0)) = _
      rw [decide_eq_false (by exact_mod_cast (inv_pos.mpr T0).ne')]; rfl
    rw [this]; rfl
  obtain ⟨w1, w2⟩ := words ⟨N, by omega⟩ n1 n2
  simp only at w1 w2
  have hb : T⁻¹ * (pwR (N + 1))⁻¹ ≤ 448 := by
    have hp := pwR_pos (N + 1)
    rw [← div_eq_mul_inv, div_le_iff₀ hp]
    rw [hc] at hu
    nlinarith [inv_pos.mpr T0]
  refine ⟨N, n1, n2, hl, hu, ?_, ?_, hb⟩
  · unfold scaleS; rw [he, w1, pwB_eq _ (by omega) (by omega)]
  · unfold facS
    rw [he, w2, pwB_eq _ (by omega) (by omega), hinv, pwR_inv N n2, hi_eq, one_eq, ← EReal.coe_mul]
    have : Ideal.div ((448 : ℝ) : EReal) 1 = ((448 : ℝ) : EReal) := by
      rw [Ideal.div, if_neg one_ne_zero, inv_one, mul_one]
    rw [this]
    exact min_eq_left (by exact_mod_cast hb)

/-! ## Exponentials -/

def lR : ℝ := (Real.log 2)⁻¹
theorem lR_pos : 0 < lR := inv_pos.mpr (Real.log_pos (by norm_num))

theorem mul_top' : (⊤ : EReal) * (lR : EReal) = ⊤ := EReal.top_mul_coe_of_pos lR_pos
theorem mul_bot' : (⊥ : EReal) * (lR : EReal) = ⊥ := EReal.bot_mul_coe_of_pos lR_pos

theorem exp_eq (x y : EReal) : Ideal.exp2 (x * (lR : EReal) - y * (lR : EReal)) = Ideal.exp (x - y) := by
  induction x with
  | bot => rw [mul_bot', EReal.bot_sub, EReal.bot_sub]; rfl
  | top =>
    induction y with
    | bot => rw [mul_top', mul_bot']; rfl
    | top => rw [mul_top']; rfl
    | coe b => rw [mul_top', ← EReal.coe_mul, EReal.top_sub_coe, EReal.top_sub_coe]; rfl
  | coe a =>
    induction y with
    | bot => rw [mul_bot', ← EReal.coe_mul]; rfl
    | top => rw [mul_top', EReal.sub_top, EReal.sub_top]; rfl
    | coe b =>
      rw [← EReal.coe_mul, ← EReal.coe_mul, ← EReal.coe_sub, ← EReal.coe_sub]
      show (((2 : ℝ) ^ (a * lR - b * lR) : ℝ) : EReal) = ((Real.exp (a - b) : ℝ) : EReal)
      congr 1
      rw [Real.rpow_def_of_pos (by norm_num)]
      congr 1
      have : Real.log 2 ≠ 0 := (Real.log_pos (by norm_num)).ne'
      unfold lR
      field_simp

theorem mul_le_iff (x y : EReal) : x * (lR : EReal) ≤ y * (lR : EReal) ↔ x ≤ y := by
  have h0 : (0 : EReal) ≤ (lR : EReal) := by exact_mod_cast lR_pos.le
  have hm : ∀ z : EReal, z * (lR : EReal) * ((lR⁻¹ : ℝ) : EReal) = z := fun z => by
    rw [mul_assoc, ← EReal.coe_mul, mul_inv_cancel₀ lR_pos.ne', EReal.coe_one, mul_one]
  constructor
  · intro h
    have := mul_le_mul_of_nonneg_right h (show (0 : EReal) ≤ ((lR⁻¹ : ℝ) : EReal) by exact_mod_cast (inv_pos.mpr lR_pos).le)
    rwa [hm, hm] at this
  · intro h; exact mul_le_mul_of_nonneg_right h h0

/-- The largest element, as both programs take it. -/
def topS (z : Fin 1024 → EReal) : EReal := Finset.fold max (⊥ : EReal) z Finset.univ

theorem topS_le (z : Fin 1024 → EReal) (x : EReal) : topS z ≤ x ↔ ∀ j, z j ≤ x := by
  unfold topS; rw [Finset.fold_max_le]; simp

theorem topS_mul (z : Fin 1024 → EReal) : topS (fun j => z j * (lR : EReal)) = topS z * (lR : EReal) := by
  refine le_antisymm ((topS_le _ _).2 fun j => (mul_le_iff _ _).2 ((topS_le z _).1 le_rfl j)) ?_
  have hm : ∀ x : EReal, x * ((lR⁻¹ : ℝ) : EReal) * (lR : EReal) = x := fun x => by
    rw [mul_assoc, ← EReal.coe_mul, inv_mul_cancel₀ lR_pos.ne', EReal.coe_one, mul_one]
  rw [← hm (topS fun j => z j * (lR : EReal)), mul_le_iff]
  refine (topS_le _ _).2 fun j => (mul_le_iff _ _).1 ?_
  rw [hm]
  exact (topS_le (fun j => z j * (lR : EReal)) _).1 le_rfl j

/-! ## A row -/

/-- The kernel's row, -/
def rowK (z v : Fin 1024 → EReal) : EReal :=
  (∑ j, v j * (Ideal.exp2 (z j - topS z) * facS (∑ j, Ideal.exp2 (z j - topS z)))) * scaleS (∑ j, Ideal.exp2 (z j - topS z))

/-- the reference's probabilities, -/
def prob (z : Fin 1024 → EReal) (j : Fin 1024) : EReal := Ideal.div (Ideal.exp (z j - topS z)) (∑ j, Ideal.exp (z j - topS z))

/-- scale -/
def scaleR (a : EReal) : EReal := if a = 0 then 1 else Finset.fold min (⊤ : EReal)
  (fun x : Fin 254 => if a * cB < pwB (IntOp.addi (BitVec.ofNat 32 x.val) 1#32) then pwB (IntOp.addi (BitVec.ofNat 32 x.val) 1#32) else ⊤)
  Finset.univ

/-- and row. -/
def rowR (z v : Fin 1024 → EReal) : EReal :=
  (∑ j, min ((448 : ℝ) : EReal) (max ((-448 : ℝ) : EReal) (Ideal.div (prob z j)
    (scaleR (topS fun j => max (prob z j) (-(prob z j)))))) * v j) * scaleR (topS fun j => max (prob z j) (-(prob z j)))

theorem scaleR_eq (a : ℝ) (ha : 0 < a) (N : ℕ) (h2 : N ≤ 253) (hl : pwR N ≤ a * cR) (hu : a * cR < pwR (N + 1)) :
    scaleR (a : EReal) = (pwR (N + 1) : EReal) := by
  unfold scaleR
  rw [if_neg (by exact_mod_cast ha.ne'), cB_eq, ← EReal.coe_mul]
  have w : ∀ x : Fin 254, pwB (IntOp.addi (BitVec.ofNat 32 x.val) 1#32) = (pwR (x.val + 1) : EReal) := fun x => by
    rw [← pwB_eq (x.val + 1) (by omega) (by omega)]
    congr 1
    exact (BitVec.ofNat_add _ _).symm
  simp only [w]
  refine le_antisymm ?_ ?_
  · refine (Finset.fold_min_le _).2 (.inr ⟨⟨N, by omega⟩, Finset.mem_univ _, ?_⟩)
    rw [if_pos (by exact_mod_cast hu)]
  · refine (Finset.le_fold_min _).2 ⟨le_top, fun x _ => ?_⟩
    split_ifs with h
    · rw [EReal.coe_le_coe_iff]
      have h' : a * cR < pwR (x.val + 1) := by exact_mod_cast h
      by_contra hlt
      have : x.val + 1 ≤ N := by
        by_contra hc
        exact hlt (pwR_mono (by omega))
      exact absurd (h'.trans_le ((pwR_mono this).trans hl)) (lt_irrefl _)
    · exact le_top

/-- Rows whose exponentials all vanish, -/
theorem row_zero (z v : Fin 1024 → EReal) (h : ∀ j, Ideal.exp (z j - topS z) = 0) : rowR z v = 0 := by
  have hp : ∀ j, prob z j = ⊥ := fun j => by
    unfold prob
    rw [Finset.sum_congr rfl fun j _ => h j, Finset.sum_const_zero, h j, Ideal.div, if_pos rfl, if_neg (lt_irrefl _)]
  have ha : (topS fun j => max (prob z j) (-(prob z j))) = ⊤ := by
    refine top_le_iff.mp ?_
    have := (topS_le (fun j => max (prob z j) (-(prob z j))) _).1 le_rfl 0
    rw [hp] at this
    exact (le_max_right _ _).trans this
  have hs : scaleR ⊤ = ⊤ := by
    unfold scaleR
    rw [if_neg (by simp), cB_eq, EReal.top_mul_coe_of_pos (by unfold cR; positivity)]
    refine top_le_iff.mp ((Finset.le_fold_min _).2 ⟨le_rfl, fun x _ => ?_⟩)
    rw [if_neg not_top_lt]
  unfold rowR
  rw [ha, hs]
  have : ∀ j, min ((448 : ℝ) : EReal) (max ((-448 : ℝ) : EReal) (Ideal.div (prob z j) ⊤)) * v j = 0 := fun j => by
    rw [hp, Ideal.div, if_neg (by simp), EReal.inv_top, mul_zero]
    have : min ((448 : ℝ) : EReal) (max ((-448 : ℝ) : EReal) 0) = 0 := by
      rw [max_eq_right (by exact_mod_cast (by norm_num : (-448 : ℝ) ≤ 0)), min_eq_right (by exact_mod_cast (by norm_num : (0 : ℝ) ≤ 448))]
    rw [this, zero_mul]
  rw [Finset.sum_congr rfl fun j _ => this j, Finset.sum_const_zero, zero_mul]

theorem sum_coe (E : Fin 1024 → ℝ) : ∑ j, ((E j : ℝ) : EReal) = ((∑ j, E j : ℝ) : EReal) := by
  induction (Finset.univ : Finset (Fin 1024)) using Finset.induction with
  | empty => simp
  | insert a s ha ih => rw [Finset.sum_insert ha, Finset.sum_insert ha, ih, EReal.coe_add]

/-- and rows with a finite largest score. -/
theorem row_fin (z v : Fin 1024 → EReal) (E : Fin 1024 → ℝ) (h : ∀ j, Ideal.exp (z j - topS z) = (E j : EReal))
    (h0 : ∀ j, 0 ≤ E j) (h1 : ∀ j, E j ≤ 1) (j0 : Fin 1024) (hj : E j0 = 1) :
    rowR z v = (∑ j, v j * ((E j : EReal) * facS ((∑ j, E j : ℝ) : EReal))) * scaleS ((∑ j, E j : ℝ) : EReal) := by
  have T1 : 1 ≤ ∑ j, E j := hj ▸ Finset.single_le_sum (f := E) (fun j _ => h0 j) (Finset.mem_univ j0)
  have T2 : ∑ j, E j ≤ 1024 := by
    refine (Finset.sum_le_sum fun j _ => h1 j).trans ?_
    simp
  have hE := sum_coe E
  generalize (∑ j, E j) = T at T1 T2 hE ⊢
  have T0 : 0 < T := by linarith
  obtain ⟨N, n1, n2, hl, hu, hs, hf, hb⟩ := scale_fac T T1 T2
  have hp : ∀ j, prob z j = ((E j * T⁻¹ : ℝ) : EReal) := fun j => by
    unfold prob
    rw [Finset.sum_congr rfl fun j _ => h j, hE, h j, Ideal.div, if_neg (by exact_mod_cast T0.ne'), ← EReal.coe_inv, ← EReal.coe_mul]
  have hpn : ∀ j, 0 ≤ E j * T⁻¹ := fun j => mul_nonneg (h0 j) (inv_pos.mpr T0).le
  have hab : ∀ j, max (prob z j) (-(prob z j)) = ((E j * T⁻¹ : ℝ) : EReal) := fun j => by
    rw [hp, ← EReal.coe_neg]
    exact max_eq_left (by exact_mod_cast (by linarith [hpn j] : -(E j * T⁻¹) ≤ E j * T⁻¹))
  have ha : (topS fun j => max (prob z j) (-(prob z j))) = ((T⁻¹ : ℝ) : EReal) := by
    refine le_antisymm ((topS_le _ _).2 fun j => ?_) ?_
    · rw [hab]
      exact_mod_cast mul_le_of_le_one_left (inv_pos.mpr T0).le (h1 j)
    · have := (topS_le (fun j => max (prob z j) (-(prob z j))) _).1 le_rfl j0
      simpa only [hab, hj, one_mul] using this
  unfold rowR
  rw [ha, scaleR_eq T⁻¹ (inv_pos.mpr T0) N (by omega) hl hu, hs, hf]
  refine congrArg (· * _) ?_
  refine Finset.sum_congr rfl fun j _ => ?_
  have hq := pwR_pos (N + 1)
  rw [hp, Ideal.div, if_neg (by exact_mod_cast hq.ne'), ← EReal.coe_inv, ← EReal.coe_mul, ← EReal.coe_mul]
  have e : E j * T⁻¹ * (pwR (N + 1))⁻¹ = E j * (T⁻¹ * (pwR (N + 1))⁻¹) := mul_assoc _ _ _
  have b0 : 0 ≤ E j * (T⁻¹ * (pwR (N + 1))⁻¹) := mul_nonneg (h0 j) (mul_nonneg (inv_pos.mpr T0).le (inv_pos.mpr hq).le)
  have b1 : E j * (T⁻¹ * (pwR (N + 1))⁻¹) ≤ 448 :=
    (mul_le_of_le_one_left (mul_nonneg (inv_pos.mpr T0).le (inv_pos.mpr hq).le) (h1 j)).trans hb
  rw [e, max_eq_right (by exact_mod_cast (by linarith : (-448 : ℝ) ≤ E j * (T⁻¹ * (pwR (N + 1))⁻¹))),
    min_eq_right (by exact_mod_cast b1), mul_comm]

/-- The two rows agree, the kernel's scores being the reference's in units of powers of two. -/
theorem row_eq (z v : Fin 1024 → EReal) : rowK (fun j => z j * (lR : EReal)) v = rowR z v := by
  have he : ∀ j, Ideal.exp2 (z j * (lR : EReal) - topS (fun j => z j * (lR : EReal))) = Ideal.exp (z j - topS z) := fun j => by
    rw [topS_mul, exp_eq]
  unfold rowK
  simp only [he]
  have hle : ∀ j, z j ≤ topS z := (topS_le z _).1 le_rfl
  have zero : (∀ j, Ideal.exp (z j - topS z) = 0) → (∑ j, v j * (Ideal.exp (z j - topS z) * facS (∑ j, Ideal.exp (z j - topS z)))) *
      scaleS (∑ j, Ideal.exp (z j - topS z)) = rowR z v := fun h => by
    rw [row_zero z v h, Finset.sum_congr rfl fun j _ => by rw [h j, zero_mul, mul_zero], Finset.sum_const_zero, zero_mul]
  have cases : topS z = ⊥ ∨ topS z = ⊤ ∨ ∃ r : ℝ, topS z = (r : EReal) := by
    generalize topS z = t
    induction t with
    | bot => exact .inl rfl
    | top => exact .inr (.inl rfl)
    | coe r => exact .inr (.inr ⟨r, rfl⟩)
  rcases cases with h | h | ⟨r, h⟩
  · refine zero fun j => ?_
    have : z j = ⊥ := le_bot_iff.mp (h ▸ hle j)
    rw [this, EReal.bot_sub]; rfl
  · refine zero fun j => ?_
    rw [h, EReal.sub_top]; rfl
  · have hE : ∀ j, ∃ E : ℝ, Ideal.exp (z j - topS z) = (E : EReal) ∧ 0 ≤ E ∧ E ≤ 1 ∧ (z j = topS z → E = 1) := fun j => by
      have hj := hle j
      rw [h] at hj ⊢
      generalize z j = x at hj
      induction x with
      | bot => exact ⟨0, by rw [EReal.bot_sub]; rfl, le_rfl, zero_le_one, fun e => absurd e (EReal.bot_ne_coe r)⟩
      | top => exact absurd (top_le_iff.mp hj) (EReal.coe_ne_top r)
      | coe a =>
        have ha : a ≤ r := by exact_mod_cast hj
        refine ⟨Real.exp (a - r), by rw [← EReal.coe_sub]; rfl, (Real.exp_pos _).le, Real.exp_le_one_iff.mpr (by linarith), fun e => ?_⟩
        have : a = r := by exact_mod_cast e
        rw [this, sub_self, Real.exp_zero]
    choose E e0 e1 e2 e3 using hE
    obtain ⟨j0, hj0⟩ : ∃ j, z j = topS z := by
      by_contra hno
      push Not at hno
      have hlt : ∀ j, z j < topS z := fun j => lt_of_le_of_ne (hle j) (hno j)
      have : topS z < topS z := by
        conv_lhs => unfold topS
        exact (Finset.fold_max_lt _).2 ⟨by rw [h]; exact EReal.bot_lt_coe r, fun j _ => hlt j⟩
      exact lt_irrefl _ this
    rw [row_fin z v E e0 e1 e2 j0 (e3 j0 hj0)]
    simp only [e0]
    rw [sum_coe E]

end Cert.Quant
-- ==== Proof.Tile.lean ====
/-
  A tile of the attention: the scores, their exponentials and the codes in the scratch, read at an element over exact arithmetic.
-/
module

public import proofs.«01_k».proof.Proof.PenF
public import proofs.«01_k».proof.Proof.Quant
public import Idealize.ShloMosaic.Lib.ValueLayout
public import Idealize.ShloMosaic.Lib.MatmulPlain

@[expose] public section

noncomputable section

namespace Cert.Body

open Idealize.ShloMosaic Idealize.ShloMosaic.TcCoe Idealize.SL.Sem Idealize.ShloMosaic.WordCmp
open Cert.KernelIdeal Cert.KernelIdeal.Facts Cert.KernelIdeal.Shapes1.Facts₀ Cert.KernelIdeal.K0.Facts₀

variable {sig : RefSig} [Cert.KernelIdeal.Facts]
variable {A : ∀ b : Bf, Memref sig .tc .vmem (shp b) (ety b)} (hA : ∀ b, (A b).IsWhole)

/-! ## The scores' scratch through its window -/

theorem wemb_ex (par gi key : ℕ) (hp : par < 2) (hg : gi < 2) (hk : key + 32 ≤ 1024) (a : Fin 32) (l : Fin 128) :
    wemb (b := .ex) (Rect.unit (s := shp .ex) ![par, 0, 0, 0] S1x2x1024x128.size (inb4 (by omega) (by norm_num) (by norm_num) (by norm_num)))
      squeezes_S1x2x1024x128_S2x1024x128 (Rect.unit (s := S2x1024x128) ![gi, key, 0] S1x32x128.size (inb3 (by omega) hk le_rfl)) (ix3 0 a l) =
      ix4 (⟨par, hp⟩ : Fin 2) (⟨gi, hg⟩ : Fin 2) (⟨key + a.val, by omega⟩ : Fin 1024) l := by
  have e1 : (Rect.unit (s := S2x1024x128) ![gi, key, 0] S1x32x128.size (inb3 (by omega) hk le_rfl)).emb (ix3 0 a l) =
      ix3 (⟨gi, hg⟩ : Fin 2) (⟨key + a.val, by omega⟩ : Fin 1024) l :=
    funext fun x => Fin.ext ((Rect.idx_unit_val (s := S2x1024x128) ![gi, key, 0] S1x32x128.size (inb3 (by omega) hk le_rfl) (ix3 0 a l) x).trans (match x with
      | 0 => rfl | 1 => rfl | 2 => Nat.zero_add _))
  have e2 := ValueIdx.reshapeEquiv_ix3_1abc (a := 2) (b := 1024) (c := 128) (Shape.Squeezes.numel_eq squeezes_S1x2x1024x128_S2x1024x128)
    (⟨gi, hg⟩ : Fin 2) (⟨key + a.val, by omega⟩ : Fin 1024) l
  show (Rect.unit (s := shp .ex) ![par, 0, 0, 0] S1x2x1024x128.size _).emb (Shape.reshapeEquiv _ ((Rect.unit (s := S2x1024x128) ![gi, key, 0]
    S1x32x128.size _).emb (ix3 0 a l))) = _
  rw [e1]
  refine (congrArg _ e2).trans ?_
  exact funext fun x => Fin.ext ((Rect.idx_unit_val _ _ _ _ x).trans (match x with
      | 0 => rfl | 1 => Nat.zero_add _ | 2 => Nat.zero_add _ | 3 => Nat.zero_add _))

/-- A piece of the scores -/
def xval (par gi key : ℕ) (hp : par < 2) (hg : gi < 2) (hk : key + 32 ≤ 1024) (M : Mem Ideal) : Vec Ideal S1x32x128 .f32 :=
  ((rdx (F := Ideal) (A := A) Pg.ops par gi key hp hg hk).eff M).1

theorem eff_rdx (par gi key : ℕ) (hp : par < 2) (hg : gi < 2) (hk : key + 32 ≤ 1024) (M : Mem Ideal) :
    (rdx (F := Ideal) (A := A) Pg.ops par gi key hp hg hk).eff M = (xval (A := A) par gi key hp hg hk M, M) := rfl

theorem xval_apply (par gi key : ℕ) (hp : par < 2) (hg : gi < 2) (hk : key + 32 ≤ 1024) (M : Mem Ideal) (a : Fin 32) (l : Fin 128) :
    xval (A := A) par gi key hp hg hk M (ix3 0 a l) =
      M .ex (ix4 (⟨par, hp⟩ : Fin 2) (⟨gi, hg⟩ : Fin 2) (⟨key + a.val, by omega⟩ : Fin 1024) l) :=
  congrArg (M .ex) (wemb_ex par gi key hp hg hk a l)

/-- and a piece replaced. -/
def xput (par gi key : ℕ) (hp : par < 2) (hg : gi < 2) (hk : key + 32 ≤ 1024) (z : FVec Ideal S32x128 .f32) (M : Mem Ideal) : Mem Ideal :=
  M.set .ex (ovl (wemb (b := .ex) (Rect.unit (s := shp .ex) ![par, 0, 0, 0] S1x2x1024x128.size
      (inb4 (by omega) (by norm_num) (by norm_num) (by norm_num)))
    squeezes_S1x2x1024x128_S2x1024x128 (Rect.unit (s := S2x1024x128) ![gi, key, 0] S1x32x128.size (inb3 (by omega) hk le_rfl)))
    (M .ex) (shapeCast S1x32x128 z shapeCasts_S32x128_S1x32x128))

theorem eff_wrx (par gi key : ℕ) (hp : par < 2) (hg : gi < 2) (hk : key + 32 ≤ 1024) (z : FVec Ideal S32x128 .f32) (M : Mem Ideal) :
    (wrx (F := Ideal) (A := A) Pg.ops par gi key hp hg hk z).eff M = (⟨⟩, xput par gi key hp hg hk z M) := rfl

theorem xput_ne {b : Bf} (par gi key : ℕ) (hp : par < 2) (hg : gi < 2) (hk : key + 32 ≤ 1024) (z : FVec Ideal S32x128 .f32) (M : Mem Ideal)
    (h : b ≠ .ex) : xput par gi key hp hg hk z M b = M b := Function.update_of_ne h _ _

theorem xput_apply (par gi key : ℕ) (hp : par < 2) (hg : gi < 2) (hk : key + 32 ≤ 1024) (z : FVec Ideal S32x128 .f32) (M : Mem Ideal)
    (gi' : Fin 2) (j : Fin 1024) (l : Fin 128) :
    xput par gi key hp hg hk z M .ex (ix4 (⟨par, hp⟩ : Fin 2) gi' j l) =
      if h : gi'.val = gi ∧ key ≤ j.val ∧ j.val < key + 32 then z (ix2 (⟨j.val - key, by omega⟩ : Fin 32) l)
      else M .ex (ix4 (⟨par, hp⟩ : Fin 2) gi' j l) := by
  unfold xput Mem.set
  rw [Function.update_self]
  split_ifs with h
  · have e := wemb_ex par gi key hp hg hk ⟨j.val - key, by omega⟩ l
    have e' : ix4 (⟨par, hp⟩ : Fin 2) gi' j l = ix4 (⟨par, hp⟩ : Fin 2) (⟨gi, hg⟩ : Fin 2) (⟨key + (j.val - key), by omega⟩ : Fin 1024) l := by
      have e1 : gi' = ⟨gi, hg⟩ := Fin.ext h.1
      have e2 : j = ⟨key + (j.val - key), by omega⟩ := Fin.ext (by show j.val = key + (j.val - key); omega)
      exact congrArg₂ (fun a b => ix4 (⟨par, hp⟩ : Fin 2) a b l) e1 e2
    rw [e', ← e]
    refine (ovl_emb _ _ _ _).trans ?_
    pointwise
  · refine ovl_of_not _ _ _ fun x hx => h ?_
    rw [eq_ix3 x] at hx
    have hx' := (wemb_ex par gi key hp hg hk (x 1) (x 2)).symm.trans ((congrArg _ (congrArg (fun y => ix3 y (x 1) (x 2)) (Subsingleton.elim (0 : Fin 1) (x 0)))).trans hx)
    have h1 := congrArg (fun y => (y 1).val) hx'
    have h2 := congrArg (fun y => (y 2).val) hx'
    have : (x 1).val < 32 := (x 1).isLt
    simp only at h1 h2
    have h1' : gi = gi'.val := h1
    have h2' : key + (x 1).val = j.val := h2
    omega

/-! ## Scores -/

theorem zVal_apply (x : FVec Ideal S32x128 .f32) (qs : FVec Ideal S1x128 .f32) (ks : FVec Ideal S32x128 .f32) (f : Vec Ideal S1x32x128 .f32)
    (r : Fin 32) (l : Fin 128) : zVal x qs ks f (ix2 r l) = (x (ix2 r l) * qs (ix2 0 l) * ks (ix2 r l) - f (ix3 0 r l) : EReal) := by
  pointwise [zVal]

theorem fold_max (m : FVec Ideal S8x128 .f32) (z : FVec Ideal S32x128 .f32) (r : Fin 8) (l : Fin 128) :
    fold4 maximumf m z (ix2 r l) = (max (max (max (max (m (ix2 r l)) (z (ix2 ⟨r.val, by omega⟩ l))) (z (ix2 ⟨8 + r.val, by omega⟩ l)))
      (z (ix2 ⟨16 + r.val, by omega⟩ l))) (z (ix2 ⟨24 + r.val, by omega⟩ l)) : EReal) := by
  pointwise [fold4]

theorem fold_add (m : FVec Ideal S8x128 .f32) (z : FVec Ideal S32x128 .f32) (r : Fin 8) (l : Fin 128) :
    fold4 addf m z (ix2 r l) = (m (ix2 r l) + z (ix2 ⟨r.val, by omega⟩ l) + z (ix2 ⟨8 + r.val, by omega⟩ l)
      + z (ix2 ⟨16 + r.val, by omega⟩ l) + z (ix2 ⟨24 + r.val, by omega⟩ l) : EReal) := by
  pointwise [fold4]

/-- The first `n` keys of half `gi` scored: the scores in the scratch, the largest by residue in `m`. -/
def SI (Z : Fin 2 → ℕ → Fin 128 → EReal) (t : ℕ) (gi : Fin 2) (n : ℕ) (m : FVec Ideal S8x128 .f32) (M : Mem Ideal) : Prop :=
  (∀ (j : Fin 1024) (l : Fin 128), j.val < n → M .ex (ix4 (⟨t % 2, Nat.mod_lt _ (by decide)⟩ : Fin 2) gi j l) = Z gi j.val l) ∧
  ∀ (r : Fin 8) (l : Fin 128) (x : EReal), m (ix2 r l) ≤ x ↔ ∀ k, 8 * k + r.val < n → Z gi (8 * k + r.val) l ≤ x

theorem eff_scoreOne (t gi key : ℕ) (ht : t < 8) (hg : gi < 2) (hk : key + 32 ≤ 1024) (x : FVec Ideal S32x128 .f32) (qs : FVec Ideal S1x128 .f32)
    (ks : FVec Ideal S32x128 .f32) (m : FVec Ideal S8x128 .f32) (M : Mem Ideal) :
    (scoreOne (F := Ideal) (A := A) Pg.ops t gi key ht hg hk x qs ks m).eff M =
      (fold4 maximumf m (zVal x qs ks (blk .f ![2 * t + gi, key, 0] S1x32x128.size (inb3 (by omega) hk le_rfl) M)),
        xput (t % 2) gi key (Nat.mod_lt _ (by norm_num)) hg hk
          (zVal x qs ks (blk .f ![2 * t + gi, key, 0] S1x32x128.size (inb3 (by omega) hk le_rfl) M)) M) := by
  unfold scoreOne
  rw [Pg.eff_bind, Pg.eff_bind, eff_wrx]
  rfl

theorem scoreOne_ok (Z : Fin 2 → ℕ → Fin 128 → EReal) (t gi key : ℕ) (ht : t < 8) (hg : gi < 2) (hk : key + 32 ≤ 1024) (h8 : key % 8 = 0)
    (x : FVec Ideal S32x128 .f32) (qs : FVec Ideal S1x128 .f32) (ks : FVec Ideal S32x128 .f32) (m : FVec Ideal S8x128 .f32) (M : Mem Ideal)
    (h : SI Z t ⟨gi, hg⟩ key m M)
    (hz : ∀ (a : Fin 32) (l : Fin 128), (x (ix2 a l) * qs (ix2 0 l) * ks (ix2 a l) -
      M .f (ix3 (⟨2 * t + gi, by omega⟩ : Fin 16) (⟨key + a.val, by omega⟩ : Fin 1024) l) : EReal) = Z ⟨gi, hg⟩ (key + a.val) l) :
    SI Z t ⟨gi, hg⟩ (key + 32) ((scoreOne (F := Ideal) (A := A) Pg.ops t gi key ht hg hk x qs ks m).eff M).1
      ((scoreOne (F := Ideal) (A := A) Pg.ops t gi key ht hg hk x qs ks m).eff M).2 ∧
    ∀ (gi' : Fin 2), gi' ≠ ⟨gi, hg⟩ → ∀ n m', SI Z t gi' n m' M →
      SI Z t gi' n m' ((scoreOne (F := Ideal) (A := A) Pg.ops t gi key ht hg hk x qs ks m).eff M).2 := by
  have hv : ∀ (a : Fin 32) (l : Fin 128), zVal x qs ks (blk .f ![2 * t + gi, key, 0] S1x32x128.size (inb3 (by omega) hk le_rfl) M) (ix2 a l)
      = Z ⟨gi, hg⟩ (key + a.val) l := fun a l => by
    rw [zVal_apply, ← hz]
    refine congrArg _ (blk_apply (b := .f) _ _ fun x => ?_)
    exact match x with | 0 => rfl | 1 => rfl | 2 => (Nat.zero_add _).symm
  rw [eff_scoreOne]
  dsimp only
  refine ⟨⟨fun j l hj => ?_, fun r l y => ?_⟩, fun gi' hne n m' h' => ⟨fun j l hj => ?_, h'.2⟩⟩
  · rw [xput_apply]
    split_ifs with hc
    · rw [hv]
      exact congrArg (fun n => Z ⟨gi, hg⟩ n l) (by show key + (j.val - key) = j.val; omega)
    · have hc' : ¬ (key ≤ j.val ∧ j.val < key + 32) := fun hh => hc ⟨rfl, hh⟩
      exact h.1 j l (by omega)
  · rw [fold_max, max_le_iff, max_le_iff, max_le_iff, max_le_iff, hv, hv, hv, hv, h.2]
    obtain ⟨q, rfl⟩ : ∃ q, key = 8 * q := ⟨key / 8, by omega⟩
    constructor
    · rintro ⟨⟨⟨⟨a0, a1⟩, a2⟩, a3⟩, a4⟩ k hk'
      have : k < q ∨ k = q ∨ k = q + 1 ∨ k = q + 2 ∨ k = q + 3 := by omega
      rcases this with hlt | rfl | rfl | rfl | rfl
      · exact a0 k (by omega)
      · exact a1
      · rwa [show 8 * (q + 1) + r.val = 8 * q + (8 + r.val) by ring]
      · rwa [show 8 * (q + 2) + r.val = 8 * q + (16 + r.val) by ring]
      · rwa [show 8 * (q + 3) + r.val = 8 * q + (24 + r.val) by ring]
    · intro a
      have b1 := a q (by omega)
      have b2 := a (q + 1) (by omega)
      have b3 := a (q + 2) (by omega)
      have b4 := a (q + 3) (by omega)
      rw [show 8 * (q + 1) + r.val = 8 * q + (8 + r.val) by ring] at b2
      rw [show 8 * (q + 2) + r.val = 8 * q + (16 + r.val) by ring] at b3
      rw [show 8 * (q + 3) + r.val = 8 * q + (24 + r.val) by ring] at b4
      exact ⟨⟨⟨⟨fun k hk' => a k (by omega), b1⟩, b2⟩, b3⟩, b4⟩
  · rw [xput_apply, dif_neg (fun hc => hne (Fin.ext hc.1))]
    exact h'.1 j l hj

/-- Both halves. -/
def SB (Z : Fin 2 → ℕ → Fin 128 → EReal) (t : ℕ) (M0 : Mem Ideal) (n : ℕ) (m : FVec Ideal S8x128 .f32 × FVec Ideal S8x128 .f32)
    (M : Mem Ideal) : Prop :=
  (∀ b : Bf, b ≠ .ex → M b = M0 b) ∧ SI Z t 0 (min n (128 * t + 64)) m.1 M ∧ SI Z t 1 n m.2 M

/-- A piece that scores the next 32 keys of half `gi`. -/
def Scores (Z : Fin 2 → ℕ → Fin 128 → EReal) (t : ℕ) (M0 : Mem Ideal) (gi : Fin 2) (n : ℕ) (m : FVec Ideal S8x128 .f32)
    (p : Pg Ideal A (FVec Ideal S8x128 .f32)) : Prop :=
  (∀ b : Bf, b ≠ .ex → Keeps b p) ∧ ∀ M : Mem Ideal, (∀ b : Bf, b ≠ .ex → M b = M0 b) → SI Z t gi n m M →
    SI Z t gi (n + 32) (p.eff M).1 (p.eff M).2 ∧ ∀ (gi' : Fin 2), gi' ≠ gi → ∀ n m', SI Z t gi' n m' M → SI Z t gi' n m' (p.eff M).2

theorem both_ok (Z : Fin 2 → ℕ → Fin 128 → EReal) (t key : ℕ) (M0 : Mem Ideal) (h32 : key % 32 = 0) (hlt : key < 128 * t + 64)
    (m : FVec Ideal S8x128 .f32 × FVec Ideal S8x128 .f32) (p0 p1 : Pg Ideal A (FVec Ideal S8x128 .f32))
    (e0 : Scores Z t M0 0 key m.1 p0) (e1 : Scores Z t M0 1 key m.2 p1) (M : Mem Ideal) (h : SB Z t M0 key m M) :
    SB Z t M0 (key + 32) ((p0.eff M).1, (p1.eff (p0.eff M).2).1) (p1.eff (p0.eff M).2).2 := by
  obtain ⟨hM, s0, s1⟩ := h
  rw [min_eq_left hlt.le] at s0
  obtain ⟨a0, a1⟩ := e0.2 M hM s0
  have a2 : ∀ b : Bf, b ≠ .ex → (p0.eff M).2 b = M0 b := fun b hb => ((e0.1 b hb).of M).trans (hM b hb)
  obtain ⟨b0, b1⟩ := e1.2 _ a2 (a1 1 (by decide) _ _ s1)
  refine ⟨fun b hb => ((e1.1 b hb).of _).trans (a2 b hb), ?_, b0⟩
  rw [min_eq_left (by omega : key + 32 ≤ 128 * t + 64)]
  exact b1 0 (by decide) _ _ a0

theorem one_ok (Z : Fin 2 → ℕ → Fin 128 → EReal) (t key : ℕ) (M0 : Mem Ideal) (hlt : ¬ key < 128 * t + 64)
    (m : FVec Ideal S8x128 .f32 × FVec Ideal S8x128 .f32) (p1 : Pg Ideal A (FVec Ideal S8x128 .f32))
    (e1 : Scores Z t M0 1 key m.2 p1) (M : Mem Ideal) (h : SB Z t M0 key m M) :
    SB Z t M0 (key + 32) (m.1, (p1.eff M).1) (p1.eff M).2 := by
  obtain ⟨hM, s0, s1⟩ := h
  rw [min_eq_right (by omega)] at s0
  obtain ⟨b0, b1⟩ := e1.2 _ hM s1
  refine ⟨fun b hb => ((e1.1 b hb).of _).trans (hM b hb), ?_, b0⟩
  rw [min_eq_right (by omega)]
  exact b1 0 (by decide) _ _ s0

/-- A key's score for a tile's query, from the contents of the scratch. -/
def zAt (M : Mem Ideal) (t : ℕ) (ht : t < 8) (qb : FVec Ideal S128x256 .fp8e4m3) (qs : Fin 2 → FVec Ideal S1x128 .f32)
    (gi : Fin 2) (j : ℕ) (l : Fin 128) : EReal :=
  if h : j < 1024 then
    (∑ r : Fin 128, (M .kt (ix2 (⟨j, h⟩ : Fin 1024) r) : EReal) * qb (ix2 r (⟨128 * gi.val + l.val, by omega⟩ : Fin 256))) * qs gi (ix2 0 l) *
      M .ksb (ix2 (⟨j, h⟩ : Fin 1024) l) - M .f (ix3 (⟨2 * t + gi.val, by omega⟩ : Fin 16) (⟨j, h⟩ : Fin 1024) l) else 0

theorem scorePiece_ok (M0 : Mem Ideal) (t key : ℕ) (ht : t < 8) (hk : key + 32 ≤ 1024) (h32 : key % 32 = 0) (both : Bool)
    (hb : both = decide (key < 128 * t + 64)) (qb : FVec Ideal S128x256 .fp8e4m3)
    (x0 x1 : FVec Ideal S32x128 .f32) (qs : Fin 2 → FVec Ideal S1x128 .f32) (m : FVec Ideal S8x128 .f32 × FVec Ideal S8x128 .f32) (M : Mem Ideal)
    (h0 : ∀ (a : Fin 32) (l : Fin 128), x0 (ix2 a l) = ∑ r : Fin 128, (M0 .kt (ix2 (⟨key + a.val, by omega⟩ : Fin 1024) r) : EReal) *
      qb (ix2 r (⟨128 * 0 + l.val, by omega⟩ : Fin 256)))
    (h1 : ∀ (a : Fin 32) (l : Fin 128), x1 (ix2 a l) = ∑ r : Fin 128, (M0 .kt (ix2 (⟨key + a.val, by omega⟩ : Fin 1024) r) : EReal) *
      qb (ix2 r (⟨128 * 1 + l.val, by omega⟩ : Fin 256)))
    (h : SB (zAt M0 t ht qb qs) t M0 key m M) :
    SB (zAt M0 t ht qb qs) t M0 (key + 32) ((scorePiece (F := Ideal) (A := A) Pg.ops t key ht hk both x0 x1 (qs 0) (qs 1) m).eff M).1
      ((scorePiece (F := Ideal) (A := A) Pg.ops t key ht hk both x0 x1 (qs 0) (qs 1) m).eff M).2 := by
  have hks : ∀ (M : Mem Ideal) (e : M .ksb = M0 .ksb) (a : Fin 32) (l : Fin 128),
      blk .ksb ![key, 0] S32x128.size (inb2 hk le_rfl) M (ix2 a l) = M0 .ksb (ix2 (⟨key + a.val, by omega⟩ : Fin 1024) l) := fun M e a l => by
    rw [← e]
    exact blk_apply (b := .ksb) _ _ fun x => match x with | 0 => rfl | 1 => (Nat.zero_add _).symm
  have hz0 : ∀ (M' : Mem Ideal), (∀ b : Bf, b ≠ .ex → M' b = M0 b) → ∀ (a : Fin 32) (l : Fin 128), (x0 (ix2 a l) * qs 0 (ix2 0 l) *
      blk .ksb ![key, 0] S32x128.size (inb2 hk le_rfl) M (ix2 a l) -
      M' .f (ix3 (⟨2 * t + 0, by omega⟩ : Fin 16) (⟨key + a.val, by omega⟩ : Fin 1024) l) : EReal) = zAt M0 t ht qb qs 0 (key + a.val) l :=
    fun M' e a l => by
      unfold zAt
      rw [dif_pos (by omega), h0, hks M (h.1 _ (by decide)), e .f (by decide)]
      rfl
  have hz1 : ∀ (M' : Mem Ideal), (∀ b : Bf, b ≠ .ex → M' b = M0 b) → ∀ (a : Fin 32) (l : Fin 128), (x1 (ix2 a l) * qs 1 (ix2 0 l) *
      blk .ksb ![key, 0] S32x128.size (inb2 hk le_rfl) M (ix2 a l) -
      M' .f (ix3 (⟨2 * t + 1, by omega⟩ : Fin 16) (⟨key + a.val, by omega⟩ : Fin 1024) l) : EReal) = zAt M0 t ht qb qs 1 (key + a.val) l :=
    fun M' e a l => by
      unfold zAt
      rw [dif_pos (by omega), h1, hks M (h.1 _ (by decide)), e .f (by decide)]
      rfl
  have g0 : Scores (A := A) (zAt M0 t ht qb qs) t M0 0 key m.1 (scoreOne Pg.ops t 0 key ht (by norm_num) hk x0 (qs 0)
      (blk .ksb ![key, 0] S32x128.size (inb2 hk le_rfl) M) m.1) :=
    ⟨fun b hb => keeps_scoreOne hb .., fun M' e s => scoreOne_ok (A := A) (zAt M0 t ht qb qs) t 0 key ht (by norm_num) hk (by omega) x0 (qs 0)
      _ m.1 M' s (hz0 M' e)⟩
  have g1 : Scores (A := A) (zAt M0 t ht qb qs) t M0 1 key m.2 (scoreOne Pg.ops t 1 key ht (by norm_num) hk x1 (qs 1)
      (blk .ksb ![key, 0] S32x128.size (inb2 hk le_rfl) M) m.2) :=
    ⟨fun b hb => keeps_scoreOne hb .., fun M' e s => scoreOne_ok (A := A) (zAt M0 t ht qb qs) t 1 key ht (by norm_num) hk (by omega) x1 (qs 1)
      _ m.2 M' s (hz1 M' e)⟩
  by_cases hlt : key < 128 * t + 64
  · rw [decide_eq_true hlt] at hb
    subst hb
    simp only [scorePiece, Pg.eff_bind, eff_rd, cond_true, eff_pure]
    exact both_ok (A := A) _ t key M0 h32 hlt m _ _ g0 g1 M h
  · rw [decide_eq_false hlt] at hb
    subst hb
    simp only [scorePiece, Pg.eff_bind, eff_rd, cond_false, eff_pure]
    exact one_ok (A := A) _ t key M0 hlt m _ g1 M h

theorem cutA_apply {n : ℕ} (acc : FVec Ideal ⟨2, ![n, 256]⟩ .f32) (r : ℕ) (h : (⟨2, ![n, 256]⟩ : Shape).Slices ![32 * r, 0] S32x128)
    (hr : 32 * r + 32 ≤ n) (a : Fin 32) (l : Fin 128) :
    extractStridedSlice S32x128 ![32 * r, 0] acc h (ix2 a l) = acc (ix2 (⟨32 * r + a.val, by omega⟩ : Fin n) (⟨128 * 0 + l.val, by omega⟩ : Fin 256)) :=
  congrArg acc (funext fun x => Fin.ext (match x with | 0 => rfl | 1 => rfl))

theorem cutB_apply {n : ℕ} (acc : FVec Ideal ⟨2, ![n, 256]⟩ .f32) (r : ℕ) (h : (⟨2, ![n, 256]⟩ : Shape).Slices ![32 * r, 128] S32x128)
    (hr : 32 * r + 32 ≤ n) (a : Fin 32) (l : Fin 128) :
    extractStridedSlice S32x128 ![32 * r, 128] acc h (ix2 a l) = acc (ix2 (⟨32 * r + a.val, by omega⟩ : Fin n) (⟨128 * 1 + l.val, by omega⟩ : Fin 256)) :=
  congrArg acc (funext fun x => Fin.ext (match x with | 0 => rfl | 1 => rfl))

theorem scoreChunk_ok (M0 : Mem Ideal) (t c : ℕ) (ht : t < 8) (hc : c < 4) (h2 : c < (t + 1) / 2) (Q : QT Ideal) (qs : Fin 2 → FVec Ideal S1x128 .f32)
    (m : FVec Ideal S8x128 .f32 × FVec Ideal S8x128 .f32) (M : Mem Ideal) (h : SB (zAt M0 t ht Q.qb qs) t M0 (256 * c) m M) :
    SB (zAt M0 t ht Q.qb qs) t M0 (256 * (c + 1)) ((scoreChunk (F := Ideal) (A := A) Pg.ops t c ht hc Q (qs 0) (qs 1) m).eff M).1
      ((scoreChunk (F := Ideal) (A := A) Pg.ops t c ht hc Q (qs 0) (qs 1) m).eff M).2 := by
  unfold scoreChunk
  rw [Pg.eff_bind, eff_rd]
  have hacc : ∀ (j : Fin 256) (l : Fin 256), matmul dot_S256x128_S128x256_S256x256_1_0_0_1_n_n none
      (blk .kt ![256 * c, 0] S256x128.size (inb2 (by omega) le_rfl) M) Q.qb (constant (F := Ideal) S256x256 .f32 0x00000000#32) (ix2 j l) =
      (∑ r : Fin 128, M0 .kt (ix2 (⟨256 * c + j.val, by omega⟩ : Fin 1024) r) * Q.qb (ix2 r l) : EReal) := fun j l => by
    pointwise
    show (_ : EReal) = _
    refine Finset.sum_congr (M := EReal) rfl fun r _ => congrArg (· * _) ?_
    rw [← h.1 .kt (by decide)]
    exact blk_apply (b := .kt) _ _ fun x => match x with | 0 => rfl | 1 => (Nat.zero_add _).symm
  refine iterAll_eff 8 _ m (fun r m M => SB (zAt M0 t ht Q.qb qs) t M0 (256 * c + 32 * r) m M) M h fun r hr m M hs => ?_
  refine scorePiece_ok (A := A) M0 t (256 * c + 32 * r) ht (by omega) (by omega) _ ?_ Q.qb _ _ qs m M ?_ ?_ hs
  · exact decide_eq_decide.mpr (by omega)
  · intro a l
    rw [cutA_apply _ _ _ (by omega), hacc]
    simp only [Nat.add_assoc]
  · intro a l
    rw [cutB_apply _ _ _ (by omega), hacc]
    simp only [Nat.add_assoc]

theorem scoreHalf_ok (M0 : Mem Ideal) (t : ℕ) (ht : t < 8) (Q : QT Ideal) (qs : Fin 2 → FVec Ideal S1x128 .f32)
    (m : FVec Ideal S8x128 .f32 × FVec Ideal S8x128 .f32) (M : Mem Ideal) (h : SB (zAt M0 t ht Q.qb qs) t M0 (128 * t) m M) :
    SB (zAt M0 t ht Q.qb qs) t M0 (128 * t + 128) ((scoreHalf (F := Ideal) (A := A) Pg.ops t ht Q (qs 0) (qs 1) m).eff M).1
      ((scoreHalf (F := Ideal) (A := A) Pg.ops t ht Q (qs 0) (qs 1) m).eff M).2 := by
  unfold scoreHalf
  rw [Pg.eff_bind, eff_rd]
  have hacc : ∀ (j : Fin 128) (l : Fin 256), matmul dot_S128x128_S128x256_S128x256_1_0_0_1_n_n none
      (blk .kt ![128 * t, 0] S128x128.size (inb2 (by omega) le_rfl) M) Q.qb (constant (F := Ideal) S128x256 .f32 0x00000000#32) (ix2 j l) =
      (∑ r : Fin 128, M0 .kt (ix2 (⟨128 * t + j.val, by omega⟩ : Fin 1024) r) * Q.qb (ix2 r l) : EReal) := fun j l => by
    pointwise
    show (_ : EReal) = _
    refine Finset.sum_congr (M := EReal) rfl fun r _ => congrArg (· * _) ?_
    rw [← h.1 .kt (by decide)]
    exact blk_apply (b := .kt) _ _ fun x => match x with | 0 => rfl | 1 => (Nat.zero_add _).symm
  refine iterAll_eff 4 _ m (fun r m M => SB (zAt M0 t ht Q.qb qs) t M0 (128 * t + 32 * r) m M) M h fun r hr m M hs => ?_
  refine scorePiece_ok (A := A) M0 t (128 * t + 32 * r) ht (by omega) (by omega) _ ?_ Q.qb _ _ qs m M ?_ ?_ hs
  · exact decide_eq_decide.mpr (by omega)
  · intro a l
    rw [cutA_apply _ _ _ (by omega), hacc]
    simp only [Nat.add_assoc]
  · intro a l
    rw [cutB_apply _ _ _ (by omega), hacc]
    simp only [Nat.add_assoc]

theorem score_ok (M : Mem Ideal) (t : ℕ) (ht : t < 8) (Q : QT Ideal) (qs : Fin 2 → FVec Ideal S1x128 .f32) :
    SB (zAt M t ht Q.qb qs) t M (128 * t + 128) ((scoreP (F := Ideal) (A := A) Pg.ops t ht Q (qs 0) (qs 1)).eff M).1
      ((scoreP (F := Ideal) (A := A) Pg.ops t ht Q (qs 0) (qs 1)).eff M).2 := by
  unfold scoreP
  rw [Pg.eff_bind]
  have hbot : ∀ (r : Fin 8) (l : Fin 128), (broadcast S8x128 (cf (F := Ideal) 0xFF800000#32) : FVec Ideal S8x128 .f32) (ix2 r l) = (⊥ : EReal) := fun r l => by
    pointwise
    exact Cert.Quant.bot_eq
  have h0 : ∀ n gi, n = 0 → SI (zAt M t ht Q.qb qs) t gi n (broadcast S8x128 (cf (F := Ideal) 0xFF800000#32)) M := by
    rintro n gi rfl
    refine ⟨fun j l hj => absurd hj (Nat.not_lt_zero _), fun r l x => ?_⟩
    rw [hbot]
    exact ⟨fun _ k hk => absurd hk (Nat.not_lt_zero _), fun _ => bot_le⟩
  have h1 := iterAll_eff (F := Ideal) (A := A) ((t + 1) / 2) (fun c hc m => scoreChunk Pg.ops t c ht (by omega) Q (qs 0) (qs 1) m)
    (broadcast S8x128 (cf 0xFF800000#32), broadcast S8x128 (cf 0xFF800000#32))
    (fun c m M' => SB (zAt M t ht Q.qb qs) t M (256 * c) m M') M ⟨fun _ _ => rfl, h0 _ _ (by omega), h0 _ _ (by omega)⟩
    fun c hc m M' hs => scoreChunk_ok (A := A) M t c ht (by omega) hc Q qs m M' hs
  generalize (iterAll ((t + 1) / 2) (fun c hc m => scoreChunk Pg.ops t c ht _ Q (qs 0) (qs 1) m) _).eff M = R at h1 ⊢
  by_cases h2 : t % 2 = 0
  · rw [decide_eq_true h2, cond_true]
    refine scoreHalf_ok (A := A) M t ht Q qs R.1 R.2 ?_
    rwa [show 256 * ((t + 1) / 2) = 128 * t by omega] at h1
  · rw [decide_eq_false h2, cond_false, eff_pure]
    rwa [show 256 * ((t + 1) / 2) = 128 * t + 128 by omega] at h1

end Cert.Body
-- ==== Proof.Tile2.lean ====
/-
  A tile of the attention: exponentials, codes, product with the values and result, read at an element over exact arithmetic.
-/
module

public import proofs.«01_k».proof.Proof.Tile

@[expose] public section

noncomputable section

namespace Cert.Body

open Idealize.ShloMosaic Idealize.ShloMosaic.TcCoe Idealize.SL.Sem Idealize.ShloMosaic.WordCmp
open Cert.KernelIdeal Cert.KernelIdeal.Facts Cert.KernelIdeal.Shapes1.Facts₀ Cert.KernelIdeal.K0.Facts₀

variable {sig : RefSig} [Cert.KernelIdeal.Facts]
variable {A : ∀ b : Bf, Memref sig .tc .vmem (shp b) (ety b)} (hA : ∀ b, (A b).IsWhole)

theorem sum_eight (E : ℕ → EReal) : (n : ℕ) → (∑ q : Fin 8, ∑ k ∈ Finset.range n, E (8 * k + q.val) : EReal) = ∑ j ∈ Finset.range (8 * n), E j
  | 0 => by simp
  | n + 1 => by
      simp only [Finset.sum_range_succ _ n, Finset.sum_add_distrib, sum_eight E n]
      rw [show 8 * (n + 1) = 8 * n + 1 + 1 + 1 + 1 + 1 + 1 + 1 + 1 by ring]
      simp only [Finset.sum_range_succ, Fin.sum_univ_eight, ← add_assoc]
      rfl

theorem exVal_apply (x : Vec Ideal S1x32x128 .f32) (top : FVec Ideal S1x128 .f32) (a : Fin 32) (l : Fin 128) :
    exVal x top (ix2 a l) = Ideal.exp2 (x (ix3 0 a l) - top (ix2 0 l)) := by
  pointwise [exVal]
  rfl

theorem topOf_apply (m : FVec Ideal S8x128 .f32) (l : Fin 128) :
    topOf m (ix2 0 l) = Finset.fold max (⊥ : EReal) (fun q : Fin 8 => m (ix2 q l)) Finset.univ := by
  pointwise [topOf]
  first | done | rw [Cert.Quant.bot_eq]

theorem totalOf_apply (s : FVec Ideal S8x128 .f32) (l : Fin 128) :
    totalOf s (ix2 0 l) = (∑ q : Fin 8, s (ix2 q l) : EReal) := by
  pointwise [totalOf]

/-- The largest score of a query, from the scores by residue. -/
theorem top_le (Z : Fin 2 → ℕ → Fin 128 → EReal) (t : ℕ) (gi : Fin 2) (n : ℕ) (m : FVec Ideal S8x128 .f32) (M : Mem Ideal) (h : SI Z t gi n m M)
    (l : Fin 128) (x : EReal) : topOf m (ix2 0 l) ≤ x ↔ ∀ j, j < n → Z gi j l ≤ x := by
  rw [topOf_apply, Finset.fold_max_le]
  constructor
  · rintro ⟨-, a⟩ j hj
    have := (h.2 ⟨j % 8, Nat.mod_lt _ (by decide)⟩ l x).mp (a _ (Finset.mem_univ _)) (j / 8) (by show 8 * (j / 8) + j % 8 < n; omega)
    rwa [show 8 * (j / 8) + j % 8 = j by omega] at this
  · exact fun a => ⟨bot_le, fun q _ => (h.2 q l x).mpr fun k hk => a _ hk⟩

theorem exp_ok (t gi : ℕ) (ht : t < 8) (hg : gi < 2) (top : FVec Ideal S1x128 .f32) (Y : ℕ → Fin 128 → EReal) (M : Mem Ideal)
    (h : ∀ (j : Fin 1024) (l : Fin 128), j.val < 128 * t + 64 + 64 * gi →
      M .ex (ix4 (⟨t % 2, Nat.mod_lt _ (by decide)⟩ : Fin 2) (⟨gi, hg⟩ : Fin 2) j l) = Y j.val l) :
    (∀ gi' : Fin 2, gi' ≠ ⟨gi, hg⟩ → ∀ (j : Fin 1024) (l : Fin 128),
      ((expP (F := Ideal) (A := A) Pg.ops t gi ht hg top).eff M).2 .ex (ix4 (⟨t % 2, Nat.mod_lt _ (by decide)⟩ : Fin 2) gi' j l) =
      M .ex (ix4 (⟨t % 2, Nat.mod_lt _ (by decide)⟩ : Fin 2) gi' j l)) ∧
    (∀ (j : Fin 1024) (l : Fin 128), j.val < 128 * t + 64 + 64 * gi → ((expP (F := Ideal) (A := A) Pg.ops t gi ht hg top).eff M).2 .ex
      (ix4 (⟨t % 2, Nat.mod_lt _ (by decide)⟩ : Fin 2) (⟨gi, hg⟩ : Fin 2) j l) = Ideal.exp2 (Y j.val l - top (ix2 0 l))) ∧
    ∀ l : Fin 128, totalOf ((expP (F := Ideal) (A := A) Pg.ops t gi ht hg top).eff M).1 (ix2 0 l) =
      (∑ j ∈ Finset.range (128 * t + 64 + 64 * gi), Ideal.exp2 (Y j l - top (ix2 0 l)) : EReal) := by
  let P : ℕ → FVec Ideal S8x128 .f32 → Mem Ideal → Prop := fun r s M' =>
    (∀ gi' : Fin 2, gi' ≠ ⟨gi, hg⟩ → ∀ (j : Fin 1024) (l : Fin 128), M' .ex (ix4 (⟨t % 2, Nat.mod_lt _ (by decide)⟩ : Fin 2) gi' j l) =
      M .ex (ix4 (⟨t % 2, Nat.mod_lt _ (by decide)⟩ : Fin 2) gi' j l)) ∧
    (∀ (j : Fin 1024) (l : Fin 128), j.val < 128 * t + 64 + 64 * gi →
      M' .ex (ix4 (⟨t % 2, Nat.mod_lt _ (by decide)⟩ : Fin 2) (⟨gi, hg⟩ : Fin 2) j l) =
        if j.val < 32 * r then Ideal.exp2 (Y j.val l - top (ix2 0 l)) else Y j.val l) ∧
    ∀ (q : Fin 8) (l : Fin 128), s (ix2 q l) = (∑ k ∈ Finset.range (4 * r), Ideal.exp2 (Y (8 * k + q.val) l - top (ix2 0 l)) : EReal)
  have key : P (4 * t + 2 + 2 * gi) ((expP (F := Ideal) (A := A) Pg.ops t gi ht hg top).eff M).1
      ((expP (F := Ideal) (A := A) Pg.ops t gi ht hg top).eff M).2 := by
    refine iterAll_eff (F := Ideal) (A := A) (4 * t + 2 + 2 * gi) _ _ P M
      ⟨fun _ _ _ _ => rfl, fun j l hj => (h j l hj).trans (if_neg (by omega)).symm, fun q l => ?_⟩ ?_
    · rw [Nat.mul_zero, Finset.range_zero, Finset.sum_empty]
      pointwise
    · rintro r hr s M' ⟨p0, p1, p2⟩
      simp only [Pg.eff_bind, eff_rdx, eff_wrx, eff_pure]
      have hv : ∀ (a : Fin 32) (l : Fin 128), exVal (xval (A := A) (t % 2) gi (32 * r) (Nat.mod_lt _ (by norm_num)) hg (by omega) M') top (ix2 a l)
          = Ideal.exp2 (Y (32 * r + a.val) l - top (ix2 0 l)) := fun a l => by
        rw [exVal_apply, xval_apply, p1 _ _ (by show 32 * r + a.val < _; omega), if_neg (by show ¬ 32 * r + a.val < _; omega)]
      refine ⟨fun gi' hne j l => ?_, fun j l hj => ?_, fun q l => ?_⟩
      · rw [xput_apply, dif_neg (fun hc => hne (Fin.ext hc.1))]
        exact p0 gi' hne j l
      · rw [xput_apply]
        split_ifs with hc h2 h2
        · rw [hv]
          exact congrArg (fun n => Ideal.exp2 (Y n l - top (ix2 0 l))) (by show 32 * r + (j.val - 32 * r) = j.val; omega)
        · omega
        · have hc' : ¬ (32 * r ≤ j.val ∧ j.val < 32 * r + 32) := fun hh => hc ⟨rfl, hh⟩
          rw [p1 j l hj, if_pos (by omega)]
        · rw [p1 j l hj, if_neg (by omega)]
      · rw [fold_add, hv, hv, hv, hv, p2, show 4 * (r + 1) = 4 * r + 1 + 1 + 1 + 1 by ring]
        simp only [Finset.sum_range_succ]
        rw [show 8 * (4 * r) + q.val = 32 * r + q.val by ring, show 8 * (4 * r + 1) + q.val = 32 * r + (8 + q.val) by ring,
          show 8 * (4 * r + 1 + 1) + q.val = 32 * r + (16 + q.val) by ring, show 8 * (4 * r + 1 + 1 + 1) + q.val = 32 * r + (24 + q.val) by ring]
  refine ⟨key.1, fun j l hj => (key.2.1 j l hj).trans (if_pos (by omega)), fun l => ?_⟩
  rw [totalOf_apply]
  simp only [key.2.2]
  rw [sum_eight (fun j => Ideal.exp2 (Y j l - top (ix2 0 l))), show 8 * (4 * (4 * t + 2 + 2 * gi)) = 128 * t + 64 + 64 * gi by ring]

/-! ## Codes -/

theorem pVal_apply (x : Vec Ideal S1x32x128 .f32) (fac : FVec Ideal S1x128 .f32) (a : Fin 32) (l : Fin 128) :
    pVal x fac (ix2 a l) = (x (ix3 0 a l) * fac (ix2 0 l) : EReal) := by
  pointwise [pVal]

theorem eff_rdp (par : ℕ) (hp : par < 2) (off sz : Fin 2 → ℕ) (inb : ∀ a, off a + sz a ≤ S1024x256.size a)
    (h : 0 < (⟨2, sz⟩ : Shape).numel) (M : Mem Ideal) : ((rdp (F := Ideal) (A := A) Pg.ops par hp off sz inb h).eff M).2 = M := rfl

theorem codes_ok (t gi : ℕ) (ht : t < 8) (hg : gi < 2) (fac : FVec Ideal S1x128 .f32) (E : ℕ → Fin 128 → EReal) (M : Mem Ideal)
    (h : ∀ (j : Fin 1024) (l : Fin 128), j.val < 128 * t + 64 + 64 * gi →
      M .ex (ix4 (⟨t % 2, Nat.mod_lt _ (by decide)⟩ : Fin 2) (⟨gi, hg⟩ : Fin 2) j l) = E j.val l) (j : Fin 1024) (c : Fin 256) :
    ((codesP (F := Ideal) Pg.ops hA t gi ht hg fac).eff M).2 .p (ix3 (⟨t % 2, Nat.mod_lt _ (by decide)⟩ : Fin 2) j c) =
      if c.val / 128 = gi ∧ j.val < 128 * t + 64 + 64 * gi then
        (E j.val (⟨c.val % 128, Nat.mod_lt _ (by decide)⟩ : Fin 128) * fac (ix2 0 (⟨c.val % 128, Nat.mod_lt _ (by decide)⟩ : Fin 128)) : EReal)
      else M .p (ix3 (⟨t % 2, Nat.mod_lt _ (by decide)⟩ : Fin 2) j c) := by
  let P : ℕ → PUnit.{1} → Mem Ideal → Prop := fun r _ M' => M' .ex = M .ex ∧ ∀ (j : Fin 1024) (c : Fin 256),
    M' .p (ix3 (⟨t % 2, Nat.mod_lt _ (by decide)⟩ : Fin 2) j c) = if c.val / 128 = gi ∧ j.val < 32 * r then
      (E j.val (⟨c.val % 128, Nat.mod_lt _ (by decide)⟩ : Fin 128) * fac (ix2 0 (⟨c.val % 128, Nat.mod_lt _ (by decide)⟩ : Fin 128)) : EReal)
      else M .p (ix3 (⟨t % 2, Nat.mod_lt _ (by decide)⟩ : Fin 2) j c)
  have key : P (4 * t + 2 + 2 * gi) ((codesP (F := Ideal) Pg.ops hA t gi ht hg fac).eff M).1
      ((codesP (F := Ideal) Pg.ops hA t gi ht hg fac).eff M).2 := by
    refine iterAll_eff (F := Ideal) (A := A) (4 * t + 2 + 2 * gi) _ _ P M ⟨rfl, fun j c => (if_neg (by omega)).symm⟩ ?_
    rintro r hr s M' ⟨p0, p1⟩
    simp only [Pg.eff_bind, eff_rdx, eff_rdp, eff_wrn]
    refine ⟨(put_ne _ _ (by decide)).trans p0, fun j c => ?_⟩
    by_cases hc : c.val / 128 = gi ∧ 32 * r ≤ j.val ∧ j.val < 32 * r + 32
    · rw [if_pos (by omega)]
      have e := put_in (F := Ideal) (b := .p) (off := ![t % 2, 32 * r, 128 * gi]) (sz := S1x32x128.size)
        (inb := inb3 (by omega) (by omega) (by omega))
        (shapeCast S1x32x128 (shapeCast S32x128 (pVal (xval (A := A) (t % 2) gi (32 * r) (Nat.mod_lt _ (by norm_num)) hg (by omega) M') fac)
          shapeCasts_S32x128_S32x128) shapeCasts_S32x128_S1x32x128)
        M' (ix3 (⟨t % 2, Nat.mod_lt _ (by decide)⟩ : Fin 2) j c)
        (ix3 (0 : Fin 1) (⟨j.val - 32 * r, by omega⟩ : Fin 32) (⟨c.val % 128, Nat.mod_lt _ (by decide)⟩ : Fin 128))
        (fun a => match a with
          | 0 => rfl
          | 1 => (by show j.val = 32 * r + (j.val - 32 * r); omega)
          | 2 => (by show c.val = 128 * gi + c.val % 128; omega))
      refine e.trans ?_
      have e2 : shapeCast S1x32x128 (shapeCast S32x128 (pVal (xval (A := A) (t % 2) gi (32 * r) (Nat.mod_lt _ (by norm_num)) hg (by omega) M') fac)
          shapeCasts_S32x128_S32x128) shapeCasts_S32x128_S1x32x128
          (ix3 (0 : Fin 1) (⟨j.val - 32 * r, by omega⟩ : Fin 32) (⟨c.val % 128, Nat.mod_lt _ (by decide)⟩ : Fin 128)) =
          pVal (xval (A := A) (t % 2) gi (32 * r) (Nat.mod_lt _ (by norm_num)) hg (by omega) M') fac
          (ix2 (⟨j.val - 32 * r, by omega⟩ : Fin 32) (⟨c.val % 128, Nat.mod_lt _ (by decide)⟩ : Fin 128)) := by pointwise
      rw [e2, pVal_apply, xval_apply, p0, h _ _ (by show 32 * r + (j.val - 32 * r) < _; omega)]
      refine congrArg (· * _) (congrArg (fun n => E n _) ?_)
      show 32 * r + (j.val - 32 * r) = j.val
      omega
    · have e := put_out (F := Ideal) (b := .p) (off := ![t % 2, 32 * r, 128 * gi]) (sz := S1x32x128.size)
        (inb := inb3 (by omega) (by omega) (by omega))
        (shapeCast S1x32x128 (shapeCast S32x128 (pVal (xval (A := A) (t % 2) gi (32 * r) (Nat.mod_lt _ (by norm_num)) hg (by omega) M') fac)
          shapeCasts_S32x128_S32x128) shapeCasts_S32x128_S1x32x128)
        M' (ix3 (⟨t % 2, Nat.mod_lt _ (by decide)⟩ : Fin 2) j c)
      refine Eq.trans ?_ ((p1 j c).trans (if_congr (by omega) rfl rfl))
      by_cases h1 : 32 * r ≤ j.val ∧ j.val < 32 * r + 32
      · exact e 2 (by show c.val < 128 * gi ∨ 128 * gi + 128 ≤ c.val; omega)
      · exact e 1 (by show j.val < 32 * r ∨ 32 * r + 32 ≤ j.val; omega)
  exact (key.2 j c).trans (if_congr (by omega) rfl rfl)

theorem zero_ok (t : ℕ) (ht : t < 8) (M : Mem Ideal) (j : Fin 1024) (c : Fin 256) :
    ((zeroP (F := Ideal) Pg.ops hA t ht).eff M).2 .p (ix3 (⟨t % 2, Nat.mod_lt _ (by decide)⟩ : Fin 2) j c) =
      if c.val < 128 ∧ 128 * t + 64 ≤ j.val ∧ j.val < 128 * t + 128 then (0 : EReal)
      else M .p (ix3 (⟨t % 2, Nat.mod_lt _ (by decide)⟩ : Fin 2) j c) := by
  unfold zeroP
  simp only [Pg.eff_bind, eff_rdp, eff_wrn]
  split_ifs with hc
  · refine (put_in (F := Ideal) (b := .p) (off := ![t % 2, 128 * t + 64, 0]) (sz := S1x64x128.size) _ M (ix3 (⟨t % 2, Nat.mod_lt _ (by decide)⟩ : Fin 2) j c)
      (ix3 (0 : Fin 1) (⟨j.val - (128 * t + 64), by omega⟩ : Fin 64) (⟨c.val, hc.1⟩ : Fin 128)) (fun a => match a with
          | 0 => rfl
          | 1 => (by show j.val = 128 * t + 64 + (j.val - (128 * t + 64)); omega)
          | 2 => (Nat.zero_add _).symm)).trans ?_
    pointwise
  · have e := put_out (F := Ideal) (b := .p) (off := ![t % 2, 128 * t + 64, 0]) (sz := S1x64x128.size)
      (inb := inb3 (by omega) (by omega) (by norm_num))
      (shapeCast S1x64x128 (shapeCast S64x128 (truncf (F := Ideal) .fp8e4m3 (broadcast S64x128 (cf 0x00000000#32)) bitsLt_fp8e4m3_f32)
        shapeCasts_S64x128_S64x128) shapeCasts_S64x128_S1x64x128) M (ix3 (⟨t % 2, Nat.mod_lt _ (by decide)⟩ : Fin 2) j c)
    by_cases h1 : 128 * t + 64 ≤ j.val ∧ j.val < 128 * t + 128
    · exact e 2 (by show c.val < 0 ∨ 0 + 128 ≤ c.val; omega)
    · exact e 1 (by show j.val < 128 * t + 64 ∨ 128 * t + 64 + 64 ≤ j.val; omega)

/-! ## Product -/

theorem vCut_apply (v : FVec Ideal S128x1024 .fp8e4m3) : (t : ℕ) → (ht : t < 8) → (r : Fin 128) → (j : Fin (128 * t + 128)) →
    vCut v t ht (ix2 r j) = v (ix2 r (⟨j.val, by omega⟩ : Fin 1024))
  | 0, _, r, j | 1, _, r, j | 2, _, r, j | 3, _, r, j | 4, _, r, j | 5, _, r, j | 6, _, r, j =>
      congrArg v (funext fun a => Fin.ext (match a with | 0 => Nat.zero_add _ | 1 => Nat.zero_add _))
  | 7, _, r, j => rfl
  | n + 8, h, _, _ => absurd h (by omega)

theorem rdp_apply (par n : ℕ) (hp : par < 2) (hn : n ≤ 1024) (inb : ∀ a, ![0, 0] a + ![n, 256] a ≤ S1024x256.size a)
    (h : 0 < (⟨2, ![n, 256]⟩ : Shape).numel) (M : Mem Ideal) (j : Fin n) (c : Fin 256) :
    ((rdp (F := Ideal) (A := A) Pg.ops par hp ![0, 0] ![n, 256] inb h).eff M).1 (ix2 j c) =
      M .p (ix3 (⟨par, hp⟩ : Fin 2) (⟨j.val, by omega⟩ : Fin 1024) c) := by
  have e1 : (Rect.unit (s := S1024x256) ![0, 0] ![n, 256] inb).toLoadRect.idx (ix2 j c) = ix2 (⟨j.val, by omega⟩ : Fin 1024) c :=
    funext fun x => Fin.ext ((Rect.idx_unit_val (s := S1024x256) ![0, 0] ![n, 256] inb (ix2 j c) x).trans (match x with
      | 0 => Nat.zero_add _ | 1 => Nat.zero_add _))
  have e2 := ValueIdx.reshapeEquiv_ix2_1ab (a := 1024) (b := 256) (Shape.Squeezes.numel_eq squeezes_S1x1024x256_S1024x256)
    (⟨j.val, by omega⟩ : Fin 1024) c
  show M .p ((Rect.unit (s := shp .p) ![par, 0, 0] S1x1024x256.size _).emb (Shape.reshapeEquiv _ ((Rect.unit (s := S1024x256) ![0, 0] ![n, 256]
    inb).toLoadRect.idx (ix2 j c)))) = _
  rw [e1]
  refine congrArg (M .p) ((congrArg _ e2).trans ?_)
  exact funext fun x => Fin.ext ((Rect.idx_unit_val (s := shp .p) ![par, 0, 0] S1x1024x256.size _ _ x).trans (match x with
      | 0 => rfl | 1 => Nat.zero_add _ | 2 => Nat.zero_add _))

theorem sum_cut {n N : ℕ} (hn : n ≤ N) (f : Fin N → EReal) :
    (∑ j : Fin n, f ⟨j.val, by omega⟩ : EReal) = ∑ j : Fin N, if j.val < n then f j else 0 := by
  rw [← Finset.sum_filter]
  exact Finset.sum_bij (fun j _ => ⟨j.val, by omega⟩) (fun j _ => Finset.mem_filter.mpr ⟨Finset.mem_univ _, j.isLt⟩)
    (fun a _ b _ h => Fin.ext (Fin.ext_iff.mp h :)) (fun b hb => ⟨⟨b.val, (Finset.mem_filter.mp hb).2⟩, Finset.mem_univ _, rfl⟩)
    (fun _ _ => rfl)

theorem pv_ok (t : ℕ) (ht : t < 8) (v : FVec Ideal S128x1024 .fp8e4m3) (M : Mem Ideal) :
    (∀ (r : Fin 128) (c : Fin 256), ((pvP (F := Ideal) (A := A) Pg.ops t ht v).eff M).1 (ix2 r c) =
      (∑ j : Fin 1024, if j.val < 128 * t + 128 then v (ix2 r j) * M .p (ix3 (⟨t % 2, Nat.mod_lt _ (by decide)⟩ : Fin 2) j c) else 0 : EReal)) ∧
    ((pvP (F := Ideal) (A := A) Pg.ops t ht v).eff M).2 = M := by
  refine ⟨fun r c => ?_, rfl⟩
  unfold pvP
  rw [Pg.eff_bind, eff_pure]
  dsimp only
  refine (Ideal.matmul_plain_apply _ _ _ _ r c).trans ?_
  have h0 : constant (F := Ideal) S128x256 .f32 0x00000000#32 (ix2 r c) = (0 : EReal) := by pointwise
  refine (congrArg (· + _) h0).trans ?_
  rw [zero_add]
  refine Eq.trans ?_ (sum_cut (n := 128 * t + 128) (by omega) fun j => v (ix2 r j) * M .p (ix3 (⟨t % 2, Nat.mod_lt _ (by decide)⟩ : Fin 2) j c))
  show (_ : EReal) = _
  refine Finset.sum_congr (M := EReal) rfl fun j _ => ?_
  exact congrArg₂ (· * ·) (vCut_apply v t ht r j) (rdp_apply (t % 2) _ _ (by omega) _ _ M j c)

/-! ## Result -/

theorem pv_at (pv : FVec Ideal S128x256 .f32) (r r' : Fin 128) (a b : Fin 256) (hr : r.val = r'.val) (h : a.val = b.val) : pv (ix2 r a) = pv (ix2 r' b) :=
  congrArg₂ (fun x y => pv (ix2 x y)) (Fin.ext hr) (Fin.ext h)

theorem sc_at (s : FVec Ideal S1x128 .f32) (a b : Fin 128) (h : a.val = b.val) : s (ix2 0 a) = s (ix2 0 b) :=
  congrArg (fun y => s (ix2 0 y)) (Fin.ext h)

theorem o0_apply (pv : FVec Ideal S128x256 .f32) (s0 s1 : FVec Ideal S1x128 .f32) (vs : FVec Ideal S64x128 .f32) (d : Fin 64) (gi : Fin 2) (x : Fin 64) :
    o0Val pv s0 s1 vs (ix2 d (⟨64 * gi.val + x.val, by omega⟩ : Fin 128)) = (pv (ix2 (⟨64 * 0 + d.val, by omega⟩ : Fin 128) (⟨128 * gi.val + (64 * 0 + x.val), by omega⟩ : Fin 256)) *
      (if gi = 0 then s0 else s1) (ix2 0 (⟨64 * 0 + x.val, by omega⟩ : Fin 128)) * vs (ix2 d (⟨64 * gi.val + x.val, by omega⟩ : Fin 128)) : EReal) := by
  pointwise [o0Val, lo, rot, lo1, rot1]
  have hw : IntOp.cmpi .slt (BitVec.ofNat 32 (64 * gi.val + x.val)) 64#32 = BitVec.ofBool (decide (64 * gi.val + x.val < 64)) :=
    cmpi_slt_ofNat (by omega) (by norm_num)
  rw [hw]
  have hg : gi.val = 0 ∨ gi.val = 1 := by omega
  rcases hg with h | h
  · rw [decide_eq_true (by omega), if_pos (Fin.ext h)]
    exact congrArg (· * _) (congrArg₂ (· * ·) (pv_at pv _ _ _ _ (by first | rfl | (dsimp only; omega)) (by dsimp only; omega)) (sc_at s0 _ _ (by dsimp only; omega)))
  · rw [decide_eq_false (by omega), if_neg (fun e => by rw [e] at h; exact absurd h (by decide))]
    exact congrArg (· * _) (congrArg₂ (· * ·) (pv_at pv _ _ _ _ (by first | rfl | (dsimp only; omega)) (by dsimp only; omega)) (sc_at s1 _ _ (by dsimp only; omega)))

theorem o1_apply (pv : FVec Ideal S128x256 .f32) (s0 s1 : FVec Ideal S1x128 .f32) (vs : FVec Ideal S64x128 .f32) (d : Fin 64) (gi : Fin 2) (x : Fin 64) :
    o1Val pv s0 s1 vs (ix2 d (⟨64 * gi.val + x.val, by omega⟩ : Fin 128)) = (pv (ix2 (⟨64 * 1 + d.val, by omega⟩ : Fin 128) (⟨128 * gi.val + (64 * 1 + x.val), by omega⟩ : Fin 256)) *
      (if gi = 0 then s0 else s1) (ix2 0 (⟨64 * 1 + x.val, by omega⟩ : Fin 128)) * vs (ix2 d (⟨64 * gi.val + x.val, by omega⟩ : Fin 128)) : EReal) := by
  pointwise [o1Val, lo, rot, lo1, rot1]
  have hw : IntOp.cmpi .slt (BitVec.ofNat 32 (64 * gi.val + x.val)) 64#32 = BitVec.ofBool (decide (64 * gi.val + x.val < 64)) :=
    cmpi_slt_ofNat (by omega) (by norm_num)
  rw [hw]
  have hg : gi.val = 0 ∨ gi.val = 1 := by omega
  rcases hg with h | h
  · rw [decide_eq_true (by omega), if_pos (Fin.ext h)]
    exact congrArg (· * _) (congrArg₂ (· * ·) (pv_at pv _ _ _ _ (by first | rfl | (dsimp only; omega)) (by dsimp only; omega)) (sc_at s0 _ _ (by dsimp only; omega)))
  · rw [decide_eq_false (by omega), if_neg (fun e => by rw [e] at h; exact absurd h (by decide))]
    exact congrArg (· * _) (congrArg₂ (· * ·) (pv_at pv _ _ _ _ (by first | rfl | (dsimp only; omega)) (by dsimp only; omega)) (sc_at s1 _ _ (by dsimp only; omega)))

theorem out_ok (t : ℕ) (ht : t < 8) (b : ℕ) (hb : b < 2) (o : FVec Ideal S64x128 .bf16) (M : Mem Ideal) (b' : Fin 2) (d : Fin 64) (i : Fin 1024) :
    ((outP (F := Ideal) Pg.ops hA t ht b hb o).eff M).2 .o (ix3 b' d i) =
      if h : b'.val = b ∧ 128 * t ≤ i.val ∧ i.val < 128 * t + 128 then o (ix2 d (⟨i.val - 128 * t, by omega⟩ : Fin 128))
      else M .o (ix3 b' d i) := by
  unfold outP
  simp only [Pg.eff_bind, eff_rd, eff_wrn]
  split_ifs with hc
  · refine (put_in (F := Ideal) (b := .o) (off := ![b, 0, 128 * t]) (sz := S1x64x128.size) _ M (ix3 b' d i)
      (ix3 (0 : Fin 1) d (⟨i.val - 128 * t, by omega⟩ : Fin 128)) (fun a => match a with
          | 0 => hc.1
          | 1 => (Nat.zero_add _).symm
          | 2 => (by show i.val = 128 * t + (i.val - 128 * t); omega))).trans ?_
    pointwise
  · have e := put_out (F := Ideal) (b := .o) (off := ![b, 0, 128 * t]) (sz := S1x64x128.size)
      (inb := inb3 (by omega) (by norm_num) (by omega))
      (shapeCast S1x64x128 o shapeCasts_S64x128_S1x64x128) M (ix3 b' d i)
    by_cases h1 : b'.val = b
    · exact e 2 (by show i.val < 128 * t ∨ 128 * t + 128 ≤ i.val; omega)
    · exact e 0 (by show b'.val < b ∨ b + 1 ≤ b'.val; omega)

theorem keeps_out {b : Bf} (hb : b ≠ .o) (t ht b' hb' o) : Keeps b (outP (F := Ideal) Pg.ops hA t ht b' hb' o) :=
  .bind (.rd ..) fun _ => .wrn _ _ _ _ _ _ _ _ hb

theorem keeps_zero {b : Bf} (hb : b ≠ .p) (t ht) : Keeps b (zeroP (F := Ideal) Pg.ops hA t ht) :=
  .bind (.rdw ..) fun _ => .wrn _ _ _ _ _ _ _ _ hb

/-- The product of the values with the codes of one query. -/
theorem finish_ok (t : ℕ) (ht : t < 8) (v : FVec Ideal S128x1024 .fp8e4m3) (vs : Fin 2 → FVec Ideal S64x128 .f32) (tot : Fin 2 → FVec Ideal S1x128 .f32)
    (E : Fin 2 → ℕ → Fin 128 → EReal) (M : Mem Ideal)
    (h : ∀ (gi : Fin 2) (j : Fin 1024) (l : Fin 128), j.val < 128 * t + 64 + 64 * gi.val →
      M .ex (ix4 (⟨t % 2, Nat.mod_lt _ (by decide)⟩ : Fin 2) gi j l) = E gi j.val l) :
    (∀ (b : Fin 2) (d : Fin 64) (gi : Fin 2) (x : Fin 64),
      ((finishP (F := Ideal) Pg.ops hA t ht v (vs 0) (vs 1) (tot 0) (tot 1)).eff M).2 .o (ix3 b d (⟨128 * t + (64 * gi.val + x.val), by omega⟩ : Fin 1024)) =
      ((∑ j : Fin 1024, if j.val < 128 * t + 64 + 64 * gi.val then v (ix2 (⟨64 * b.val + d.val, by omega⟩ : Fin 128) j) *
          (E gi j.val (⟨64 * b.val + x.val, by omega⟩ : Fin 128) * facOf (tot gi) (ix2 0 (⟨64 * b.val + x.val, by omega⟩ : Fin 128))) else 0) *
        scaleOf (tot gi) (ix2 0 (⟨64 * b.val + x.val, by omega⟩ : Fin 128)) * vs b (ix2 d (⟨64 * gi.val + x.val, by omega⟩ : Fin 128)) : EReal)) ∧
    ∀ (b : Fin 2) (d : Fin 64) (i : Fin 1024), (i.val < 128 * t ∨ 128 * t + 128 ≤ i.val) →
      ((finishP (F := Ideal) Pg.ops hA t ht v (vs 0) (vs 1) (tot 0) (tot 1)).eff M).2 .o (ix3 b d i) = M .o (ix3 b d i) := by
  unfold finishP
  simp only [Pg.eff_bind]
  have c1 : ∀ (j : Fin 1024) (c : Fin 256), _ := codes_ok hA t 0 ht (by norm_num) (facOf (tot 0)) (E 0) M (h 0)
  have k1 : ((codesP (F := Ideal) Pg.ops hA t 0 ht (by norm_num) (facOf (tot 0))).eff M).2 .ex = M .ex := (keeps_codes hA (by decide) ..).of M
  have o1 : ((codesP (F := Ideal) Pg.ops hA t 0 ht (by norm_num) (facOf (tot 0))).eff M).2 .o = M .o := (keeps_codes hA (by decide) ..).of M
  generalize ((codesP (F := Ideal) Pg.ops hA t 0 ht _ (facOf (tot 0))).eff M).2 = M1 at c1 k1 o1 ⊢
  have c2 : ∀ (j : Fin 1024) (c : Fin 256), _ := codes_ok hA t 1 ht (by norm_num) (facOf (tot 1)) (E 1) M1 (fun j l hj => by rw [k1]; exact h 1 j l hj)
  have o2 : ((codesP (F := Ideal) Pg.ops hA t 1 ht (by norm_num) (facOf (tot 1))).eff M1).2 .o = M1 .o := (keeps_codes hA (by decide) ..).of M1
  generalize ((codesP (F := Ideal) Pg.ops hA t 1 ht _ (facOf (tot 1))).eff M1).2 = M2 at c2 o2 ⊢
  have c3 : ∀ (j : Fin 1024) (c : Fin 256), _ := zero_ok hA t ht M2
  have o3 : ((zeroP (F := Ideal) Pg.ops hA t ht).eff M2).2 .o = M2 .o := (keeps_zero hA (by decide) ..).of M2
  generalize ((zeroP (F := Ideal) Pg.ops hA t ht).eff M2).2 = M3 at c3 o3 ⊢
  obtain ⟨c4, k4⟩ := pv_ok (A := A) t ht v M3
  rw [k4]
  generalize ((pvP (F := Ideal) (A := A) Pg.ops t ht v).eff M3).1 = pv at c4 ⊢
  have hpv : ∀ (r : Fin 128) (gi : Fin 2) (l : Fin 128), pv (ix2 r (⟨128 * gi.val + l.val, by omega⟩ : Fin 256)) =
      (∑ j : Fin 1024, if j.val < 128 * t + 64 + 64 * gi.val then v (ix2 r j) * (E gi j.val l * facOf (tot gi) (ix2 0 l)) else 0 : EReal) := fun r gi l => by
    rw [c4]
    show (_ : EReal) = _
    refine Finset.sum_congr (M := EReal) rfl fun j _ => ?_
    have hl : (⟨(128 * gi.val + l.val) % 128, Nat.mod_lt _ (by decide)⟩ : Fin 128) = l := Fin.ext (by show (128 * gi.val + l.val) % 128 = l.val; omega)
    rw [c3, c2, c1]
    dsimp only
    rw [hl]
    have hg : gi = 0 ∨ gi = 1 := by omega
    rcases hg with rfl | rfl
    · change (if j.val < 128 * t + 128 then v (ix2 r j) * (if 128 * 0 + l.val < 128 ∧ 128 * t + 64 ≤ j.val ∧ j.val < 128 * t + 128 then 0 else
        if (128 * 0 + l.val) / 128 = 1 ∧ j.val < 128 * t + 64 + 64 * 1 then _ else if (128 * 0 + l.val) / 128 = 0 ∧ j.val < 128 * t + 64 + 64 * 0 then _ else _) else 0 : EReal)
        = if j.val < 128 * t + 64 + 64 * 0 then _ else 0
      by_cases h1 : j.val < 128 * t + 64
      · rw [if_pos (by omega), if_neg (by omega), if_neg (by omega), if_pos (by omega), if_pos (by omega)]
      · rw [if_neg (c := j.val < 128 * t + 64 + 64 * 0) (by omega)]
        by_cases h2 : j.val < 128 * t + 128
        · rw [if_pos h2, if_pos (by omega), mul_zero]
        · rw [if_neg h2]
    · change (if j.val < 128 * t + 128 then v (ix2 r j) * (if 128 * 1 + l.val < 128 ∧ 128 * t + 64 ≤ j.val ∧ j.val < 128 * t + 128 then 0 else
        if (128 * 1 + l.val) / 128 = 1 ∧ j.val < 128 * t + 64 + 64 * 1 then _ else _) else 0 : EReal)
        = if j.val < 128 * t + 64 + 64 * 1 then _ else 0
      by_cases h2 : j.val < 128 * t + 128
      · rw [if_pos h2, if_neg (by omega), if_pos (by omega), if_pos (by omega)]
      · rw [if_neg h2, if_neg (by omega)]
  refine ⟨fun b d gi x => ?_, fun b d i hi => ?_⟩
  · have hb : b = 0 ∨ b = 1 := by omega
    have hx : (⟨128 * t + (64 * gi.val + x.val) - 128 * t, by omega⟩ : Fin 128) = ⟨64 * gi.val + x.val, by omega⟩ := Fin.ext (by dsimp only; omega)
    have hs : ∀ a : Fin 128, (if gi = 0 then scaleOf (tot 0) else scaleOf (tot 1)) (ix2 0 a) = scaleOf (tot gi) (ix2 0 a) := fun a => by
      have hg : gi = 0 ∨ gi = 1 := by omega
      rcases hg with rfl | rfl
      · rfl
      · rfl
    rw [out_ok]
    rcases hb with rfl | rfl
    · rw [dif_neg (fun hc => absurd hc.1 (by decide)), out_ok, dif_pos ⟨rfl, by dsimp only; omega, by dsimp only; omega⟩]
      dsimp only
      rw [hx, o0_apply, hs]
      exact congrArg (· * _) (congrArg (· * _) (hpv _ gi ⟨64 * 0 + x.val, by omega⟩))
    · rw [dif_pos ⟨rfl, by dsimp only; omega, by dsimp only; omega⟩]
      dsimp only
      rw [hx, o1_apply, hs]
      exact congrArg (· * _) (congrArg (· * _) (hpv _ gi ⟨64 * 1 + x.val, by omega⟩))
  · rw [out_ok, dif_neg (by omega), out_ok, dif_neg (by omega), o3, o2, o1]

/-! ## The tile -/

theorem pow_eq (n : IVec S1x128 32) (l : Fin 128) : powOf (F := Ideal) n (ix2 0 l) = Cert.Quant.pwB (n (ix2 0 l)) := by
  unfold powOf Cert.Quant.pwB
  pointwise

theorem step_eq (x : FVec Ideal S1x128 .f32) (n : IVec S1x128 32) (b : BitVec 32) (l : Fin 128) :
    expoStep x n b (ix2 0 l) = Cert.Quant.srch (fun m => Ideal.cmp .oge (x (ix2 0 l)) (Cert.Quant.pwB m)) (n (ix2 0 l)) b := by
  have h : powOf (F := Ideal) (addi n (broadcast S1x128 b)) (ix2 0 l) = Cert.Quant.pwB (IntOp.addi (n (ix2 0 l)) b) := pow_eq _ l
  unfold Cert.Quant.srch
  show _ = Scalar.select (Ideal.cmp .oge (x (ix2 0 l)) (Cert.Quant.pwB (IntOp.addi (n (ix2 0 l)) b))) (IntOp.addi (n (ix2 0 l)) b) (n (ix2 0 l))
  rw [← h]
  rfl

theorem expo_eq (x : FVec Ideal S1x128 .f32) (l : Fin 128) : expoOf x (ix2 0 l) = Cert.Quant.expoS (x (ix2 0 l)) := by
  unfold expoOf Cert.Quant.expoS Cert.Quant.srch8
  simp only [step_eq]
  rfl

theorem amp_eq (tot : FVec Ideal S1x128 .f32) (l : Fin 128) : ampOf tot (ix2 0 l) = Cert.Quant.ampS (tot (ix2 0 l)) := by
  unfold Cert.Quant.ampS
  pointwise [ampOf, invOf]

theorem e_eq (tot : FVec Ideal S1x128 .f32) (l : Fin 128) : eOf tot (ix2 0 l) = Cert.Quant.eS (tot (ix2 0 l)) := by
  have h := expo_eq (mulf (ampOf tot) (broadcast S1x128 (cf 0x3B124925#32))) l
  have h2 : mulf (ampOf tot) (broadcast S1x128 (cf 0x3B124925#32)) (ix2 0 l) = (Cert.Quant.ampS (tot (ix2 0 l)) * Cert.Quant.cB : EReal) := by
    rw [← amp_eq]; rfl
  rw [h2] at h
  unfold Cert.Quant.eS
  rw [← h, ← amp_eq]
  unfold eOf
  rfl

theorem fac_eq (tot : FVec Ideal S1x128 .f32) (l : Fin 128) : facOf tot (ix2 0 l) = Cert.Quant.facS (tot (ix2 0 l)) := by
  have h := pow_eq (addi (subi (broadcast S1x128 0#32) (eOf tot)) (broadcast S1x128 127#32)) l
  have h2 : addi (subi (broadcast S1x128 0#32) (eOf tot)) (broadcast S1x128 127#32) (ix2 0 l) =
      IntOp.addi (IntOp.subi 0#32 (Cert.Quant.eS (tot (ix2 0 l)))) 127#32 := by
    rw [← e_eq]; rfl
  rw [h2] at h
  unfold Cert.Quant.facS
  rw [← h]
  unfold facOf
  rfl

theorem scale_eq (tot : FVec Ideal S1x128 .f32) (l : Fin 128) : scaleOf tot (ix2 0 l) = Cert.Quant.scaleS (tot (ix2 0 l)) := by
  unfold Cert.Quant.scaleS
  rw [← e_eq]
  exact pow_eq _ l

/-- A tile's query. -/
def qOf (t : ℕ) (ht : t < 8) (M : Mem Ideal) : QT Ideal := ((queryP (F := Ideal) (A := A) Pg.ops t ht).eff M).1

/-- Its query scales, with the factor of the scores. -/
def qsOf (cS : Ideal .f32) (Q : QT Ideal) : Fin 2 → FVec Ideal S1x128 .f32 :=
  ![mulf Q.r0 (broadcast S1x128 cS), mulf Q.r1 (broadcast S1x128 cS)]

/-- One query's scores, with none at the keys past its group. -/
def zRow (cS : Ideal .f32) (t : ℕ) (ht : t < 8) (M : Mem Ideal) (gi : Fin 2) (l : Fin 128) (j : Fin 1024) : EReal :=
  if j.val < 128 * t + 64 + 64 * gi.val then
    zAt M t ht (qOf (A := A) t ht M).qb (qsOf cS (qOf (A := A) t ht M)) gi j.val l else ⊥

theorem row_of (K : ℕ) (hK : K ≤ 1024) (Z : ℕ → EReal) (top tot : EReal) (v : Fin 1024 → EReal)
    (h1 : ∀ x, top ≤ x ↔ ∀ j, j < K → Z j ≤ x) (h2 : tot = ∑ j ∈ Finset.range K, Ideal.exp2 (Z j - top)) :
    (∑ j : Fin 1024, if j.val < K then v j * (Ideal.exp2 (Z j.val - top) * Cert.Quant.facS tot) else 0 : EReal) * Cert.Quant.scaleS tot =
      Cert.Quant.rowK (fun j => if j.val < K then Z j.val else ⊥) v := by
  have ht : Cert.Quant.topS (fun j : Fin 1024 => if j.val < K then Z j.val else (⊥ : EReal)) = top := by
    refine eq_of_forall_ge_iff fun x => ?_
    rw [Cert.Quant.topS_le, h1]
    constructor
    · intro a j hj
      have := a ⟨j, by omega⟩
      rwa [if_pos hj] at this
    · intro a j
      split_ifs with hj
      · exact a _ hj
      · exact bot_le
  have he : ∀ j : Fin 1024, Ideal.exp2 ((if j.val < K then Z j.val else (⊥ : EReal)) - top) = if j.val < K then Ideal.exp2 (Z j.val - top) else 0 := fun j => by
    split_ifs with hj
    · rfl
    · rw [EReal.bot_sub]
      rfl
  have hs : (∑ j : Fin 1024, (if j.val < K then Ideal.exp2 (Z j.val - top) else 0) : EReal) = tot := by
    rw [h2, Finset.sum_range]
    exact (sum_cut hK fun j => Ideal.exp2 (Z j.val - top)).symm
  unfold Cert.Quant.rowK
  rw [ht]
  simp only [he, hs]
  refine congrArg (· * _) (Finset.sum_congr (M := EReal) rfl fun j _ => ?_)
  split_ifs
  · rfl
  · rw [zero_mul, mul_zero]

theorem tile_ok (cS : Ideal .f32) (v : FVec Ideal S128x1024 .fp8e4m3) (vs : Fin 2 → FVec Ideal S64x128 .f32) (t : ℕ) (ht : t < 8) (M : Mem Ideal) :
    (∀ (b : Fin 2) (d : Fin 64) (gi : Fin 2) (x : Fin 64),
      ((tileP (F := Ideal) Pg.ops hA cS v (vs 0) (vs 1) t ht).eff M).2 .o (ix3 b d (⟨128 * t + (64 * gi.val + x.val), by omega⟩ : Fin 1024)) =
      (Cert.Quant.rowK (zRow (A := A) cS t ht M gi (⟨64 * b.val + x.val, by omega⟩ : Fin 128)) (fun j => v (ix2 (⟨64 * b.val + d.val, by omega⟩ : Fin 128) j)) *
        vs b (ix2 d (⟨64 * gi.val + x.val, by omega⟩ : Fin 128)) : EReal)) ∧
    ∀ (b : Fin 2) (d : Fin 64) (i : Fin 1024), (i.val < 128 * t ∨ 128 * t + 128 ≤ i.val) →
      ((tileP (F := Ideal) Pg.ops hA cS v (vs 0) (vs 1) t ht).eff M).2 .o (ix3 b d i) = M .o (ix3 b d i) := by
  have hq : ((queryP (F := Ideal) (A := A) Pg.ops t ht).eff M).2 = M := rfl
  unfold tileP
  simp only [Pg.eff_bind, hq]
  unfold zRow
  change (∀ (b : Fin 2) (d : Fin 64) (gi : Fin 2) (x : Fin 64), _ = (Cert.Quant.rowK (fun j => if j.val < 128 * t + 64 + 64 * gi.val then
    zAt M t ht (qOf (A := A) t ht M).qb (qsOf cS (qOf (A := A) t ht M)) gi j.val _ else ⊥) _ * _ : EReal)) ∧ _
  have s1 := score_ok (A := A) M t ht (qOf (A := A) t ht M) (qsOf cS (qOf (A := A) t ht M))
  have hQ : ((queryP (F := Ideal) (A := A) Pg.ops t ht).eff M).1 = qOf (A := A) t ht M := rfl
  rw [hQ]
  have hS : scoreP (F := Ideal) (A := A) Pg.ops t ht (qOf (A := A) t ht M) (mulf (qOf (A := A) t ht M).r0 (broadcast S1x128 cS))
      (mulf (qOf (A := A) t ht M).r1 (broadcast S1x128 cS)) = scoreP (F := Ideal) (A := A) Pg.ops t ht (qOf (A := A) t ht M)
      (qsOf cS (qOf (A := A) t ht M) 0) (qsOf cS (qOf (A := A) t ht M) 1) := rfl
  rw [hS]
  generalize zAt M t ht (qOf (A := A) t ht M).qb (qsOf cS (qOf (A := A) t ht M)) = Z at s1 ⊢
  generalize (scoreP (F := Ideal) (A := A) Pg.ops t ht (qOf (A := A) t ht M)
      (qsOf cS (qOf (A := A) t ht M) 0) (qsOf cS (qOf (A := A) t ht M) 1)).eff M = R at s1 ⊢
  obtain ⟨k1, s2, s3⟩ := s1
  rw [min_eq_right (by omega)] at s2
  obtain ⟨x1, x2, x3⟩ := exp_ok (A := A) t 0 ht (by norm_num) (topOf R.1.1) (Z 0) R.2 (fun j l hj => s2.1 j l (by omega))
  have x4 : ((expP (F := Ideal) (A := A) Pg.ops t 0 ht (by norm_num) (topOf R.1.1)).eff R.2).2 .o = R.2 .o := (keeps_exp (by decide) ..).of _
  generalize (expP (F := Ideal) (A := A) Pg.ops t 0 ht _ (topOf R.1.1)).eff R.2 = R1 at x1 x2 x3 x4 ⊢
  obtain ⟨y1, y2, y3⟩ := exp_ok (A := A) t 1 ht (by norm_num) (topOf R.1.2) (Z 1) R1.2
    (fun j l hj => (x1 1 (by decide) j l).trans (s3.1 j l (by omega)))
  have y4 : ((expP (F := Ideal) (A := A) Pg.ops t 1 ht (by norm_num) (topOf R.1.2)).eff R1.2).2 .o = R1.2 .o := (keeps_exp (by decide) ..).of _
  generalize (expP (F := Ideal) (A := A) Pg.ops t 1 ht _ (topOf R.1.2)).eff R1.2 = R2 at y1 y2 y3 y4 ⊢
  obtain ⟨f1, f2⟩ := finish_ok hA t ht v vs ![totalOf R1.1, totalOf R2.1]
    (fun gi j l => Ideal.exp2 (Z gi j l - topOf ((![R.1.1, R.1.2] : Fin 2 → _) gi) (ix2 0 l))) R2.2 (fun gi j l hj => by
      have hg : gi = 0 ∨ gi = 1 := by omega
      rcases hg with rfl | rfl
      · exact (y1 0 (by decide) j l).trans (x2 j l hj)
      · exact y2 j l hj)
  refine ⟨fun b d gi x => (f1 b d gi x).trans (congrArg (· * _) ?_), fun b d i hi => (f2 b d i hi).trans ?_⟩
  · rw [fac_eq, scale_eq]
    have hg : gi = 0 ∨ gi = 1 := by omega
    rcases hg with rfl | rfl
    · exact row_of (128 * t + 64 + 64 * 0) (by omega) (fun j => Z 0 j _) (topOf R.1.1 (ix2 0 _)) (totalOf R1.1 (ix2 0 _)) _
        (fun x => (top_le Z t 0 _ _ _ s2 _ x)) (x3 _)
    · exact row_of (128 * t + 64 + 64 * 1) (by omega) (fun j => Z 1 j _) (topOf R.1.2 (ix2 0 _)) (totalOf R2.1 (ix2 0 _)) _
        (fun x => (top_le Z t 1 _ _ _ s3 _ x)) (y3 _)
  · rw [y4, x4, k1 .o (by decide)]

end Cert.Body
-- ==== Proof.PenBody.lean ====
/-
  The first step's effect on the second result's buffer, and the later steps'.
-/
module

public import proofs.«01_k».proof.Proof.Pen

@[expose] public section

noncomputable section

namespace Cert.Body

open Idealize.ShloMosaic Idealize.ShloMosaic.TcCoe Idealize.SL.Sem
open Cert.KernelIdeal Cert.KernelIdeal.Facts Cert.KernelIdeal.Shapes1.Facts₀ Cert.KernelIdeal.K0.Facts₀

variable {sig : RefSig} [Cert.KernelIdeal.Facts]
variable {A : ∀ b : Bf, Memref sig .tc .vmem (shp b) (ety b)} (hA : ∀ b, (A b).IsWhole)

/-- The tiles' groups add up in the running totals. -/
theorem tiles_c (cL : Ideal .f32) (M M1 : Mem Ideal) (hk : KtOk M 1024) (hs : KsOk M 1024) (k1 : ∀ b : Bf, b ≠ .c → M1 b = M b)
    (z : ∀ (j : Fin 1024) (l : Fin 128), M1 .c (ix2 j l) = (0 : EReal)) (j : Fin 1024) (l : Fin 128) :
    ((iterAll 8 (fun t ht _ => penTile (F := Ideal) (A := A) Pg.ops cL uVal t ht) ⟨⟩).eff M1).2 .c (ix2 j l) =
      ∑ g ∈ Finset.range 16, grpSum M ⟨l.val / 64, by omega⟩ j g := by
  refine (iterAll_eff (A := A) 8 (fun t ht _ => penTile (F := Ideal) Pg.ops cL uVal t ht) ⟨⟩
    (fun n _ M' => (∀ b : Bf, b ≠ .c → b ≠ .f → M' b = M b) ∧
      M' .c (ix2 j l) = ∑ g ∈ Finset.range (2 * n), grpSum M ⟨l.val / 64, by omega⟩ j g) M1
    ⟨fun b hb _ => k1 b hb, z j l⟩ ?_).2
  intro t ht _ M' hM
  refine ⟨fun b hb hf => ((keeps_penTile hb hf ..).of M').trans (hM.1 b hb hf), ?_⟩
  have kt : M' .kt = M .kt := hM.1 _ (by decide) (by decide)
  have ksb : M' .ksb = M .ksb := hM.1 _ (by decide) (by decide)
  have eq : M' .q = M .q := hM.1 _ (by decide) (by decide)
  have ek : M' .k = M .k := hM.1 _ (by decide) (by decide)
  have eqs : M' .qs = M .qs := hM.1 _ (by decide) (by decide)
  have eks : M' .ks = M .ks := hM.1 _ (by decide) (by decide)
  rw [penTile_c cL t ht M' (fun j l hj => by rw [kt, ek]; exact hk j l hj) (fun j l hj => by rw [ksb, eks]; exact hs j l hj), hM.2]
  have e : ∀ g, grpSum M' ⟨l.val / 64, by omega⟩ j g = grpSum M ⟨l.val / 64, by omega⟩ j g := fun g => by
    unfold grpSum
    split
    · exact Finset.sum_congr rfl fun x _ => score_congr eq ek eqs eks _ _ _
    · rfl
  rw [e, e, show 2 * (t + 1) = 2 * t + 1 + 1 by omega, Finset.sum_range_succ, Finset.sum_range_succ]

/-- The totals stored. -/
theorem sels (M : Mem Ideal) (b : Fin 2) (j : Fin 1024) :
    ((iterAll 8 (fun c hc _ => selP (F := Ideal) (A := A) Pg.ops c hc) ⟨⟩).eff M).2 .sel (ix2 b j) =
      M .c (ix2 j (⟨64 * b.val, by omega⟩ : Fin 128)) := by
  have h := iterAll_eff (A := A) 8 (fun c hc _ => selP (F := Ideal) Pg.ops c hc) ⟨⟩
    (fun n _ M' => M' .c = M .c ∧ SelOk M' (128 * n)) M ⟨rfl, fun b j hj => absurd hj (by omega)⟩
    (fun c hc _ M' hM => ⟨((keeps_sel (by decide) c hc).of M').trans hM.1, sel_step c hc M' hM.2⟩)
  rw [h.2 b j (by omega), h.1]

/-- The running totals cleared. -/
def cleared (M : Mem Ideal) : Mem Ideal := put .c ![0, 0] S1024x128.size (inb2 le_rfl le_rfl)
    (shapeCast S1024x128 (broadcast S1024x128 (cf 0x00000000#32 : Ideal .f32)) shapeCasts_S1024x128_S1024x128) M

theorem cleared_c (M : Mem Ideal) (j : Fin 1024) (l : Fin 128) : cleared M .c (ix2 j l) = (0 : EReal) := by
  refine (put_in (b := .c) _ M (ix2 j l) (ix2 j l) ?_).trans ?_
  · exact fun a => match a with | 0 => (Nat.zero_add _).symm | 1 => (Nat.zero_add _).symm
  · pointwise

theorem eff_clear (p q : Pg Ideal A PUnit.{1}) (M : Mem Ideal) :
    ((do
      let _ ← rd (Pg.ops (A := A)) .c ![0, 0] S1024x128.size (inb2 le_rfl le_rfl) h_S1024x128
      wr (Pg.ops (A := A)) .c ![0, 0] S1024x128.size (inb2 le_rfl le_rfl) h_S1024x128 rfl
        (shapeCast S1024x128 (broadcast S1024x128 (cf 0x00000000#32 : Ideal .f32)) shapeCasts_S1024x128_S1024x128)
      p
      q : Pg Ideal A PUnit.{1}).eff M).2 = (q.eff (p.eff (cleared M)).2).2 := by
  rw [Pg.eff_bind, Pg.eff_bind, Pg.eff_bind]
  rfl

theorem penalty_sel (cL : Ideal .f32) (M : Mem Ideal) (hk : KtOk M 1024) (hs : KsOk M 1024) (b : Fin 2) (j : Fin 1024) :
    ((penaltyP (F := Ideal) (A := A) Pg.ops cL).eff M).2 .sel (ix2 b j) = ∑ i : Fin 1024, scAt M b i j := by
  refine (congrFun (congrFun (eff_clear _ _ M) Bf.sel) (ix2 b j)).trans ?_
  rw [sels, tiles_c cL M (cleared M) hk hs (fun b hb => put_ne _ _ hb) (cleared_c M), sum_groups]
  exact Finset.sum_congr rfl fun i _ => congrArg (fun b => scAt M b i j) (Fin.ext (by show 64 * b.val / 64 = b.val; omega))

/-! ## The whole body -/

theorem keeps_penalty {b : Bf} (h1 : b ≠ .c) (h2 : b ≠ .f) (h3 : b ≠ .sel) (cL : Ideal .f32) :
    Keeps b (penaltyP (F := Ideal) (A := A) Pg.ops cL) :=
  .bind (.rd ..) fun _ => .bind (.wr _ _ _ _ _ _ _ h1) fun _ => .bind (.iterAll _ _ _ fun _ _ _ => keeps_penTile h1 h2 ..) fun _ =>
    .iterAll _ _ _ fun _ _ _ => keeps_sel h3 ..

/-- At a later point the second result's buffer is kept. -/
theorem body_later (cL cS : Ideal .f32) (i : grid0.Coords) (hi : isFirst i ≠ 1#1) (M : Mem Ideal) :
    ((bodyP (F := Ideal) Pg.ops hA cL cS i).eff M).2 .sel = M .sel := by
  have hc : ∀ a : Pg Ideal A PUnit.{1}, Keeps Bf.sel ((Pg.ops (A := A)).cond (isFirst i) a) := fun a => ⟨fun M => by
    rw [eff_cond, if_neg hi]⟩
  have : Keeps Bf.sel (bodyP (F := Ideal) Pg.ops hA cL cS i) :=
    .bind (hc _) fun _ => .bind (.iterAll _ _ _ fun _ _ _ => keeps_kt hA (by decide) ..) fun _ =>
      .bind (.iterAll _ _ _ fun _ _ _ => keeps_ksb (by decide) ..) fun _ => .bind (hc _) fun _ =>
      .bind (.rd ..) fun _ => .bind (.rd ..) fun _ => .bind (.rd ..) fun _ => .bind (.rd ..) fun _ =>
      .iterAll _ _ _ fun _ _ _ => keeps_tile hA (by decide) (by decide) (by decide) ..
  exact this.of M

/-- The body after its penalty. -/
def restP (cS : Ideal .f32) : Pg Ideal A PUnit.{1} := do
  let a ← rd Pg.ops .v ![0, 0, 0, 0] S1x1x64x1024.size (inb4 (by norm_num) le_rfl le_rfl le_rfl) h_S1x1x64x1024
  let b ← rd Pg.ops .v ![1, 0, 0, 0] S1x1x64x1024.size (inb4 (by norm_num) le_rfl le_rfl le_rfl) h_S1x1x64x1024
  let s0 ← rd Pg.ops .vs ![0, 0, 0] S1x1x64.size (inb3 (by norm_num) (by norm_num) le_rfl) h_S1x1x64
  let s1 ← rd Pg.ops .vs ![0, 1, 0] S1x1x64.size (inb3 (by norm_num) (by norm_num) le_rfl) h_S1x1x64
  iterAll 8 (fun t ht _ => tileP Pg.ops hA cS (vVal a b) (vsVal s0) (vsVal s1) t ht) ⟨⟩

theorem keeps_rest {b : Bf} (h1 : b ≠ .ex) (h2 : b ≠ .p) (h3 : b ≠ .o) (cS : Ideal .f32) : Keeps b (restP hA cS) :=
  .bind (.rd ..) fun _ => .bind (.rd ..) fun _ => .bind (.rd ..) fun _ => .bind (.rd ..) fun _ =>
    .iterAll _ _ _ fun _ _ _ => keeps_tile hA h1 h2 h3 ..

theorem eff_five (a b c d r : Pg Ideal A PUnit.{1}) (M : Mem Ideal) :
    ((do a; b; c; d; r : Pg Ideal A PUnit.{1}).eff M).2 = (r.eff (d.eff (c.eff (b.eff (a.eff M).2).2).2).2).2 := by
  rw [Pg.eff_bind, Pg.eff_bind, Pg.eff_bind, Pg.eff_bind]

theorem eff_body (cL cS : Ideal .f32) (i : grid0.Coords) (M : Mem Ideal) :
    ((bodyP (F := Ideal) Pg.ops hA cL cS i).eff M).2 = ((restP hA cS).eff
      (((Pg.ops (A := A)).cond (isFirst i) (penaltyP Pg.ops cL)).eff
        ((iterAll 8 (fun c hc _ => ksbP (F := Ideal) (A := A) Pg.ops c hc) ⟨⟩).eff
          ((iterAll 4 (fun c hc _ => ktP (F := Ideal) Pg.ops hA c hc) ⟨⟩).eff
            (((Pg.ops (A := A)).cond (isFirst i) (eyeP Pg.ops hA)).eff M).2).2).2).2).2 :=
  eff_five _ _ _ _ (restP hA cS) M

/-- The keys of head 0 in the scratch. -/
theorem kts (M : Mem Ideal) (he : EyeOk M) :
    (∀ b : Bf, b ≠ .kt → ((iterAll 4 (fun c hc _ => ktP (F := Ideal) Pg.ops hA c hc) ⟨⟩).eff M).2 b = M b) ∧
      KtOk ((iterAll 4 (fun c hc _ => ktP (F := Ideal) Pg.ops hA c hc) ⟨⟩).eff M).2 1024 := by
  have h := iterAll_eff (A := A) 4 (fun c hc _ => ktP (F := Ideal) Pg.ops hA c hc) ⟨⟩
    (fun n _ M' => ((∀ b : Bf, b ≠ .kt → M' b = M b) ∧ EyeOk M') ∧ KtOk M' (256 * n)) M
    ⟨⟨fun _ _ => rfl, he⟩, fun j l hj => absurd hj (by omega)⟩
    (fun c hc _ M' hM => ⟨⟨fun b hb => ((keeps_kt hA hb c hc).of M').trans (hM.1.1 b hb), by
      unfold EyeOk; rw [(keeps_kt hA (by decide) c hc).of M']; exact hM.1.2⟩, kt_step hA c hc M' hM.1.2 hM.2⟩)
  exact ⟨h.1.1, h.2⟩

/-- Their scales. -/
theorem ksbs (M : Mem Ideal) :
    (∀ b : Bf, b ≠ .ksb → ((iterAll 8 (fun c hc _ => ksbP (F := Ideal) (A := A) Pg.ops c hc) ⟨⟩).eff M).2 b = M b) ∧
      KsOk ((iterAll 8 (fun c hc _ => ksbP (F := Ideal) (A := A) Pg.ops c hc) ⟨⟩).eff M).2 1024 :=
  iterAll_eff (A := A) 8 (fun c hc _ => ksbP (F := Ideal) Pg.ops c hc) ⟨⟩
    (fun n _ M' => (∀ b : Bf, b ≠ .ksb → M' b = M b) ∧ KsOk M' (128 * n)) M
    ⟨fun _ _ => rfl, fun j l hj => absurd hj (by omega)⟩
    (fun c hc _ M' hM => ⟨fun b hb => ((keeps_ksb hb c hc).of M').trans (hM.1 b hb), ks_step c hc M' hM.2⟩)

/-- At the first point it takes every key's total. -/
theorem body_first (cL cS : Ideal .f32) (i : grid0.Coords) (hi : isFirst i = 1#1) (M : Mem Ideal) (b : Fin 2) (j : Fin 1024) :
    ((bodyP (F := Ideal) Pg.ops hA cL cS i).eff M).2 .sel (ix2 b j) = ∑ i : Fin 1024, scAt M b i j := by
  rw [eff_body, (keeps_rest hA (by decide) (by decide) (by decide) cS).of, eff_cond, if_pos hi, eff_cond, if_pos hi]
  have k1 : ∀ b : Bf, b ≠ .eye → ((eyeP (F := Ideal) Pg.ops hA).eff M).2 b = M b := fun b hb => (keeps_eye hA hb).of M
  have e1 := eye_ok hA M
  generalize ((eyeP (F := Ideal) Pg.ops hA).eff M).2 = M1 at k1 e1 ⊢
  obtain ⟨k2, h2⟩ := kts hA M1 e1
  generalize ((iterAll 4 (fun c hc _ => ktP (F := Ideal) (A := A) Pg.ops hA c hc) ⟨⟩).eff M1).2 = M2 at k2 h2 ⊢
  obtain ⟨k3, h3⟩ := ksbs (A := A) M2
  generalize ((iterAll 8 (fun c hc _ => ksbP (F := Ideal) (A := A) Pg.ops c hc) ⟨⟩).eff M2).2 = M3 at k3 h3 ⊢
  have k : ∀ b : Bf, b ≠ .eye → b ≠ .kt → b ≠ .ksb → M3 b = M b := fun b h h' h'' => (k3 b h'').trans ((k2 b h').trans (k1 b h))
  refine (penalty_sel cL M3 (fun j l hj => ?_) h3 b j).trans ?_
  · rw [k3 _ (by decide), k3 .k (by decide)]; exact h2 j l hj
  · exact Finset.sum_congr rfl fun i _ => score_congr (k _ (by decide) (by decide) (by decide)) (k _ (by decide) (by decide) (by decide))
      (k _ (by decide) (by decide) (by decide)) (k _ (by decide) (by decide) (by decide)) _ _ _

end Cert.Body
-- ==== Proof.Whole.lean ====
/-
  The whole body over exact arithmetic: what the first result's block takes at a step, from the inputs' blocks and head 0's penalty.
-/
module

public import proofs.«01_k».proof.Proof.Tile2
public import proofs.«01_k».proof.Proof.PenBody

@[expose] public section

noncomputable section

namespace Cert.Body

open Idealize.ShloMosaic Idealize.ShloMosaic.TcCoe Idealize.SL.Sem Idealize.ShloMosaic.WordCmp
open Cert.KernelIdeal Cert.KernelIdeal.Facts Cert.KernelIdeal.Shapes1.Facts₀ Cert.KernelIdeal.K0.Facts₀

variable {sig : RefSig} [Cert.KernelIdeal.Facts]
variable {A : ∀ b : Bf, Memref sig .tc .vmem (shp b) (ety b)} (hA : ∀ b, (A b).IsWhole)

/-- Key `j`'s score for query `i`, less its penalty. -/
def zS (cS : Ideal .f32) (M : Mem Ideal) (G : Fin 2 → Fin 1024 → Fin 1024 → EReal) (b : Fin 2) (i j : Fin 1024) : EReal :=
  dotAt M b i j * (M .qs (ix3 0 b i) * cS) * M .ks (ix3 0 b j) - G b i j

theorem zS_congr (cS : Ideal .f32) {M M' : Mem Ideal} (G) (h1 : M' .q = M .q) (h2 : M' .k = M .k) (h3 : M' .qs = M .qs) (h4 : M' .ks = M .ks)
    (b : Fin 2) (i j : Fin 1024) : zS cS M' G b i j = zS cS M G b i j := by
  unfold zS dotAt; rw [h1, h2, h3, h4]

/-- A query's product with a key, once the tile's queries are those of the buffer. -/
theorem dot_term (M : Mem Ideal) (hk : KtOk M 1024) (t h : ℕ) (ht : t < 8) (hh : h < 2) (qb : FVec Ideal S128x256 .fp8e4m3)
    (hqg : ∀ r l : Fin 128, qb (ix2 r (⟨128 * h + l.val, by omega⟩ : Fin 256)) = qAt h hh
      (blk .q ![0, 0, 0, 128 * t] S1x1x64x128.size (inb4 (by norm_num) (by norm_num) (by norm_num) (by omega)) M)
      (blk .q ![1, 0, 0, 128 * t] S1x1x64x128.size (inb4 (by norm_num) (by norm_num) (by norm_num) (by omega)) M) r l)
    (j : Fin 1024) (l : Fin 128) :
    (∑ r : Fin 128, M .kt (ix2 j r) * qb (ix2 r (⟨128 * h + l.val, by omega⟩ : Fin 256)) : EReal) =
      dotAt M ⟨l.val / 64, by omega⟩ ⟨128 * t + (64 * h + l.val % 64), by omega⟩ j := by
  have hq : ∀ d : Fin 64, (if l.val < 64 then
      blk .q ![0, 0, 0, 128 * t] S1x1x64x128.size (inb4 (by norm_num) (by norm_num) (by norm_num) (by omega)) M
      else blk .q ![1, 0, 0, 128 * t] S1x1x64x128.size (inb4 (by norm_num) (by norm_num) (by norm_num) (by omega)) M)
      (ix4 0 0 d (⟨64 * h + l.val % 64, by omega⟩ : Fin 128)) =
      M .q (ix4 (⟨l.val / 64, by omega⟩ : Fin 2) 0 d (⟨128 * t + (64 * h + l.val % 64), by omega⟩ : Fin 1024)) := fun d => by
    split_ifs with hl
    · exact blk_apply (b := .q) _ _ (fun a => match a with
        | 0 => by show l.val / 64 = 0 + 0; omega | 1 => rfl | 2 => (Nat.zero_add _).symm | 3 => rfl)
    · exact blk_apply (b := .q) _ _ (fun a => match a with
        | 0 => by show l.val / 64 = 1 + 0; omega | 1 => rfl | 2 => (Nat.zero_add _).symm | 3 => rfl)
  unfold dotAt
  rw [sum_half _ (l.val / 64) (by omega) (fun r hr => by
    rw [hqg]; unfold qAt; rw [if_neg hr, mul_zero])]
  refine Finset.sum_congr rfl fun d _ => congrArg₂ (· * ·) ?_ ?_
  · rw [hk j _ j.isLt]
    exact congrArg₂ (fun b z => M .k (ix4 b 0 z j)) (Fin.ext (by show (64 * (l.val / 64) + d.val) / 64 = l.val / 64; omega))
      (Fin.ext (by show (64 * (l.val / 64) + d.val) % 64 = d.val; omega))
  · rw [hqg]; unfold qAt
    rw [if_pos (by show (64 * (l.val / 64) + d.val) / 64 = l.val / 64; omega), ← hq d]
    exact congrArg _ (congrArg (fun z => ix4 0 0 z _) (Fin.ext (by show (64 * (l.val / 64) + d.val) % 64 = d.val; omega)))

theorem half_apply (qb : FVec Ideal S128x256 .fp8e4m3) (r l : Fin 128) :
    qb (ix2 r (⟨128 * 0 + l.val, by omega⟩ : Fin 256)) = extractStridedSlice S128x128 ![0, 0] qb slices_S128x256_o0_0_S128x128 (ix2 r l) ∧
    qb (ix2 r (⟨128 * 1 + l.val, by omega⟩ : Fin 256)) = extractStridedSlice S128x128 ![0, 128] qb slices_S128x256_o0_128_S128x128 (ix2 r l) :=
  ⟨congrArg qb (funext fun a => Fin.ext (match a with | 0 => (Nat.zero_add _).symm | 1 => rfl)),
    congrArg qb (funext fun a => Fin.ext (match a with | 0 => (Nat.zero_add _).symm | 1 => rfl))⟩

theorem qs_blk (M : Mem Ideal) (t h : ℕ) (ht : t < 8) (hh : h < 2) (l : Fin 128) (y : Fin 128) (hy : y.val = 64 * h + l.val % 64) :
    (if l.val < 64 then blk .qs ![0, 0, 128 * t] S1x1x128.size (inb3 (by norm_num) (by norm_num) (by omega)) M
      else blk .qs ![0, 1, 128 * t] S1x1x128.size (inb3 (by norm_num) (by norm_num) (by omega)) M) (ix3 0 0 y) =
      M .qs (ix3 0 (⟨l.val / 64, by omega⟩ : Fin 2) (⟨128 * t + (64 * h + l.val % 64), by omega⟩ : Fin 1024)) := by
  split_ifs with hl
  · exact blk_apply (b := .qs) _ _ (fun a => match a with
      | 0 => rfl | 1 => by show l.val / 64 = 0 + 0; omega
      | 2 => by show 128 * t + (64 * h + l.val % 64) = 128 * t + y.val; omega)
  · exact blk_apply (b := .qs) _ _ (fun a => match a with
      | 0 => rfl | 1 => by show l.val / 64 = 1 + 0; omega
      | 2 => by show 128 * t + (64 * h + l.val % 64) = 128 * t + y.val; omega)

theorem q_term (t : ℕ) (ht : t < 8) (M : Mem Ideal) (hk : KtOk M 1024) (gi : Fin 2) (j : Fin 1024) (l : Fin 128) :
    (∑ r : Fin 128, M .kt (ix2 j r) * (qOf (A := A) t ht M).qb (ix2 r (⟨128 * gi.val + l.val, by omega⟩ : Fin 256)) : EReal) =
      dotAt M ⟨l.val / 64, by omega⟩ ⟨128 * t + (64 * gi.val + l.val % 64), by omega⟩ j := by
  have hg : gi = 0 ∨ gi = 1 := by omega
  unfold qOf
  rw [eff_query]
  rcases hg with rfl | rfl
  · exact dot_term M hk t 0 ht (by decide) _ (fun r l => (half_apply _ r l).1.trans (qbVal_apply0 _ _ r l)) j l
  · exact dot_term M hk t 1 ht (by decide) _ (fun r l => (half_apply _ r l).2.trans (qbVal_apply1 _ _ r l)) j l

theorem qs_term (cS : Ideal .f32) (t : ℕ) (ht : t < 8) (M : Mem Ideal) (gi : Fin 2) (l : Fin 128) :
    qsOf cS (qOf (A := A) t ht M) gi (ix2 0 l) =
      (M .qs (ix3 0 (⟨l.val / 64, by omega⟩ : Fin 2) (⟨128 * t + (64 * gi.val + l.val % 64), by omega⟩ : Fin 1024)) * cS : EReal) := by
  have hg : gi = 0 ∨ gi = 1 := by omega
  unfold qOf
  rw [eff_query]
  rcases hg with rfl | rfl
  · exact congrArg (· * cS) ((row0_apply _ _ l).trans (qs_blk M t 0 ht (by decide) l _ (by show l.val % 64 = 64 * 0 + l.val % 64; omega)))
  · exact congrArg (· * cS) ((row1_apply _ _ l).trans (qs_blk M t 1 ht (by decide) l _ (by show 64 + l.val % 64 = 64 * 1 + l.val % 64; omega)))

theorem zRow_eq (cS : Ideal .f32) (t : ℕ) (ht : t < 8) (M : Mem Ideal) (G : Fin 2 → Fin 1024 → Fin 1024 → EReal) (hk : KtOk M 1024) (hs : KsOk M 1024)
    (hf : FOk G M 16) (hG : ∀ b i j, i < j → G b i j = ⊤) (gi : Fin 2) (l : Fin 128) (j : Fin 1024) :
    zRow (A := A) cS t ht M gi l j = zS cS M G ⟨l.val / 64, by omega⟩ ⟨128 * t + (64 * gi.val + l.val % 64), by omega⟩ j := by
  unfold zRow zS
  split_ifs with hj
  · unfold zAt
    rw [dif_pos j.isLt, q_term t ht M hk, qs_term, hs j l j.isLt, hf _ j l (by show 2 * t + gi.val < 16; omega) (by show j.val < 64 * (2 * t + gi.val + 1); omega)]
    refine congrArg _ (congrArg (fun i => G _ i j) (Fin.ext ?_))
    show 64 * (2 * t + gi.val) + l.val % 64 = 128 * t + (64 * gi.val + l.val % 64)
    omega
  · rw [hG _ _ _ (by show 128 * t + (64 * gi.val + l.val % 64) < j.val; omega), EReal.sub_top]

/-! ## All tiles -/

theorem vVal_apply (x y : Vec Ideal S1x1x64x1024 .fp8e4m3) (b : Fin 2) (d : Fin 64) (j : Fin 1024) :
    vVal x y (ix2 (⟨64 * b.val + d.val, by omega⟩ : Fin 128) j) = (if b = 0 then x else y) (ix4 0 0 d j) := by
  pointwise [vVal]
  have hb : b.val = 0 ∨ b.val = 1 := by omega
  rcases hb with h | h
  · rw [dif_pos (by omega), if_pos (Fin.ext h)]
    exact congrArg (fun z => x (ix4 0 0 z j)) (Fin.ext (by show 64 * b.val + d.val = d.val; omega))
  · rw [dif_neg (by omega)]
    refine (congrArg (fun z => y (ix4 0 0 z j)) (Fin.ext (by show 64 * b.val + d.val - 64 = d.val; omega) : (⟨64 * b.val + d.val - 64, by omega⟩ : Fin 64) = d)).trans ?_
    exact (congrFun (if_neg (fun e : b = 0 => absurd h (by rw [e]; decide))) _).symm

theorem vsVal_apply (x : Vec Ideal S1x1x64 .f32) (d : Fin 64) (l : Fin 128) : vsVal x (ix2 d l) = x (ix3 0 0 d) := by
  pointwise [vsVal]

/-- What the first result's block takes. -/
def oS (cS : Ideal .f32) (M : Mem Ideal) (G : Fin 2 → Fin 1024 → Fin 1024 → EReal) (b : Fin 2) (d : Fin 64) (i : Fin 1024) : EReal :=
  Cert.Quant.rowK (fun j => zS cS M G b i j) (fun j => M .v (ix4 b 0 d j)) * M .vs (ix3 0 b d)

theorem oS_congr (cS : Ideal .f32) {M M' : Mem Ideal} (G) (h1 : M' .q = M .q) (h2 : M' .k = M .k) (h3 : M' .qs = M .qs) (h4 : M' .ks = M .ks)
    (h5 : M' .v = M .v) (h6 : M' .vs = M .vs) (b : Fin 2) (d : Fin 64) (i : Fin 1024) : oS cS M' G b d i = oS cS M G b d i := by
  unfold oS; simp only [zS_congr cS G h1 h2 h3 h4]; rw [h5, h6]

theorem tiles_ok (cS : Ideal .f32) (v : FVec Ideal S128x1024 .fp8e4m3) (vs : Fin 2 → FVec Ideal S64x128 .f32) (M : Mem Ideal)
    (G : Fin 2 → Fin 1024 → Fin 1024 → EReal) (hk : KtOk M 1024) (hs : KsOk M 1024)
    (hf : FOk G M 16) (hG : ∀ b i j, i < j → G b i j = ⊤)
    (hv : ∀ (b : Fin 2) (d : Fin 64) (j : Fin 1024), v (ix2 (⟨64 * b.val + d.val, by omega⟩ : Fin 128) j) = M .v (ix4 b 0 d j))
    (hvs : ∀ (b : Fin 2) (d : Fin 64) (l : Fin 128), vs b (ix2 d l) = M .vs (ix3 0 b d)) (b : Fin 2) (d : Fin 64) (i : Fin 1024) :
    ((iterAll 8 (fun t ht _ => tileP (F := Ideal) Pg.ops hA cS v (vs 0) (vs 1) t ht) ⟨⟩).eff M).2 .o (ix3 b d i) = oS cS M G b d i := by
  have h := iterAll_eff (A := A) 8 (fun t ht _ => tileP (F := Ideal) Pg.ops hA cS v (vs 0) (vs 1) t ht) ⟨⟩
    (fun n _ M' => (∀ b : Bf, b ≠ .ex → b ≠ .p → b ≠ .o → M' b = M b) ∧
      ∀ (b : Fin 2) (d : Fin 64) (i : Fin 1024), i.val < 128 * n → M' .o (ix3 b d i) = oS cS M G b d i) M
    ⟨fun _ _ _ _ => rfl, fun _ _ i hi => absurd hi (by omega)⟩ ?_
  · exact h.2 b d i (by omega)
  intro t ht _ M' hM
  obtain ⟨h1, h2⟩ := hM
  refine ⟨fun b hb hb' hb'' => ((keeps_tile hA hb hb' hb'' ..).of M').trans (h1 b hb hb' hb''), fun b d i hi => ?_⟩
  obtain ⟨t1, t2⟩ := tile_ok hA cS v vs t ht M'
  by_cases hlt : i.val < 128 * t
  · exact (t2 b d i (Or.inl hlt)).trans (h2 b d i hlt)
  have ei : i = (⟨128 * t + (64 * ((i.val - 128 * t) / 64) + (i.val - 128 * t) % 64), by omega⟩ : Fin 1024) := Fin.ext (by dsimp only; omega)
  have e := t1 b d ⟨(i.val - 128 * t) / 64, by omega⟩ ⟨(i.val - 128 * t) % 64, by omega⟩
  have kt : M' .kt = M .kt := h1 _ (by decide) (by decide) (by decide)
  have ksb : M' .ksb = M .ksb := h1 _ (by decide) (by decide) (by decide)
  have ef : M' .f = M .f := h1 _ (by decide) (by decide) (by decide)
  have eq : M' .q = M .q := h1 _ (by decide) (by decide) (by decide)
  have ek : M' .k = M .k := h1 _ (by decide) (by decide) (by decide)
  have eqs : M' .qs = M .qs := h1 _ (by decide) (by decide) (by decide)
  have eks : M' .ks = M .ks := h1 _ (by decide) (by decide) (by decide)
  rw [ei]
  refine e.trans ?_
  unfold oS
  rw [hvs]
  refine congrArg (· * _) (congrArg₂ Cert.Quant.rowK (funext fun j => ?_) (funext fun j => hv b d j))
  refine (zRow_eq (A := A) cS t ht M' G (fun j l hj => by rw [kt, ek]; exact hk j l hj) (fun j l hj => by rw [ksb, eks]; exact hs j l hj)
    (fun g j l h h' => by rw [ef]; exact hf g j l h h') hG _ _ j).trans ?_
  rw [zS_congr cS G eq ek eqs eks]
  refine congrArg₂ (fun b i => zS cS M G b i j) (Fin.ext ?_) (Fin.ext ?_)
  · show (64 * b.val + (i.val - 128 * t) % 64) / 64 = b.val; omega
  · show 128 * t + (64 * ((i.val - 128 * t) / 64) + (64 * b.val + (i.val - 128 * t) % 64) % 64) = 128 * t + (64 * ((i.val - 128 * t) / 64) + (i.val - 128 * t) % 64)
    omega

theorem rest_v (M : Mem Ideal) (b : Fin 2) (d : Fin 64) (j : Fin 1024) :
    vVal (blk .v ![0, 0, 0, 0] S1x1x64x1024.size (inb4 (by norm_num) le_rfl le_rfl le_rfl) M)
      (blk .v ![1, 0, 0, 0] S1x1x64x1024.size (inb4 (by norm_num) le_rfl le_rfl le_rfl) M)
      (ix2 (⟨64 * b.val + d.val, by omega⟩ : Fin 128) j) = M .v (ix4 b 0 d j) := by
  rw [vVal_apply]
  split_ifs with hb
  · exact blk_apply (b := .v) _ _ (fun a => match a with
      | 0 => by show b.val = 0 + 0; rw [hb]; rfl
      | 1 => rfl | 2 => (Nat.zero_add _).symm | 3 => (Nat.zero_add _).symm)
  · have hb' : b.val = 1 := by
      have : b.val ≠ 0 := fun h => hb (Fin.ext h)
      omega
    exact blk_apply (b := .v) _ _ (fun a => match a with
      | 0 => by show b.val = 1 + 0; omega
      | 1 => rfl | 2 => (Nat.zero_add _).symm | 3 => (Nat.zero_add _).symm)

theorem rest_vs (M : Mem Ideal) (d : Fin 64) (l : Fin 128) :
    vsVal (blk .vs ![0, 0, 0] S1x1x64.size (inb3 (by norm_num) (by norm_num) le_rfl) M) (ix2 d l) = M .vs (ix3 0 0 d) ∧
    vsVal (blk .vs ![0, 1, 0] S1x1x64.size (inb3 (by norm_num) (by norm_num) le_rfl) M) (ix2 d l) = M .vs (ix3 0 1 d) :=
  ⟨(vsVal_apply _ d l).trans (blk_apply (b := .vs) _ _ (fun a => match a with
        | 0 => rfl | 1 => rfl | 2 => (Nat.zero_add _).symm)),
    (vsVal_apply _ d l).trans (blk_apply (b := .vs) _ _ (fun a => match a with
        | 0 => rfl | 1 => rfl | 2 => (Nat.zero_add _).symm))⟩

theorem tiles_two (cS : Ideal .f32) (v : FVec Ideal S128x1024 .fp8e4m3) (s0 s1 : FVec Ideal S64x128 .f32) (M : Mem Ideal)
    (G : Fin 2 → Fin 1024 → Fin 1024 → EReal) (hk : KtOk M 1024) (hs : KsOk M 1024) (hf : FOk G M 16) (hG : ∀ b i j, i < j → G b i j = ⊤)
    (hv : ∀ (b : Fin 2) (d : Fin 64) (j : Fin 1024), v (ix2 (⟨64 * b.val + d.val, by omega⟩ : Fin 128) j) = M .v (ix4 b 0 d j))
    (h0 : ∀ (d : Fin 64) (l : Fin 128), s0 (ix2 d l) = M .vs (ix3 0 0 d)) (h1 : ∀ (d : Fin 64) (l : Fin 128), s1 (ix2 d l) = M .vs (ix3 0 1 d))
    (b : Fin 2) (d : Fin 64) (i : Fin 1024) :
    ((iterAll 8 (fun t ht _ => tileP (F := Ideal) Pg.ops hA cS v s0 s1 t ht) ⟨⟩).eff M).2 .o (ix3 b d i) = oS cS M G b d i := by
  obtain ⟨vs, e0, e1⟩ : ∃ vs : Fin 2 → FVec Ideal S64x128 .f32, vs 0 = s0 ∧ vs 1 = s1 := ⟨![s0, s1], rfl, rfl⟩
  subst e0 e1
  exact tiles_ok hA cS v vs M G hk hs hf hG hv (fun b d l => match b with
    | 0 => h0 d l
    | 1 => h1 d l) b d i

theorem eff_reads {α β γ δ : Type} (p1 : Pg Ideal A α) (p2 : Pg Ideal A β) (p3 : Pg Ideal A γ) (p4 : Pg Ideal A δ)
    (g : α → β → γ → δ → Pg Ideal A PUnit.{1}) (M : Mem Ideal) {x1 : α} {x2 : β} {x3 : γ} {x4 : δ} (h1 : p1.eff M = (x1, M))
    (h2 : p2.eff M = (x2, M)) (h3 : p3.eff M = (x3, M)) (h4 : p4.eff M = (x4, M)) :
    (do let a ← p1; let b ← p2; let c ← p3; let d ← p4; g a b c d : Pg Ideal A PUnit.{1}).eff M = (g x1 x2 x3 x4).eff M := by
  rw [Pg.eff_bind, h1, Pg.eff_bind, h2, Pg.eff_bind, h3, Pg.eff_bind, h4]

theorem rest_eff (cS : Ideal .f32) (M : Mem Ideal) : (restP hA cS).eff M =
    (iterAll 8 (fun t ht _ => tileP (F := Ideal) Pg.ops hA cS
      (vVal (blk .v ![0, 0, 0, 0] S1x1x64x1024.size (inb4 (by norm_num) le_rfl le_rfl le_rfl) M)
        (blk .v ![1, 0, 0, 0] S1x1x64x1024.size (inb4 (by norm_num) le_rfl le_rfl le_rfl) M))
      (vsVal (blk .vs ![0, 0, 0] S1x1x64.size (inb3 (by norm_num) (by norm_num) le_rfl) M))
      (vsVal (blk .vs ![0, 1, 0] S1x1x64.size (inb3 (by norm_num) (by norm_num) le_rfl) M)) t ht) ⟨⟩).eff M :=
  eff_reads _ _ _ _ (fun a b s0 s1 => iterAll 8 (fun t ht _ => tileP (F := Ideal) Pg.ops hA cS (vVal a b) (vsVal s0) (vsVal s1) t ht) ⟨⟩)
    M (eff_rd ..) (eff_rd ..) (eff_rd ..) (eff_rd ..)

theorem rest_ok (cS : Ideal .f32) (M : Mem Ideal) (G : Fin 2 → Fin 1024 → Fin 1024 → EReal) (hk : KtOk M 1024) (hs : KsOk M 1024)
    (hf : FOk G M 16) (hG : ∀ b i j, i < j → G b i j = ⊤) (b : Fin 2) (d : Fin 64) (i : Fin 1024) :
    ((restP hA cS).eff M).2 .o (ix3 b d i) = oS cS M G b d i :=
  (congrArg (fun z : PUnit.{1} × Mem Ideal => z.2 .o (ix3 b d i)) (rest_eff hA cS M)).trans
    (tiles_two hA cS _ _ _ M G hk hs hf hG (rest_v M) (fun d l => (rest_vs M d l).1) (fun d l => (rest_vs M d l).2) b d i)

/-! ## The penalty and the body -/

theorem tiles_f (cL : Ideal .f32) (M M1 : Mem Ideal) (hk : KtOk M 1024) (hs : KsOk M 1024) (k1 : ∀ b : Bf, b ≠ .c → M1 b = M b)
    (z : ∀ (j : Fin 1024) (l : Fin 128), M1 .c (ix2 j l) = (0 : EReal)) :
    FOk (fSpec cL M) ((iterAll 8 (fun t ht _ => penTile (F := Ideal) (A := A) Pg.ops cL uVal t ht) ⟨⟩).eff M1).2 16 := by
  refine (iterAll_eff (A := A) 8 (fun t ht _ => penTile (F := Ideal) Pg.ops cL uVal t ht) ⟨⟩
    (fun n _ M' => (∀ b : Bf, b ≠ .c → b ≠ .f → M' b = M b) ∧
      (∀ (j : Fin 1024) (l : Fin 128), M' .c (ix2 j l) = ∑ g ∈ Finset.range (2 * n), grpSum M ⟨l.val / 64, by omega⟩ j g) ∧
      FOk (fSpec cL M) M' (2 * n)) M1
    ⟨fun b hb _ => k1 b hb, z, fun g j l hg => absurd hg (by omega)⟩ ?_).2.2
  intro t ht _ M' hM
  obtain ⟨h1, h2, h3⟩ := hM
  have kt : M' .kt = M .kt := h1 _ (by decide) (by decide)
  have ksb : M' .ksb = M .ksb := h1 _ (by decide) (by decide)
  have eq : M' .q = M .q := h1 _ (by decide) (by decide)
  have ek : M' .k = M .k := h1 _ (by decide) (by decide)
  have eqs : M' .qs = M .qs := h1 _ (by decide) (by decide)
  have eks : M' .ks = M .ks := h1 _ (by decide) (by decide)
  have hk' : KtOk M' 1024 := fun j l hj => by rw [kt, ek]; exact hk j l hj
  have hs' : KsOk M' 1024 := fun j l hj => by rw [ksb, eks]; exact hs j l hj
  refine ⟨fun b hb hf => ((keeps_penTile hb hf ..).of M').trans (h1 b hb hf), fun j l => ?_,
    penTile_f cL t ht M M' hk' hs' eq ek eqs eks h2 h3⟩
  rw [penTile_c cL t ht M' hk' hs', h2]
  have e : ∀ g, grpSum M' ⟨l.val / 64, by omega⟩ j g = grpSum M ⟨l.val / 64, by omega⟩ j g := fun g => by
    unfold grpSum
    split
    · exact Finset.sum_congr rfl fun x _ => score_congr eq ek eqs eks _ _ _
    · rfl
  rw [e, e, show 2 * (t + 1) = 2 * t + 1 + 1 by omega, Finset.sum_range_succ, Finset.sum_range_succ]

theorem penalty_f (cL : Ideal .f32) (M : Mem Ideal) (hk : KtOk M 1024) (hs : KsOk M 1024) :
    FOk (fSpec cL M) ((penaltyP (F := Ideal) (A := A) Pg.ops cL).eff M).2 16 := by
  have e : ((penaltyP (F := Ideal) (A := A) Pg.ops cL).eff M).2 .f =
      ((iterAll 8 (fun t ht _ => penTile (F := Ideal) (A := A) Pg.ops cL uVal t ht) ⟨⟩).eff (cleared M)).2 .f := by
    refine (congrFun (eff_clear _ _ M) Bf.f).trans ?_
    exact (Keeps.iterAll _ _ _ fun _ _ _ => keeps_sel (by decide) ..).of _
  unfold FOk
  rw [e]
  exact tiles_f cL M (cleared M) hk hs (fun b hb => put_ne _ _ hb) (cleared_c M)

theorem fSpec_congr (cL : Ideal .f32) {M M' : Mem Ideal} (h1 : M' .q = M .q) (h2 : M' .k = M .k) (h3 : M' .qs = M .qs) (h4 : M' .ks = M .ks) :
    fSpec cL M' = fSpec cL M := by
  funext b i j
  unfold fSpec before scN
  simp only [score_congr h1 h2 h3 h4]

theorem fSpec_top (cL : Ideal .f32) (M : Mem Ideal) (b : Fin 2) (i j : Fin 1024) (h : i < j) : fSpec cL M b i j = ⊤ :=
  if_neg (by have : i.val < j.val := h; omega)

/-- What the body does: at the first point the identity and the penalty come from the inputs, at a later point they are held. -/
theorem body_ok (cL cS : Ideal .f32) (i : grid0.Coords) (M : Mem Ideal) (G : Fin 2 → Fin 1024 → Fin 1024 → EReal)
    (h : (isFirst i = 1#1 ∧ G = fSpec cL M) ∨ (isFirst i ≠ 1#1 ∧ EyeOk M ∧ FOk G M 16 ∧ ∀ b i j, i < j → G b i j = ⊤)) :
    (EyeOk ((bodyP (F := Ideal) Pg.ops hA cL cS i).eff M).2 ∧ FOk G ((bodyP (F := Ideal) Pg.ops hA cL cS i).eff M).2 16) ∧
    ∀ (b : Fin 2) (d : Fin 64) (x : Fin 1024), ((bodyP (F := Ideal) Pg.ops hA cL cS i).eff M).2 .o (ix3 b d x) = oS cS M G b d x := by
  rw [eff_body]
  unfold EyeOk FOk
  rw [(keeps_rest hA (by decide) (by decide) (by decide) cS).of, (keeps_rest hA (by decide) (by decide) (by decide) cS).of]
  have hG : ∀ b i j, i < j → G b i j = ⊤ := by
    rcases h with h | h
    · rw [h.2]; exact fSpec_top cL M
    · exact h.2.2.2
  have k1 : ∀ b : Bf, b ≠ .eye → (((Pg.ops (A := A)).cond (isFirst i) (eyeP Pg.ops hA)).eff M).2 b = M b := fun b hb =>
    (Keeps.cond _ _ (keeps_eye hA hb)).of M
  have e1 : EyeOk (((Pg.ops (A := A)).cond (isFirst i) (eyeP Pg.ops hA)).eff M).2 := by
    rw [eff_cond]
    rcases h with h | h
    · rw [if_pos h.1]; exact eye_ok hA M
    · rw [if_neg h.1]; exact h.2.1
  generalize (((Pg.ops (A := A)).cond (isFirst i) (eyeP Pg.ops hA)).eff M).2 = M1 at k1 e1 ⊢
  obtain ⟨k2, h2⟩ := kts hA M1 e1
  generalize ((iterAll 4 (fun c hc _ => ktP (F := Ideal) (A := A) Pg.ops hA c hc) ⟨⟩).eff M1).2 = M2 at k2 h2 ⊢
  obtain ⟨k3, h3⟩ := ksbs (A := A) M2
  generalize ((iterAll 8 (fun c hc _ => ksbP (F := Ideal) (A := A) Pg.ops c hc) ⟨⟩).eff M2).2 = M3 at k3 h3 ⊢
  have k : ∀ b : Bf, b ≠ .eye → b ≠ .kt → b ≠ .ksb → M3 b = M b := fun b h h' h'' => (k3 b h'').trans ((k2 b h').trans (k1 b h))
  have hk3 : KtOk M3 1024 := fun j l hj => by rw [k3 _ (by decide), k3 .k (by decide)]; exact h2 j l hj
  have k4 : ∀ b : Bf, b ≠ .c → b ≠ .f → b ≠ .sel → (((Pg.ops (A := A)).cond (isFirst i) (penaltyP Pg.ops cL)).eff M3).2 b = M3 b :=
    fun b h h' h'' => (Keeps.cond _ _ (keeps_penalty h h' h'' cL)).of M3
  have f4 : FOk G (((Pg.ops (A := A)).cond (isFirst i) (penaltyP Pg.ops cL)).eff M3).2 16 := by
    rcases h with h | h
    · have e : ((Pg.ops (A := A)).cond (isFirst i) (penaltyP Pg.ops cL)).eff M3 = (penaltyP (Pg.ops (A := A)) cL).eff M3 := by
        rw [eff_cond, if_pos h.1]
      rw [e, h.2, ← fSpec_congr cL (k .q (by decide) (by decide) (by decide)) (k .k (by decide) (by decide) (by decide))
        (k .qs (by decide) (by decide) (by decide)) (k .ks (by decide) (by decide) (by decide))]
      exact penalty_f cL M3 hk3 h3
    · have e : ((Pg.ops (A := A)).cond (isFirst i) (penaltyP Pg.ops cL)).eff M3 = (⟨⟩, M3) := by
        rw [eff_cond, if_neg h.1]
      rw [e]
      intro g j l hg hj
      show M3 .f _ = _
      rw [k .f (by decide) (by decide) (by decide)]
      exact h.2.2.1 g j l hg hj
  generalize (((Pg.ops (A := A)).cond (isFirst i) (penaltyP Pg.ops cL)).eff M3).2 = M4 at k4 f4 ⊢
  refine ⟨⟨?_, f4⟩, fun b d x => ?_⟩
  · rw [k4 _ (by decide) (by decide) (by decide), k3 _ (by decide), k2 _ (by decide)]; exact e1
  · refine (rest_ok hA cS M4 G (fun j l hj => ?_) (fun j l hj => ?_) f4 hG b d x).trans ?_
    · rw [k4 _ (by decide) (by decide) (by decide), k4 .k (by decide) (by decide) (by decide)]; exact hk3 j l hj
    · rw [k4 _ (by decide) (by decide) (by decide), k4 .ks (by decide) (by decide) (by decide)]; exact h3 j l hj
    · have kk : ∀ b : Bf, b ≠ .c → b ≠ .f → b ≠ .sel → b ≠ .eye → b ≠ .kt → b ≠ .ksb → M4 b = M b := fun b a1 a2 a3 a4 a5 a6 =>
        (k4 b a1 a2 a3).trans (k b a4 a5 a6)
      exact oS_congr cS G (kk _ (by decide) (by decide) (by decide) (by decide) (by decide) (by decide))
        (kk _ (by decide) (by decide) (by decide) (by decide) (by decide) (by decide))
        (kk _ (by decide) (by decide) (by decide) (by decide) (by decide) (by decide))
        (kk _ (by decide) (by decide) (by decide) (by decide) (by decide) (by decide))
        (kk _ (by decide) (by decide) (by decide) (by decide) (by decide) (by decide))
        (kk _ (by decide) (by decide) (by decide) (by decide) (by decide) (by decide)) b d x

end Cert.Body
-- ==== Proof.RefSum.lean ====
/-
  The reference's two results at an element.
-/
module

public import proofs.«01_k».proof.Proof.Vals
public import proofs.«01_k».proof.Proof.Quant
public import proofs.«01_k».proof.Proof.Gen.ReferenceIdeal.Value
public import Idealize.ShloMosaic.Lib.Claim
public import Idealize.ShloMosaic.Lib.Pipeline.ValueKit

@[expose] public section

noncomputable section

namespace Cert.RefSum

open Idealize.ShloMosaic Idealize.ShloMosaic.TcCoe Idealize.ShloMosaic.WordCmp
open Cert.ReferenceIdeal Cert.ReferenceIdeal.Gen
open Cert.Quant

/-! ## The two results from the six arguments -/

/-- The codes' type -/
abbrev A4 := (⟨4, ![2, 1024, 45, 64]⟩ : Shape).Idx → EReal

/-- and the scales'. -/
abbrev A3 := (⟨3, ![2, 1024, 45]⟩ : Shape).Idx → EReal

/-- One eighth, -/
def c8 : EReal := (Scalar.ofBits .f32 0x3E000000#32 : Ideal .f32)

/-- the clamped score of key `j` for query `i` in the first head, -/
def scR (q k : A4) (qs ks : A3) (b : Fin 2) (i j : Fin 1024) : EReal :=
  Cert.Body.score i.val j.val (∑ d : Fin 64, k (ix4 b j 0 d) * q (ix4 b i 0 d)) (qs (ix3 b i 0) * c8) (ks (ix3 b j 0))

/-- the total of one key over the queries, -/
def total (q k : A4) (qs ks : A3) (b : Fin 2) (j : Fin 1024) : EReal := ∑ i : Fin 1024, scR q k qs ks b i j

/-- and over the earlier queries, -/
def befR (q k : A4) (qs ks : A3) (b : Fin 2) (i j : Fin 1024) : EReal :=
  ∑ x ∈ Finset.range i.val, if h : x < 1024 then scR q k qs ks b ⟨x, h⟩ j else 0

/-- the logits of head `h`, -/
def zR (q k : A4) (qs ks : A3) (b : Fin 2) (h : Fin 45) (i j : Fin 1024) : EReal :=
  if j.val ≤ i.val then (∑ d : Fin 64, q (ix4 b i h d) * k (ix4 b j h d)) * qs (ix3 b i h) * ks (ix3 b j h) * c8 - befR q k qs ks b i j else ⊥

/-- and the first result: the row's weights, coded and scaled, times the values. -/
def oR (q k v : A4) (qs ks : A3) (vs : (⟨3, ![2, 45, 64]⟩ : Shape).Idx → EReal) (b : Fin 2) (h : Fin 45) (d : Fin 64) (i : Fin 1024) : EReal :=
  rowR (zR q k qs ks b h i) (fun j => v (ix4 b j h d)) * vs (ix3 b h d)

theorem score_eq {i j : ℕ} {u u' v v' w w' : EReal} (h : u = u') (h' : v = v') (h'' : w = w') :
    Cert.Body.score i j u v w = Cert.Body.score i j u' v' w' := by rw [h, h', h'']

theorem sum_below (f : Fin 1024 → EReal) (n : ℕ) (hn : n ≤ 1024) :
    (∑ x : Fin 1024, (if x.val < n then (1 : EReal) else 0) * f x) = ∑ x ∈ Finset.range n, if h : x < 1024 then f ⟨x, h⟩ else 0 := by
  have e : ∀ x : Fin 1024, (if x.val < n then (1 : EReal) else 0) * f x =
      (fun y : ℕ => if y < n then (if h : y < 1024 then f ⟨y, h⟩ else 0) else 0) x.val := fun x => by
    by_cases h : x.val < n
    · simp [h]
    · simp [h]
  rw [Finset.sum_congr rfl fun x _ => e x, Fin.sum_univ_eq_sum_range (fun y : ℕ => if y < n then (if h : y < 1024 then f ⟨y, h⟩ else 0) else 0) 1024,
    ← Finset.sum_filter]
  refine Finset.sum_congr ?_ fun _ _ => rfl
  ext y
  simp only [Finset.mem_filter, Finset.mem_range]
  omega

/-! ## The body's payloads at an index -/

section
variable (x0 : Vec Ideal S2x1024x64 .fp8e4m3) (x1 : Vec Ideal S2x1024x64 .fp8e4m3) (x2 : Vec Ideal S2x1024x1 .f32) (x3 : Vec Ideal S2x1x1024 .f32)

theorem pay2_apply (b : Fin 2) (i j : Fin 1024) :
    k0_pay2 x0 x1 x2 x3 (ix3 b i j) = Cert.Body.score i.val j.val (∑ d : Fin 64, x1 (ix3 b j d) * x0 (ix3 b i d))
      (x2 (ix3 b i 0) * c8) (x3 (ix3 b 0 j)) := by
  unfold k0_pay2
  pointwise
  rw [cmpi_sgt_ofNat (by omega) (by norm_num), cmpi_slt_ofNat (by omega) (by omega)]
  unfold Cert.Body.score c8
  rw [Finset.sum_congr rfl fun x _ => mul_comm (x0 (ix3 b i x) : EReal) (x1 (ix3 b j x))]
  have e : ∀ u v w z : EReal, u * v * w * z = u * (v * z) * w := fun u v w z => by ac_rfl
  rw [e]
  by_cases h1 : 0 < j.val <;> by_cases h2 : j.val < i.val <;> simp [h1, h2, Scalar.select, IntOp.andi]

theorem pay3_apply (b : Fin 2) (j : Fin 1024) : k0_pay3 x0 x1 x2 x3 (ix2 b j) = ∑ i : Fin 1024, k0_pay2 x0 x1 x2 x3 (ix3 b i j) := by
  unfold k0_pay3
  generalize k0_pay2 x0 x1 x2 x3 = p
  pointwise

theorem pay4_apply (b : Fin 2) (i j : Fin 1024) : k0_pay4 x0 x1 x2 x3 (ix3 b i j) =
    ∑ x : Fin 1024, (if x.val < i.val then (1 : EReal) else 0) * k0_pay2 x0 x1 x2 x3 (ix3 b x j) := by
  unfold k0_pay4
  generalize k0_pay2 x0 x1 x2 x3 = p
  pointwise
  refine Finset.sum_congr rfl fun x _ => ?_
  rw [cmpi_slt_ofNat (by omega) (by omega)]
  by_cases h : x.val < i.val <;> simp [h, Scalar.select]

end

/-- The logits over given penalties. -/
def zP (f : FVec Ideal S2x1024x1024 .f32) (q k : Vec Ideal S2x1x1024x64 .fp8e4m3) (qs : Vec Ideal S1x2x1024x1 .f32) (ks : Vec Ideal S1x2x1x1024 .f32)
    (b : Fin 2) (i j : Fin 1024) : EReal :=
  if j.val ≤ i.val then (∑ d : Fin 64, q (ix4 b 0 i d) * k (ix4 b 0 j d)) * qs (ix4 0 b i 0) * ks (ix4 0 b 0 j) * c8 - f (ix3 b i j) else ⊥

section
variable (f : FVec Ideal S2x1024x1024 .f32) (q k v : Vec Ideal S2x1x1024x64 .fp8e4m3) (qs : Vec Ideal S1x2x1024x1 .f32)
  (ks : Vec Ideal S1x2x1x1024 .f32) (vs : Vec Ideal S1x2x1x64 .f32)

theorem pay6_apply (b : Fin 2) (i j : Fin 1024) : k0_pay6 f k0_pay5 q k qs ks (ix3 b i j) = prob (zP f q k qs ks b i) j := by
  have e : ∀ x : Fin 1024, Scalar.select (k0_pay5 (ix3 b i x))
      ((∑ d, q (ix4 b 0 i d) * k (ix4 b 0 x d)) * qs (ix4 0 b i 0) * ks (ix4 0 b 0 x) * Ideal.ofBits .f32 1040187392#32 - f (ix3 b i x) : EReal)
      (Ideal.ofBits .f32 4286578688#32) = zP f q k qs ks b i x := fun x => by
    have : k0_pay5 (ix3 b i x) = IntOp.cmpi .sle (BitVec.ofNat 32 x.val) (BitVec.ofNat 32 i.val) := by
      unfold k0_pay5; pointwise
    rw [this, cmpi_sle_ofNat (by omega) (by omega), bot_eq]
    unfold zP c8
    by_cases h : x.val ≤ i.val <;> simp [h, Scalar.select] <;> rfl
  generalize zP f q k qs ks b i = z at e ⊢
  generalize k0_pay5 = l at e ⊢
  pointwise [k0_pay6]
  unfold prob topS
  simp only [e]
  rw [bot_eq]

theorem pay7_apply (l : IVec S2x1024x1024 1) (b : Fin 2) (i : Fin 1024) : k0_pay7 f l q k qs ks (ix3 b i 0) =
    topS fun x => max (k0_pay6 f l q k qs ks (ix3 b i x)) (-(k0_pay6 f l q k qs ks (ix3 b i x) : EReal)) := by
  unfold k0_pay7
  generalize k0_pay6 f l q k qs ks = p
  pointwise
  rw [bot_eq]
  rfl

theorem pay1_apply (p : FVec Ideal S2x1024x1024 .f32) (a : FVec Ideal S2x1024x1 .f32) (b : Fin 2) (d : Fin 64) (i : Fin 1024) :
    k0_pay1 p a k0_pay8 k0_pay9 v vs (ix3 b d i) =
      (∑ x : Fin 1024, min ((448 : ℝ) : EReal) (max ((-448 : ℝ) : EReal) (Ideal.div (p (ix3 b i x)) (scaleR (a (ix3 b i 0))))) * v (ix4 b 0 x d)) *
        scaleR (a (ix3 b i 0)) * vs (ix4 0 b 0 d) := by
  pointwise [k0_pay1, k0_pay8, k0_pay9]
  rw [hi_eq, lo_eq, top_eq]
  rfl

end

theorem pay2_spec {x0 x1 : Vec Ideal S2x1024x64 .fp8e4m3} {x2 : Vec Ideal S2x1024x1 .f32} {x3 : Vec Ideal S2x1x1024 .f32} {q k : A4} {qs ks : A3}
    (h0 : ∀ b i d, x0 (ix3 b i d) = q (ix4 b i 0 d)) (h1 : ∀ b i d, x1 (ix3 b i d) = k (ix4 b i 0 d))
    (h2 : ∀ b i, x2 (ix3 b i 0) = qs (ix3 b i 0)) (h3 : ∀ b j, x3 (ix3 b 0 j) = ks (ix3 b j 0)) (b : Fin 2) (i j : Fin 1024) :
    k0_pay2 x0 x1 x2 x3 (ix3 b i j) = scR q k qs ks b i j := by
  rw [pay2_apply]
  unfold scR
  exact score_eq (Finset.sum_congr rfl fun d _ => by rw [h0, h1]) (by rw [h2]) (by rw [h3])

theorem pay3_spec {x0 x1 : Vec Ideal S2x1024x64 .fp8e4m3} {x2 : Vec Ideal S2x1024x1 .f32} {x3 : Vec Ideal S2x1x1024 .f32} {q k : A4} {qs ks : A3}
    (h0 : ∀ b i d, x0 (ix3 b i d) = q (ix4 b i 0 d)) (h1 : ∀ b i d, x1 (ix3 b i d) = k (ix4 b i 0 d))
    (h2 : ∀ b i, x2 (ix3 b i 0) = qs (ix3 b i 0)) (h3 : ∀ b j, x3 (ix3 b 0 j) = ks (ix3 b j 0)) (b : Fin 2) (j : Fin 1024) :
    k0_pay3 x0 x1 x2 x3 (ix2 b j) = total q k qs ks b j := by
  rw [pay3_apply]
  exact Finset.sum_congr rfl fun i _ => pay2_spec h0 h1 h2 h3 b i j

theorem pay4_spec {x0 x1 : Vec Ideal S2x1024x64 .fp8e4m3} {x2 : Vec Ideal S2x1024x1 .f32} {x3 : Vec Ideal S2x1x1024 .f32} {q k : A4} {qs ks : A3}
    (h0 : ∀ b i d, x0 (ix3 b i d) = q (ix4 b i 0 d)) (h1 : ∀ b i d, x1 (ix3 b i d) = k (ix4 b i 0 d))
    (h2 : ∀ b i, x2 (ix3 b i 0) = qs (ix3 b i 0)) (h3 : ∀ b j, x3 (ix3 b 0 j) = ks (ix3 b j 0)) (b : Fin 2) (i j : Fin 1024) :
    k0_pay4 x0 x1 x2 x3 (ix3 b i j) = befR q k qs ks b i j := by
  rw [pay4_apply, Finset.sum_congr rfl fun x _ => congrArg (fun z : EReal => (if x.val < i.val then (1 : EReal) else 0) * z) (pay2_spec h0 h1 h2 h3 b x j)]
  exact sum_below (fun x => scR q k qs ks b x j) i.val (by omega)

theorem o_spec (f : FVec Ideal S2x1024x1024 .f32) (x0 x1 x2 : Vec Ideal S2x1x1024x64 .fp8e4m3) (x3 : Vec Ideal S1x2x1024x1 .f32)
    (x4 : Vec Ideal S1x2x1x1024 .f32) (x5 : Vec Ideal S1x2x1x64 .f32) (q k v : A4) (qs ks : A3)
    (vs : (⟨3, ![2, 45, 64]⟩ : Shape).Idx → EReal) (h : Fin 45)
    (hf : ∀ b i j, f (ix3 b i j) = befR q k qs ks b i j)
    (h0 : ∀ b i d, x0 (ix4 b 0 i d) = q (ix4 b i h d)) (h1 : ∀ b i d, x1 (ix4 b 0 i d) = k (ix4 b i h d)) (h2 : ∀ b i d, x2 (ix4 b 0 i d) = v (ix4 b i h d))
    (h3 : ∀ b i, x3 (ix4 0 b i 0) = qs (ix3 b i h)) (h4 : ∀ b i, x4 (ix4 0 b 0 i) = ks (ix3 b i h)) (h5 : ∀ b d, x5 (ix4 0 b 0 d) = vs (ix3 b h d))
    (b : Fin 2) (d : Fin 64) (i : Fin 1024) :
    k0_pay1 (k0_pay6 f k0_pay5 x0 x1 x3 x4) (k0_pay7 f k0_pay5 x0 x1 x3 x4) k0_pay8 k0_pay9 x2 x5 (ix3 b d i) = oR q k v qs ks vs b h d i := by
  have ez : zP f x0 x1 x3 x4 b i = zR q k qs ks b h i := by
    funext j
    unfold zP zR
    rw [hf, h3, h4, Finset.sum_congr rfl fun d _ => congrArg₂ (fun a b : EReal => a * b) (h0 b i d) (h1 b j d)]
  have e6 : ∀ x, k0_pay6 f k0_pay5 x0 x1 x3 x4 (ix3 b i x) = prob (zR q k qs ks b h i) x := fun x => by rw [pay6_apply, ez]
  have e7 : k0_pay7 f k0_pay5 x0 x1 x3 x4 (ix3 b i 0) =
      topS fun x => max (prob (zR q k qs ks b h i) x) (-(prob (zR q k qs ks b h i) x)) := by
    rw [pay7_apply]; exact congrArg topS (funext fun x => by rw [e6])
  rw [pay1_apply, e7]
  unfold oR rowR
  rw [h5]
  refine congrArg (· * _) (congrArg (· * _) (Finset.sum_congr rfl fun x _ => ?_))
  rw [e6, h2]

/-! ## The blocks -/

variable (m : (ℓ : Loc nD τ sig) → Buf (Elt Ideal) ℓ) (c : Dev nD)

theorem v0_at (b : Fin 2) (h : Fin 45) (i : Fin 1024) (d : Fin 64) :
    V m c main_v0 (ix4 b h i d) = m ((c : Thread nD τ).loc main_arg0) (ix4 b i h d) := by
  entry_read
  pointwise

theorem v1_at (b : Fin 2) (h : Fin 45) (i : Fin 1024) (d : Fin 64) :
    V m c main_v1 (ix4 b h i d) = m ((c : Thread nD τ).loc main_arg2) (ix4 b i h d) := by
  entry_read
  pointwise

theorem v2_at (b : Fin 2) (h : Fin 45) (i : Fin 1024) (d : Fin 64) :
    V m c main_v2 (ix4 b h i d) = m ((c : Thread nD τ).loc main_arg4) (ix4 b i h d) := by
  entry_read
  pointwise

theorem v4_at (b : Fin 2) (h : Fin 45) (i : Fin 1024) :
    V m c main_v4 (ix4 h b i 0) = m ((c : Thread nD τ).loc main_arg1) (ix3 b i h) := by
  entry_read
  pointwise

theorem v6_at (b : Fin 2) (h : Fin 45) (i : Fin 1024) :
    V m c main_v6 (ix4 h b 0 i) = m ((c : Thread nD τ).loc main_arg3) (ix3 b i h) := by
  entry_read
  pointwise

theorem v8_at (b : Fin 2) (h : Fin 45) (d : Fin 64) :
    V m c main_v8 (ix4 h b 0 d) = m ((c : Thread nD τ).loc main_arg5) (ix3 b h d) := by
  entry_read
  pointwise

theorem v10_at (b : Fin 2) (i : Fin 1024) (d : Fin 64) :
    V m c main_v10 (ix3 b i d) = m ((c : Thread nD τ).loc main_arg0) (ix4 b i 0 d) := by
  entry_read
  pointwise

theorem v12_at (b : Fin 2) (i : Fin 1024) (d : Fin 64) :
    V m c main_v12 (ix3 b i d) = m ((c : Thread nD τ).loc main_arg2) (ix4 b i 0 d) := by
  entry_read
  pointwise

theorem v15_at (b : Fin 2) (i : Fin 1024) :
    V m c main_v15 (ix3 b i 0) = m ((c : Thread nD τ).loc main_arg1) (ix3 b i 0) := by
  entry_read
  pointwise

theorem v18_at (b : Fin 2) (i : Fin 1024) :
    V m c main_v18 (ix3 b 0 i) = m ((c : Thread nD τ).loc main_arg3) (ix3 b i 0) := by
  entry_read
  pointwise

def last : Fin cfg0.N := ⟨44, by decide⟩

/-- The head of a point. -/
def hd (t : Fin cfg0.N) : Fin 45 := ⟨t.val, t.isLt⟩

theorem whole11 : (cfg0.win 11).WholeAt last := by decide +kernel

theorem idx : ∀ t : Fin cfg0.N, win0_0.index t = ![0, t.val, 0, 0] ∧ win0_1.index t = ![0, t.val, 0, 0] ∧ win0_2.index t = ![0, t.val, 0, 0] ∧
    win0_3.index t = ![t.val, 0, 0, 0] ∧ win0_4.index t = ![t.val, 0, 0, 0] ∧ win0_5.index t = ![t.val, 0, 0, 0] ∧
    win0_6.index t = ![0, 0, 0] ∧ win0_7.index t = ![0, 0, 0] ∧ win0_8.index t = ![0, 0, 0] ∧ win0_9.index t = ![0, 0, 0] ∧
    win0_10.index t = ![0, t.val, 0] := by
  decide +kernel

section
variable (t : Fin cfg0.N)

theorem b0 (b : Fin 2) (i : Fin 1024) (d : Fin 64) : iblk m c 0 t (ix4 b 0 i d) = m ((c : Thread nD τ).loc main_arg0) (ix4 b i (hd t) d) :=
  Eq.trans (by unfold hd; blk_ext [iblk, idx t]) (v0_at m c b (hd t) i d)
theorem b1 (b : Fin 2) (i : Fin 1024) (d : Fin 64) : iblk m c 1 t (ix4 b 0 i d) = m ((c : Thread nD τ).loc main_arg2) (ix4 b i (hd t) d) :=
  Eq.trans (by unfold hd; blk_ext [iblk, idx t]) (v1_at m c b (hd t) i d)
theorem b2 (b : Fin 2) (i : Fin 1024) (d : Fin 64) : iblk m c 2 t (ix4 b 0 i d) = m ((c : Thread nD τ).loc main_arg4) (ix4 b i (hd t) d) :=
  Eq.trans (by unfold hd; blk_ext [iblk, idx t]) (v2_at m c b (hd t) i d)
theorem b3 (b : Fin 2) (i : Fin 1024) : iblk m c 3 t (ix4 0 b i 0) = m ((c : Thread nD τ).loc main_arg1) (ix3 b i (hd t)) :=
  Eq.trans (by unfold hd; blk_ext [iblk, idx t]) (v4_at m c b (hd t) i)
theorem b4 (b : Fin 2) (i : Fin 1024) : iblk m c 4 t (ix4 0 b 0 i) = m ((c : Thread nD τ).loc main_arg3) (ix3 b i (hd t)) :=
  Eq.trans (by unfold hd; blk_ext [iblk, idx t]) (v6_at m c b (hd t) i)
theorem b5 (b : Fin 2) (d : Fin 64) : iblk m c 5 t (ix4 0 b 0 d) = m ((c : Thread nD τ).loc main_arg5) (ix3 b (hd t) d) :=
  Eq.trans (by unfold hd; blk_ext [iblk, idx t]) (v8_at m c b (hd t) d)
theorem b6 (b : Fin 2) (i : Fin 1024) (d : Fin 64) : iblk m c 6 t (ix3 b i d) = m ((c : Thread nD τ).loc main_arg0) (ix4 b i 0 d) :=
  Eq.trans (by blk_ext [iblk, idx t]) (v10_at m c b i d)
theorem b7 (b : Fin 2) (i : Fin 1024) (d : Fin 64) : iblk m c 7 t (ix3 b i d) = m ((c : Thread nD τ).loc main_arg2) (ix4 b i 0 d) :=
  Eq.trans (by blk_ext [iblk, idx t]) (v12_at m c b i d)
theorem b8 (b : Fin 2) (i : Fin 1024) : iblk m c 8 t (ix3 b i 0) = m ((c : Thread nD τ).loc main_arg1) (ix3 b i 0) :=
  Eq.trans (by blk_ext [iblk, idx t]) (v15_at m c b i)
theorem b9 (b : Fin 2) (i : Fin 1024) : iblk m c 9 t (ix3 b 0 i) = m ((c : Thread nD τ).loc main_arg3) (ix3 b i 0) :=
  Eq.trans (by blk_ext [iblk, idx t]) (v18_at m c b i)

end

/-- The totals of the reference. -/
theorem arr_total (b : Fin 2) (j : Fin 1024) : (dats m 0 c).arrAt 11 cfg0.N (ix2 b j) =
    total (m ((c : Thread nD τ).loc main_arg0)) (m ((c : Thread nD τ).loc main_arg2)) (m ((c : Thread nD τ).loc main_arg1))
      (m ((c : Thread nD τ).loc main_arg3)) b j := by
  refine ((dats m 0 c).arrAt_emb_eq_after_last 11 last whole11 (ix2 b j)).trans ?_
  rw [after0_11]
  frame_out
  exact pay3_spec (b6 m c last) (b7 m c last) (b8 m c last) (b9 m c last) b j

/-- The first result at an index of the array. -/
def oArr (q k v : A4) (qs ks : A3) (vs : (⟨3, ![2, 45, 64]⟩ : Shape).Idx → EReal) (x : (⟨3, ![2, 2880, 1024]⟩ : Shape).Idx) : EReal :=
  oR q k v qs ks vs (x 0) ⟨(x 1).val / 64, by have : (x 1).val < 2880 := (x 1).isLt; omega⟩ ⟨(x 1).val % 64, by omega⟩ (x 2)

theorem oArr_eq (q k v : A4) (qs ks : A3) (vs : (⟨3, ![2, 45, 64]⟩ : Shape).Idx → EReal) (x : (⟨3, ![2, 2880, 1024]⟩ : Shape).Idx)
    (b : Fin 2) (h : Fin 45) (d : Fin 64) (i : Fin 1024) (e0 : (x 0).val = b.val) (e1 : (x 1).val = 64 * h.val + d.val) (e2 : (x 2).val = i.val) :
    oArr q k v qs ks vs x = oR q k v qs ks vs b h d i := by
  unfold oArr
  congr 1
  · exact Fin.ext e0
  · exact Fin.ext (by show (x 1).val / 64 = h.val; omega)
  · exact Fin.ext (by show (x 1).val % 64 = d.val; omega)
  · exact Fin.ext e2

/-- The first result of the reference. -/
theorem arr_o : (dats m 0 c).arrAt 10 cfg0.N = oArr (m ((c : Thread nD τ).loc main_arg0)) (m ((c : Thread nD τ).loc main_arg2))
    (m ((c : Thread nD τ).loc main_arg4)) (m ((c : Thread nD τ).loc main_arg1)) (m ((c : Thread nD τ).loc main_arg3)) (m ((c : Thread nD τ).loc main_arg5)) := by
  refine (dats m 0 c).arrAt_eq_of_covers 10 _ (by decide +kernel) fun t hf y => ?_
  rw [after0_10]
  refine Eq.trans ?_ (oArr_eq _ _ _ _ _ _ (((cfg0.win 10).blk t).view.emb y) (y 0) (hd t) (y 1) (y 2) ?_ ?_ ?_).symm
  · unfold_out out0_10
    frame_out
    have e := o_spec (k0_pay4 (iblk m c 6 t) (iblk m c 7 t) (iblk m c 8 t) (iblk m c 9 t)) (iblk m c 0 t) (iblk m c 1 t) (iblk m c 2 t)
      (iblk m c 3 t) (iblk m c 4 t) (iblk m c 5 t) _ _ _ _ _ _ (hd t) (pay4_spec (b6 m c t) (b7 m c t) (b8 m c t) (b9 m c t))
      (b0 m c t) (b1 m c t) (b2 m c t) (b3 m c t) (b4 m c t) (b5 m c t) (y 0) (y 1) (y 2)
    refine Eq.trans ?_ e
    exact congrArg (k0_pay1 (F := Ideal) _ _ _ _ _ _) (eq_ix3 (show S2x64x1024.Idx from y))
  · blk_simp [idx t]
  · blk_simp [idx t]
    show t.val * 64 + _ = 64 * t.val + _
    omega
  · blk_simp [idx t]

end Cert.RefSum
-- ==== Proof.Algebraic.lean ====
/-
  The two results at the idealized kernel, and their equality with the reference's.
-/
module

public import proofs.«01_k».proof.Defs
public import proofs.«01_k».proof.Proof.Whole
public import proofs.«01_k».proof.Proof.RegionI
public import proofs.«01_k».proof.Proof.RefSum
public import Idealize.ShloMosaic.Lib.Pipeline.ArrRel

@[expose] public section

noncomputable section

namespace Cert.Algebraic

open Idealize.ShloMosaic Idealize.ShloMosaic.TcCoe Idealize.SL.Sem
open Idealize.ShloMosaic.Pipeline (RDat)
open Cert.KernelIdeal Cert.KernelIdeal.Gen
open Cert.Body Cert.RegionI Cert.Quant
open Cert.RefSum (total oR oArr oArr_eq zR scR befR c8 score_eq)

variable (m : (ℓ : Loc nD τ sig) → Buf (Elt Ideal) ℓ) (ρ : Dev nD → PrngReg) (c : Dev nD)

/-- The totals. -/
def tot : S2x1024.Idx → EReal := fun x =>
  total (m ((c : Thread nD τ).loc main_arg0)) (m ((c : Thread nD τ).loc main_arg2)) (m ((c : Thread nD τ).loc main_arg1))
    (m ((c : Thread nD τ).loc main_arg3)) (x 0) (x 1)

/-- The first result. -/
def oTot : (⟨3, ![2, 2880, 1024]⟩ : Shape).Idx → EReal :=
  oArr (m ((c : Thread nD τ).loc main_arg0)) (m ((c : Thread nD τ).loc main_arg2)) (m ((c : Thread nD τ).loc main_arg4))
    (m ((c : Thread nD τ).loc main_arg1)) (m ((c : Thread nD τ).loc main_arg3)) (m ((c : Thread nD τ).loc main_arg5))

/-- The first result's block of a head. -/
def oAt (h : Fin 45) (b : Fin 2) (d : Fin 64) (i : Fin 1024) : EReal :=
  oR (m ((c : Thread nD τ).loc main_arg0)) (m ((c : Thread nD τ).loc main_arg2)) (m ((c : Thread nD τ).loc main_arg4))
    (m ((c : Thread nD τ).loc main_arg1)) (m ((c : Thread nD τ).loc main_arg3)) (m ((c : Thread nD τ).loc main_arg5)) b h d i

/-- The scale of the logits in the base-two form -/
def cS : Ideal .f32 := Named.named κ "sm_log2e" 0x3E38AA3B#32

/-- and that of the penalties. -/
def cL : Ideal .f32 := Named.named κ "log2e" 0x3FB8AA3B#32

/-- The penalties. -/
def pen (b : Fin 2) (i j : Fin 1024) : EReal := if j.val ≤ i.val then
    befR (m ((c : Thread nD τ).loc main_arg0)) (m ((c : Thread nD τ).loc main_arg2)) (m ((c : Thread nD τ).loc main_arg1))
      (m ((c : Thread nD τ).loc main_arg3)) b i j * cL
  else ⊤

/-- The queries' codes -/
abbrev qA : Cert.RefSum.A4 := m ((c : Thread nD τ).loc main_arg0)

/-- and the keys'. -/
abbrev kA : Cert.RefSum.A4 := m ((c : Thread nD τ).loc main_arg2)

/-- The head of a point. -/
def hd (t : Fin cfg0.N) : Fin 45 := ⟨t.val, t.isLt⟩

/-- After the first point the scratch arrays hold the identity and the penalties. -/
def Inv (c : Dev nD) (n : ℕ) (M : Mem Ideal) : Prop := 1 ≤ n → EyeOk M ∧ FOk (pen m c) M 16

/-- The first point leaves the totals in the second result's window; every other point leaves the window as it finds it. Every point
    leaves its head's block in the first result's window. -/
def after (c : Dev nD) : (w : Fin 8) → Fin 45 → (Y X : (cfg0.win w).block.Idx → Elt Ideal (cfg0.win w).elt) → Prop
  | 7, t, Y, X => if t.val = 0 then X = tot m c else X = Y
  | 6, t, _, X => ∀ (b : Fin 2) (d : Fin 64) (i : Fin 1024), X (ix3 b d i) = oAt m c t b d i
  | 0, _, _, _ | 1, _, _, _ | 2, _, _, _ | 3, _, _, _ | 4, _, _, _ | 5, _, _, _ => True

/-- The run's data. -/
abbrev dat (c : Dev nD) := rdat m (Inv m) (after m) c

/-! ## The constants -/

theorem c8_eq : c8 = ((1 / 8 : ℝ) : EReal) := by
  show Ideal.ofBits .f32 0x3E000000#32 = _
  simp [Ideal.ofBits, Ideal.ieee, -EReal.coe_mul]; norm_num

theorem cL_eq : cL = (lR : EReal) := rfl

theorem cS_eq : cS = c8 * (lR : EReal) := by
  rw [c8_eq, ← EReal.coe_mul]
  rfl

theorem sub_scale (x y : EReal) : (x - y) * (lR : EReal) = x * (lR : EReal) - y * (lR : EReal) := by
  rw [sub_eq_add_neg, EReal.right_distrib_of_nonneg_of_ne_top (EReal.coe_nonneg.mpr lR_pos.le) (EReal.coe_ne_top _), EReal.neg_mul,
    ← sub_eq_add_neg]

/-- The logits in the two forms. -/
theorem logit (x a k f : EReal) (p : Prop) [Decidable p] :
    x * (a * cS) * k - (if p then f * cL else ⊤) = (if p then x * a * k * c8 - f else ⊥) * (lR : EReal) := by
  rw [cL_eq, cS_eq]
  split
  · rw [sub_scale]
    exact congrArg (· - _) (by ac_rfl)
  · rw [EReal.bot_mul_coe_of_pos lR_pos, EReal.sub_top]

/-! ## The arrays at the windows -/

theorem v0_at (b : Fin 2) (h : Fin 45) (d : Fin 64) (i : Fin 1024) :
    V m c main_v0 (ix4 b h d i) = m ((c : Thread nD τ).loc main_arg0) (ix4 b i h d) := by
  entry_read
  pointwise

theorem v1_at (b : Fin 2) (h : Fin 45) (d : Fin 64) (i : Fin 1024) :
    V m c main_v1 (ix4 b h d i) = m ((c : Thread nD τ).loc main_arg2) (ix4 b i h d) := by
  entry_read
  pointwise

theorem v2_at (b : Fin 2) (h : Fin 45) (d : Fin 64) (i : Fin 1024) :
    V m c main_v2 (ix4 b h d i) = m ((c : Thread nD τ).loc main_arg4) (ix4 b i h d) := by
  entry_read
  pointwise

theorem v3_at (b : Fin 2) (h : Fin 45) (i : Fin 1024) :
    V m c main_v3 (ix3 h b i) = m ((c : Thread nD τ).loc main_arg1) (ix3 b i h) := by
  entry_read
  pointwise

theorem v4_at (b : Fin 2) (h : Fin 45) (i : Fin 1024) :
    V m c main_v4 (ix3 h b i) = m ((c : Thread nD τ).loc main_arg3) (ix3 b i h) := by
  entry_read
  pointwise

theorem v5_at (b : Fin 2) (h : Fin 45) (d : Fin 64) :
    V m c main_v5 (ix3 h b d) = m ((c : Thread nD τ).loc main_arg5) (ix3 b h d) := by
  entry_read
  pointwise

theorem first_iff : ∀ t : Fin cfg0.N, isFirst (grid0.coords t) = 1#1 ↔ t.val = 0 := by decide +kernel

def pt : Fin cfg0.N := ⟨0, by decide⟩
def last : Fin cfg0.N := ⟨44, by decide⟩

theorem idx : ∀ t : Fin cfg0.N, win0_0.index t = ![0, t.val, 0, 0] ∧ win0_1.index t = ![0, t.val, 0, 0] ∧ win0_2.index t = ![0, t.val, 0, 0] ∧
    win0_3.index t = ![t.val, 0, 0] ∧ win0_4.index t = ![t.val, 0, 0] ∧ win0_5.index t = ![t.val, 0, 0] ∧ win0_6.index t = ![0, t.val, 0] := by
  decide +kernel

theorem whole7 : (cfg0.win 7).WholeAt last := by decide +kernel

/-! ## What a point finds in the windows -/

theorem finds_q {t : Fin cfg0.N} {Y} (h : (dat m c).Finds 0 t Y) (b : Fin 2) (d : Fin 64) (i : Fin 1024) :
    Y (ix4 b 0 d i) = m ((c : Thread nD τ).loc main_arg0) (ix4 b i (hd t) d) := by
  obtain ⟨d', rfl⟩ := ((dat m c).finds_of_fetch (fetch0_0 t) Y).1 h
  refine Eq.trans ?_ (v0_at m c b (hd t) d i)
  show iblk m c 0 t (ix4 b 0 d i) = _
  unfold hd
  blk_ext [iblk, idx t]

theorem finds_k {t : Fin cfg0.N} {Y} (h : (dat m c).Finds 1 t Y) (b : Fin 2) (d : Fin 64) (i : Fin 1024) :
    Y (ix4 b 0 d i) = m ((c : Thread nD τ).loc main_arg2) (ix4 b i (hd t) d) := by
  obtain ⟨d', rfl⟩ := ((dat m c).finds_of_fetch (fetch0_1 t) Y).1 h
  refine Eq.trans ?_ (v1_at m c b (hd t) d i)
  show iblk m c 1 t (ix4 b 0 d i) = _
  unfold hd
  blk_ext [iblk, idx t]

theorem finds_v {t : Fin cfg0.N} {Y} (h : (dat m c).Finds 2 t Y) (b : Fin 2) (d : Fin 64) (i : Fin 1024) :
    Y (ix4 b 0 d i) = m ((c : Thread nD τ).loc main_arg4) (ix4 b i (hd t) d) := by
  obtain ⟨d', rfl⟩ := ((dat m c).finds_of_fetch (fetch0_2 t) Y).1 h
  refine Eq.trans ?_ (v2_at m c b (hd t) d i)
  show iblk m c 2 t (ix4 b 0 d i) = _
  unfold hd
  blk_ext [iblk, idx t]

theorem finds_qs {t : Fin cfg0.N} {Y} (h : (dat m c).Finds 3 t Y) (b : Fin 2) (i : Fin 1024) :
    Y (ix3 0 b i) = m ((c : Thread nD τ).loc main_arg1) (ix3 b i (hd t)) := by
  obtain ⟨d', rfl⟩ := ((dat m c).finds_of_fetch (fetch0_3 t) Y).1 h
  refine Eq.trans ?_ (v3_at m c b (hd t) i)
  show iblk m c 3 t (ix3 0 b i) = _
  unfold hd
  blk_ext [iblk, idx t]

theorem finds_ks {t : Fin cfg0.N} {Y} (h : (dat m c).Finds 4 t Y) (b : Fin 2) (i : Fin 1024) :
    Y (ix3 0 b i) = m ((c : Thread nD τ).loc main_arg3) (ix3 b i (hd t)) := by
  obtain ⟨d', rfl⟩ := ((dat m c).finds_of_fetch (fetch0_4 t) Y).1 h
  refine Eq.trans ?_ (v4_at m c b (hd t) i)
  show iblk m c 4 t (ix3 0 b i) = _
  unfold hd
  blk_ext [iblk, idx t]

theorem finds_vs {t : Fin cfg0.N} {Y} (h : (dat m c).Finds 5 t Y) (b : Fin 2) (d : Fin 64) :
    Y (ix3 0 b d) = m ((c : Thread nD τ).loc main_arg5) (ix3 b (hd t) d) := by
  obtain ⟨d', rfl⟩ := ((dat m c).finds_of_fetch (fetch0_5 t) Y).1 h
  refine Eq.trans ?_ (v5_at m c b (hd t) d)
  show iblk m c 5 t (ix3 0 b d) = _
  unfold hd
  blk_ext [iblk, idx t]

section
variable {t : Fin cfg0.N} {Y : ∀ w : Fin cfg0.W, (cfg0.win w).block.Idx → Elt Ideal (cfg0.win w).elt} (M : Mem Ideal)
  (hY : ∀ w, (dat m c).Finds w t (Y w))
include hY

theorem dot_found (b : Fin 2) (i j : Fin 1024) : dotAt (asm Y M) b i j = ∑ d : Fin 64,
    kA m c (ix4 b j (hd t) d) * qA m c (ix4 b i (hd t) d) := by
  unfold dotAt
  exact Finset.sum_congr (M := EReal) rfl fun d _ =>
    congrArg₂ (fun x y : EReal => x * y) (finds_k m c (hY 1) b d j) (finds_q m c (hY 0) b d i)

theorem sc_found (h0 : t.val = 0) (b : Fin 2) (i j : Fin 1024) : scAt (asm Y M) b i j =
    scR (m ((c : Thread nD τ).loc main_arg0)) (m ((c : Thread nD τ).loc main_arg2)) (m ((c : Thread nD τ).loc main_arg1))
      (m ((c : Thread nD τ).loc main_arg3)) b i j := by
  have e : hd t = 0 := Fin.ext h0
  unfold scAt scR
  refine score_eq ((dot_found m c M hY b i j).trans (by rw [e])) ?_ ?_
  · exact congrArg (fun x : EReal => x * _) ((finds_qs m c (hY 3) b i).trans (by rw [e]))
  · exact (finds_ks m c (hY 4) b j).trans (by rw [e])

theorem pen_found (h0 : t.val = 0) : pen m c = fSpec cL (asm Y M) := by
  funext b i j
  unfold pen fSpec
  have e : befR (m ((c : Thread nD τ).loc main_arg0)) (m ((c : Thread nD τ).loc main_arg2)) (m ((c : Thread nD τ).loc main_arg1))
      (m ((c : Thread nD τ).loc main_arg3)) b i j = before (asm Y M) b i j := by
    unfold befR before scN
    exact Finset.sum_congr (M := EReal) rfl fun x _ => by
      split
      · exact (sc_found m c M hY h0 b _ j).symm
      · rfl
  rw [e]

theorem o_found (b : Fin 2) (d : Fin 64) (i : Fin 1024) : oS cS (asm Y M) (pen m c) b d i = oAt m c (hd t) b d i := by
  have ez : (fun j => zS cS (asm Y M) (pen m c) b i j) = fun j =>
      zR (m ((c : Thread nD τ).loc main_arg0)) (m ((c : Thread nD τ).loc main_arg2)) (m ((c : Thread nD τ).loc main_arg1))
        (m ((c : Thread nD τ).loc main_arg3)) b (hd t) i j * (lR : EReal) := by
    funext j
    unfold zS pen zR
    refine Eq.trans ?_ (logit _ _ _ _ _)
    refine congrArg (fun x : EReal => x - _) (congrArg₂ (fun x y : EReal => x * y) (congrArg₂ (fun x y : EReal => x * y) ?_ ?_) ?_)
    · exact (dot_found m c M hY b i j).trans (Finset.sum_congr (M := EReal) rfl fun d _ => mul_comm (G := EReal) _ _)
    · exact congrArg (fun x : EReal => x * _) (finds_qs m c (hY 3) b i)
    · exact finds_ks m c (hY 4) b j
  unfold oS oAt oR
  rw [ez, row_eq]
  refine congrArg₂ (fun x y : EReal => x * y) (congrArg (rowR _) (funext fun j => ?_)) ?_
  · exact finds_v m c (hY 2) b d j
  · exact finds_vs m c (hY 5) b d

end

theorem step_first (t : Fin cfg0.N) (hi : isFirst (grid0.coords t) = 1#1) (M : Mem Ideal) (b : Fin 2) (j : Fin 1024) :
    step t M .sel (ix2 b j) = ∑ i : Fin 1024, scAt M b i j := by
  unfold step pgAt
  exact body_first (bufsAt_whole t) _ _ (grid0.coords t) hi M b j

theorem step_later (t : Fin cfg0.N) (hi : isFirst (grid0.coords t) ≠ 1#1) (M : Mem Ideal) : step t M .sel = M .sel := by
  unfold step pgAt
  exact body_later (bufsAt_whole t) _ _ (grid0.coords t) hi M

theorem step_eq (t : Fin cfg0.N) (M : Mem Ideal) :
    step t M = ((bodyP (F := Ideal) Pg.ops (bufsAt_whole t) cL cS (grid0.coords t)).eff M).2 := by
  unfold step pgAt cL cS
  rfl

theorem step_o (t : Fin cfg0.N) (M : Mem Ideal) (G : Fin 2 → Fin 1024 → Fin 1024 → EReal)
    (h : (isFirst (grid0.coords t) = 1#1 ∧ G = fSpec cL M) ∨
      (isFirst (grid0.coords t) ≠ 1#1 ∧ EyeOk M ∧ FOk G M 16 ∧ ∀ b i j, i < j → G b i j = ⊤)) :
    (EyeOk (step t M) ∧ FOk G (step t M) 16) ∧ ∀ (b : Fin 2) (d : Fin 64) (x : Fin 1024), step t M .o (ix3 b d x) = oS cS M G b d x := by
  have e := step_eq t M
  have k := body_ok (bufsAt_whole t) cL cS (grid0.coords t) M G h
  generalize step t M = M' at e ⊢
  rw [← e] at k
  exact k

/-- The body does to the second result's window what the data say, -/
theorem step_sel (t : Fin cfg0.N) (Y : ∀ w : Fin cfg0.W, (cfg0.win w).block.Idx → Elt Ideal (cfg0.win w).elt) (M : Mem Ideal)
    (hY : ∀ w, (dat m c).Finds w t (Y w)) : if t.val = 0 then step t (asm Y M) .sel = tot m c else step t (asm Y M) .sel = Y 7 := by
  split
  · rename_i h0
    funext x
    rw [eq_ix2 x]
    refine (step_first t ((first_iff t).2 h0) (asm Y M) (x 0) (x 1)).trans ?_
    show (_ : EReal) = total _ _ _ _ (x 0) (x 1)
    exact Finset.sum_congr (M := EReal) rfl fun i _ => sc_found m c M hY h0 (x 0) i (x 1)
  · rename_i h0
    exact step_later t (fun h => h0 ((first_iff t).1 h)) (asm Y M)

/-- to the first's, and to the scratch arrays. -/
theorem step_all (t : Fin cfg0.N) (Y : ∀ w : Fin cfg0.W, (cfg0.win w).block.Idx → Elt Ideal (cfg0.win w).elt) (M : Mem Ideal)
    (hY : ∀ w, (dat m c).Finds w t (Y w)) (hI : Inv m c t.val (asm Y M)) : Inv m c (t.val + 1) (step t (asm Y M)) ∧
      ∀ (b : Fin 2) (d : Fin 64) (i : Fin 1024), step t (asm Y M) .o (ix3 b d i) = oAt m c (hd t) b d i := by
  have h := step_o t (asm Y M) (pen m c) (by
    by_cases h0 : t.val = 0
    · exact .inl ⟨(first_iff t).2 h0, pen_found m c M hY h0⟩
    · refine .inr ⟨fun h => h0 ((first_iff t).1 h), (hI (by omega)).1, (hI (by omega)).2, fun b i j hij => ?_⟩
      unfold pen
      exact if_neg (by have : i.val < j.val := hij; omega))
  exact ⟨fun _ => h.1, fun b d i => (h.2 b d i).trans (o_found m c M hY b d i)⟩

theorem inv_scratch (c : Dev nD) (n : ℕ) (M M' : Mem Ideal) (h : Inv m c n M) (e : ∀ b, isScratch b = true → M b = M' b) : Inv m c n M' := by
  intro hn
  obtain ⟨h1, h2⟩ := h hn
  unfold EyeOk FOk at *
  rw [e .eye rfl] at h1
  rw [e .f rfl] at h2
  exact ⟨h1, h2⟩

/-- The first result's array: every head's block. -/
theorem arr_o {G} (hG : (dat m c).ArrAt 6 cfg0.N G) : G = oTot m c := by
  obtain ⟨X, hX, hA⟩ := RDat.ArrAt.exists_exact hG
  have ha := hA (Function.update (fun _ _ _ => Classical.arbitrary _) 6 X) fun u _ _ => congrFun (Function.update_self ..) u
  rw [ha]
  refine Pipeline.Dat.arrAt_eq_of_covers _ 6 _ (by decide +kernel) fun t hf y => ?_
  rw [RDat.withAfter_after, Function.update_self]
  obtain ⟨Y, _, h⟩ := hX t t.isLt hf
  refine Eq.trans ?_ (oArr_eq _ _ _ _ _ _ (((cfg0.win 6).blk t).view.emb y) (y 0) (hd t) (y 1) (y 2) ?_ ?_ ?_).symm
  · refine Eq.trans ?_ (h (y 0) (y 1) (y 2))
    exact congrArg (X t) (eq_ix3 (show S2x64x1024.Idx from y))
  · blk_simp [idx t]
  · blk_simp [idx t]
    show t.val * 64 + _ = 64 * t.val + _
    omega
  · blk_simp [idx t]

/-- So the window holds the totals after every point. -/
theorem leaves : ∀ (n : ℕ) (hn : n < cfg0.N) X, (dat m c).Leaves 7 ⟨n, hn⟩ X → X = tot m c := by
  intro n
  induction n with
  | zero => exact fun hn X ⟨Y, _, h⟩ => (if_pos (α := Prop) (c := (0 : ℕ) = 0) (e := X = Y) rfl).mp h
  | succ n ih =>
    intro hn X ⟨Y, hY, h⟩
    have h' : X = Y := (if_neg (α := Prop) (c := n + 1 = 0) (t := X = tot m c) (by omega)).mp h
    have hf : (cfg0.win 7).flush ⟨n, Nat.lt_of_succ_lt hn⟩ ≠ true := fun e => by
      have := (flush0_7 _).1 e
      have h45 : n + 1 < 45 := hn
      have : n % 45 = 44 := this
      omega
    have := (((dat m c).finds_of_pos (w := 7) (t := ⟨n + 1, hn⟩) rfl (by simp) Y).1 hY).resolve_left hf
    exact h'.trans (ih _ Y this)

/-- The run: the two results as stated, the arguments end unchanged. -/
theorem run_tot : θ_run defs (onTc (τ := τ) (main (F := Ideal))) ⟨m, fun _ => 0, ρ⟩ (fun r => ∀ c : Dev nD,
      r.2.mem ((c.tc : Thread nD τ).loc main_v6_0) = oTot m c
      ∧ r.2.mem ((c.tc : Thread nD τ).loc main_v6_1) = tot m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨arr_o m c ((h.1 c).1 6), by
        obtain ⟨X, hX, hG⟩ := RDat.ArrAt.emb_eq_of_wholeAt ((h.1 c).1 7) whole7
        funext x
        rw [← leaves m c 44 (by decide) X hX]
        exact hG x,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩)
    (run m ρ (Inv m) (after m) (fun _ _ h => absurd h (by decide)) (inv_scratch m)
      (fun c t Y M hY hI => ⟨(step_all m c t Y M hY hI).1, fun
        | 0 | 1 | 2 | 3 | 4 | 5 => trivial
        | 6 => (step_all m c t Y M hY hI).2
        | 7 => step_sel m c t Y M hY⟩))

/-- Both programs leave the same two results. -/
theorem algebraic : Cert.algebraic_KernelIdeal_ReferenceIdeal (hKernelIdeal := Cert.KernelIdeal.Gen.facts)
    (hReferenceIdeal := Cert.ReferenceIdeal.Gen.facts) := fun m g m' g' _ ha =>
  ⟨oTot m, tot m, run_tot m g, (θ_run _ _ _).mono (fun r h c => ⟨(h c).1.trans (by
      have e := Cert.RefSum.arr_o m' c
      rw [(ha c).1, (ha c).2.1, (ha c).2.2.1, (ha c).2.2.2.1, (ha c).2.2.2.2.1, (ha c).2.2.2.2.2] at e
      exact e), (h c).2.1.trans (by
      funext x
      have e := Cert.RefSum.arr_total m' c (x 0) (x 1)
      rw [(ha c).1, (ha c).2.1, (ha c).2.2.1, (ha c).2.2.2.1, ← eq_ix2 x] at e
      exact e), (h c).2.2⟩) (Cert.ReferenceIdeal.Value.run_blocks m' g')⟩

end Cert.Algebraic
-- ==== Proof.lean ====
/- The kernel at machine numbers and at extended reals, and the reference, each run to the end with arguments unchanged and
   counters at zero; the named constants of the idealized kernel are the table's; the two results
   of the idealized kernel are the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.RegionK
public import proofs.«01_k».proof.Proof.RegionI
public import proofs.«01_k».proof.Proof.Algebraic
public import Idealize.ShloMosaic.Adequacy
public import Idealize.ShloMosaic.Init

@[expose] public section

noncomputable section

namespace Cert.Proof

open Idealize.ShloMosaic

/-- The two named constants are what the table gives. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "sm_log2e" .f32 0x3E38AA3B#32 (((1 / 8) * (Real.log 2)⁻¹ : ℝ) : EReal) rfl⟩

theorem claim : Cert.Claim := ⟨Cert.Kernel.Gen.facts, Cert.KernelIdeal.Gen.facts, Cert.ReferenceIdeal.Gen.facts,
  fun m ρ _ => Cert.RegionK.quiescent m ρ, fun m ρ _ => Cert.RegionI.quiescent m ρ, fun m ρ _ => Cert.ReferenceIdeal.Gen.frame m ρ,
  preserves, Cert.Algebraic.algebraic⟩

end Cert.Proof

end
